-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_in_range_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S1024x1 : Shape := ⟨2, ![1024, 1]⟩
abbrev S1024x1024 : Shape := ⟨2, ![1024, 1024]⟩
abbrev S32x8x1024 : Shape := ⟨3, ![32, 8, 1024]⟩
abbrev S256x1024 : Shape := ⟨2, ![256, 1024]⟩
abbrev S8 : Shape := ⟨1, ![8]⟩
abbrev S1 : Shape := ⟨1, ![1]⟩
abbrev S1x1x1024 : Shape := ⟨3, ![1, 1, 1024]⟩
abbrev S1x1024 : Shape := ⟨2, ![1, 1024]⟩
abbrev S4x8x1024 : Shape := ⟨3, ![4, 8, 1024]⟩
abbrev S32x1 : Shape := ⟨2, ![32, 1]⟩
abbrev S32x1024 : Shape := ⟨2, ![32, 1024]⟩

abbrev nBuf : Space → Nat
  | .hbm => 22
  | .vmem => 5
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x1024, .bf16⟩
  | .local _ .vmem, ⟨0, _⟩ => ⟨S1024x1, .i32⟩
  | .local _ .vmem, ⟨1, _⟩ => ⟨S1024x1024, .bf16⟩
  | .local _ .vmem, ⟨2, _⟩ => ⟨S32x8x1024, .f32⟩
  | .local _ .vmem, ⟨3, _⟩ => ⟨S256x1024, .bf16⟩
  | .local _ .vmem, ⟨4, _⟩ => ⟨S256x1024, .bf16⟩
  | .local _ .smem, ⟨0, _⟩ => ⟨S1024, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v20 : BitVec 32 := Scalar.muli v2 c4_i32_10
  let v21 : BitVec 32 := Scalar.addi c0_i32 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v22 : BitVec 32 := Scalar.muli v5 c2_i32_11
  let v23 : BitVec 32 := Scalar.addi v21 v22
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_12 : BitVec 32 := 1#32
  let v24 : BitVec 32 := Scalar.muli v14 c1_i32_12
  let v25 : BitVec 32 := Scalar.addi v23 v24
  v25.toNat
def k0_dev2 (d0 : Dev nD) : Nat :=
  let c0_i32_15 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_14 : BitVec 32 := 4#32
  let v26 : BitVec 32 := Scalar.muli v15 c4_i32_14
  let v27 : BitVec 32 := Scalar.addi c0_i32_15 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_21 : BitVec 32 := 2#32
  let v34 : BitVec 32 := Scalar.muli v16 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
@[reducible] def k0_t1_loop : Scf.Loop 32 :=
  let c0_i32_23 : BitVec 32 := 0#32
  let c4_i32_24 : BitVec 32 := 4#32
  let v38 : BitVec 32 := Scalar.addi c0_i32_23 c4_i32_24
  let c1_i32_25 : BitVec 32 := 1#32
  ⟨c0_i32_23, v38, c1_i32_25⟩
def k0_off1 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off2 (k0_t1 : Fin k0_t1_loop.trips) : Fin 3 → Nat :=
  let c0_i32_1058 : BitVec 32 := 0#32
  let c0_i32_23 : BitVec 32 := 0#32
  let c1_i32_25 : BitVec 32 := 1#32
  let arg16 : BitVec 32 := Scf.iv c0_i32_23 c1_i32_25 k0_t1
  let v1276 : BitVec 32 := Scalar.addi c0_i32_1058 arg16
  let c0_i32_1060 : BitVec 32 := 0#32
  let c0_i32_1061 : BitVec 32 := 0#32
  ![v1276.toNat, 0, 0]
def k0_off3 (v1275 : BitVec 32) : Fin 2 → Nat :=
  let c0_i32_1062 : BitVec 32 := 0#32
  ![v1275.toNat, 0]

def k0_chk1 (v1275 : BitVec 32) : Prop :=
  (∀ a, (k0_off3 v1275) a + S1x1024.size a ≤ S8192x1024.size a)
theorem k0_off3_inb : ∀ (v1275 : BitVec 32) (k0_hw1 : k0_chk1 v1275), ∀ a, (k0_off3 v1275) a + S1x1024.size a ≤ S8192x1024.size a := fun v1275 k0_hw1 => k0_hw1

def k0_off4 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off5 (k0_t1 : Fin k0_t1_loop.trips) : Fin 3 → Nat :=
  let c0_i32_1064 : BitVec 32 := 0#32
  let c0_i32_23 : BitVec 32 := 0#32
  let c1_i32_25 : BitVec 32 := 1#32
  let arg16 : BitVec 32 := Scf.iv c0_i32_23 c1_i32_25 k0_t1
  let v1285 : BitVec 32 := Scalar.addi c0_i32_1064 arg16
  let c1_i32_1066 : BitVec 32 := 1#32
  let c0_i32_1067 : BitVec 32 := 0#32
  ![v1285.toNat, 1, 0]
def k0_off6 (v1284 : BitVec 32) : Fin 2 → Nat :=
  let c0_i32_1068 : BitVec 32 := 0#32
  ![v1284.toNat, 0]

def k0_chk2 (v1284 : BitVec 32) : Prop :=
  (∀ a, (k0_off6 v1284) a + S1x1024.size a ≤ S8192x1024.size a)
theorem k0_off6_inb : ∀ (v1284 : BitVec 32) (k0_hw2 : k0_chk2 v1284), ∀ a, (k0_off6 v1284) a + S1x1024.size a ≤ S8192x1024.size a := fun v1284 k0_hw2 => k0_hw2

def k0_off7 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off8 (k0_t1 : Fin k0_t1_loop.trips) : Fin 3 → Nat :=
  let c0_i32_1070 : BitVec 32 := 0#32
  let c0_i32_23 : BitVec 32 := 0#32
  let c1_i32_25 : BitVec 32 := 1#32
  let arg16 : BitVec 32 := Scf.iv c0_i32_23 c1_i32_25 k0_t1
  let v1294 : BitVec 32 := Scalar.addi c0_i32_1070 arg16
  let c2_i32_1072 : BitVec 32 := 2#32
  let c0_i32_1073 : BitVec 32 := 0#32
  ![v1294.toNat, 2, 0]
def k0_off9 (v1293 : BitVec 32) : Fin 2 → Nat :=
  let c0_i32_1074 : BitVec 32 := 0#32
  ![v1293.toNat, 0]

def k0_chk3 (v1293 : BitVec 32) : Prop :=
  (∀ a, (k0_off9 v1293) a + S1x1024.size a ≤ S8192x1024.size a)
theorem k0_off9_inb : ∀ (v1293 : BitVec 32) (k0_hw3 : k0_chk3 v1293), ∀ a, (k0_off9 v1293) a + S1x1024.size a ≤ S8192x1024.size a := fun v1293 k0_hw3 => k0_hw3

def k0_off10 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off11 (k0_t1 : Fin k0_t1_loop.trips) : Fin 3 → Nat :=
  let c0_i32_1076 : BitVec 32 := 0#32
  let c0_i32_23 : BitVec 32 := 0#32
  let c1_i32_25 : BitVec 32 := 1#32
  let arg16 : BitVec 32 := Scf.iv c0_i32_23 c1_i32_25 k0_t1
  let v1303 : BitVec 32 := Scalar.addi c0_i32_1076 arg16
  let c3_i32_1078 : BitVec 32 := 3#32
  let c0_i32_1079 : BitVec 32 := 0#32
  ![v1303.toNat, 3, 0]
def k0_off12 (v1302 : BitVec 32) : Fin 2 → Nat :=
  let c0_i32_1080 : BitVec 32 := 0#32
  ![v1302.toNat, 0]

def k0_chk4 (v1302 : BitVec 32) : Prop :=
  (∀ a, (k0_off12 v1302) a + S1x1024.size a ≤ S8192x1024.size a)
theorem k0_off12_inb : ∀ (v1302 : BitVec 32) (k0_hw4 : k0_chk4 v1302), ∀ a, (k0_off12 v1302) a + S1x1024.size a ≤ S8192x1024.size a := fun v1302 k0_hw4 => k0_hw4

def k0_off13 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off14 (k0_t1 : Fin k0_t1_loop.trips) : Fin 3 → Nat :=
  let c0_i32_1082 : BitVec 32 := 0#32
  let c0_i32_23 : BitVec 32 := 0#32
  let c1_i32_25 : BitVec 32 := 1#32
  let arg16 : BitVec 32 := Scf.iv c0_i32_23 c1_i32_25 k0_t1
  let v1312 : BitVec 32 := Scalar.addi c0_i32_1082 arg16
  let c4_i32_1084 : BitVec 32 := 4#32
  let c0_i32_1085 : BitVec 32 := 0#32
  ![v1312.toNat, 4, 0]
def k0_off15 (v1311 : BitVec 32) : Fin 2 → Nat :=
  let c0_i32_1086 : BitVec 32 := 0#32
  ![v1311.toNat, 0]

def k0_chk5 (v1311 : BitVec 32) : Prop :=
  (∀ a, (k0_off15 v1311) a + S1x1024.size a ≤ S8192x1024.size a)
theorem k0_off15_inb : ∀ (v1311 : BitVec 32) (k0_hw5 : k0_chk5 v1311), ∀ a, (k0_off15 v1311) a + S1x1024.size a ≤ S8192x1024.size a := fun v1311 k0_hw5 => k0_hw5

def k0_off16 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off17 (k0_t1 : Fin k0_t1_loop.trips) : Fin 3 → Nat :=
  let c0_i32_1088 : BitVec 32 := 0#32
  let c0_i32_23 : BitVec 32 := 0#32
  let c1_i32_25 : BitVec 32 := 1#32
  let arg16 : BitVec 32 := Scf.iv c0_i32_23 c1_i32_25 k0_t1
  let v1321 : BitVec 32 := Scalar.addi c0_i32_1088 arg16
  let c5_i32_1090 : BitVec 32 := 5#32
  let c0_i32_1091 : BitVec 32 := 0#32
  ![v1321.toNat, 5, 0]
def k0_off18 (v1320 : BitVec 32) : Fin 2 → Nat :=
  let c0_i32_1092 : BitVec 32 := 0#32
  ![v1320.toNat, 0]

def k0_chk6 (v1320 : BitVec 32) : Prop :=
  (∀ a, (k0_off18 v1320) a + S1x1024.size a ≤ S8192x1024.size a)
theorem k0_off18_inb : ∀ (v1320 : BitVec 32) (k0_hw6 : k0_chk6 v1320), ∀ a, (k0_off18 v1320) a + S1x1024.size a ≤ S8192x1024.size a := fun v1320 k0_hw6 => k0_hw6

def k0_off19 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off20 (k0_t1 : Fin k0_t1_loop.trips) : Fin 3 → Nat :=
  let c0_i32_1094 : BitVec 32 := 0#32
  let c0_i32_23 : BitVec 32 := 0#32
  let c1_i32_25 : BitVec 32 := 1#32
  let arg16 : BitVec 32 := Scf.iv c0_i32_23 c1_i32_25 k0_t1
  let v1330 : BitVec 32 := Scalar.addi c0_i32_1094 arg16
  let c6_i32_1096 : BitVec 32 := 6#32
  let c0_i32_1097 : BitVec 32 := 0#32
  ![v1330.toNat, 6, 0]
def k0_off21 (v1329 : BitVec 32) : Fin 2 → Nat :=
  let c0_i32_1098 : BitVec 32 := 0#32
  ![v1329.toNat, 0]

def k0_chk7 (v1329 : BitVec 32) : Prop :=
  (∀ a, (k0_off21 v1329) a + S1x1024.size a ≤ S8192x1024.size a)
theorem k0_off21_inb : ∀ (v1329 : BitVec 32) (k0_hw7 : k0_chk7 v1329), ∀ a, (k0_off21 v1329) a + S1x1024.size a ≤ S8192x1024.size a := fun v1329 k0_hw7 => k0_hw7

def k0_off22 (d0 : Dev nD) (k0_t1 : Fin k0_t1_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c0_i32_1055 : BitVec 32 := 0#32
  let v1270 : BitVec 32 := Scalar.addi v17 c0_i32_1055
  let c0_i32_23 : BitVec 32 := 0#32
  let c1_i32_25 : BitVec 32 := 1#32
  let arg16 : BitVec 32 := Scf.iv c0_i32_23 c1_i32_25 k0_t1
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off23 (k0_t1 : Fin k0_t1_loop.trips) : Fin 3 → Nat :=
  let c0_i32_1100 : BitVec 32 := 0#32
  let c0_i32_23 : BitVec 32 := 0#32
  let c1_i32_25 : BitVec 32 := 1#32
  let arg16 : BitVec 32 := Scf.iv c0_i32_23 c1_i32_25 k0_t1
  let v1339 : BitVec 32 := Scalar.addi c0_i32_1100 arg16
  let c7_i32_1102 : BitVec 32 := 7#32
  let c0_i32_1103 : BitVec 32 := 0#32
  ![v1339.toNat, 7, 0]
def k0_off24 (v1338 : BitVec 32) : Fin 2 → Nat :=
  let c0_i32_1104 : BitVec 32 := 0#32
  ![v1338.toNat, 0]

def k0_chk8 (v1338 : BitVec 32) : Prop :=
  (∀ a, (k0_off24 v1338) a + S1x1024.size a ≤ S8192x1024.size a)
theorem k0_off24_inb : ∀ (v1338 : BitVec 32) (k0_hw8 : k0_chk8 v1338), ∀ a, (k0_off24 v1338) a + S1x1024.size a ≤ S8192x1024.size a := fun v1338 k0_hw8 => k0_hw8

@[reducible] def k0_t2_loop : Scf.Loop 32 :=
  let c0_i32_27 : BitVec 32 := 0#32
  let c4_i32_28 : BitVec 32 := 4#32
  let v39 : BitVec 32 := Scalar.addi c0_i32_27 c4_i32_28
  let c1_i32_29 : BitVec 32 := 1#32
  ⟨c0_i32_27, v39, c1_i32_29⟩
def k0_off25 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off26 (k0_t2 : Fin k0_t2_loop.trips) : Fin 3 → Nat :=
  let c4_i32_1058 : BitVec 32 := 4#32
  let c0_i32_27 : BitVec 32 := 0#32
  let c1_i32_29 : BitVec 32 := 1#32
  let arg16 : BitVec 32 := Scf.iv c0_i32_27 c1_i32_29 k0_t2
  let v1276 : BitVec 32 := Scalar.addi c4_i32_1058 arg16
  let c0_i32_1060 : BitVec 32 := 0#32
  let c0_i32_1061 : BitVec 32 := 0#32
  ![v1276.toNat, 0, 0]
def k0_off27 (v1275 : BitVec 32) : Fin 2 → Nat :=
  let c0_i32_1062 : BitVec 32 := 0#32
  ![v1275.toNat, 0]

def k0_chk9 (v1275 : BitVec 32) : Prop :=
  (∀ a, (k0_off27 v1275) a + S1x1024.size a ≤ S8192x1024.size a)
theorem k0_off27_inb : ∀ (v1275 : BitVec 32) (k0_hw9 : k0_chk9 v1275), ∀ a, (k0_off27 v1275) a + S1x1024.size a ≤ S8192x1024.size a := fun v1275 k0_hw9 => k0_hw9

def k0_off28 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off29 (k0_t2 : Fin k0_t2_loop.trips) : Fin 3 → Nat :=
  let c4_i32_1064 : BitVec 32 := 4#32
  let c0_i32_27 : BitVec 32 := 0#32
  let c1_i32_29 : BitVec 32 := 1#32
  let arg16 : BitVec 32 := Scf.iv c0_i32_27 c1_i32_29 k0_t2
  let v1285 : BitVec 32 := Scalar.addi c4_i32_1064 arg16
  let c1_i32_1066 : BitVec 32 := 1#32
  let c0_i32_1067 : BitVec 32 := 0#32
  ![v1285.toNat, 1, 0]
def k0_off30 (v1284 : BitVec 32) : Fin 2 → Nat :=
  let c0_i32_1068 : BitVec 32 := 0#32
  ![v1284.toNat, 0]

def k0_chk10 (v1284 : BitVec 32) : Prop :=
  (∀ a, (k0_off30 v1284) a + S1x1024.size a ≤ S8192x1024.size a)
theorem k0_off30_inb : ∀ (v1284 : BitVec 32) (k0_hw10 : k0_chk10 v1284), ∀ a, (k0_off30 v1284) a + S1x1024.size a ≤ S8192x1024.size a := fun v1284 k0_hw10 => k0_hw10

def k0_off31 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off32 (k0_t2 : Fin k0_t2_loop.trips) : Fin 3 → Nat :=
  let c4_i32_1070 : BitVec 32 := 4#32
  let c0_i32_27 : BitVec 32 := 0#32
  let c1_i32_29 : BitVec 32 := 1#32
  let arg16 : BitVec 32 := Scf.iv c0_i32_27 c1_i32_29 k0_t2
  let v1294 : BitVec 32 := Scalar.addi c4_i32_1070 arg16
  let c2_i32_1072 : BitVec 32 := 2#32
  let c0_i32_1073 : BitVec 32 := 0#32
  ![v1294.toNat, 2, 0]
def k0_off33 (v1293 : BitVec 32) : Fin 2 → Nat :=
  let c0_i32_1074 : BitVec 32 := 0#32
  ![v1293.toNat, 0]

def k0_chk11 (v1293 : BitVec 32) : Prop :=
  (∀ a, (k0_off33 v1293) a + S1x1024.size a ≤ S8192x1024.size a)
theorem k0_off33_inb : ∀ (v1293 : BitVec 32) (k0_hw11 : k0_chk11 v1293), ∀ a, (k0_off33 v1293) a + S1x1024.size a ≤ S8192x1024.size a := fun v1293 k0_hw11 => k0_hw11

def k0_off34 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off35 (k0_t2 : Fin k0_t2_loop.trips) : Fin 3 → Nat :=
  let c4_i32_1076 : BitVec 32 := 4#32
  let c0_i32_27 : BitVec 32 := 0#32
  let c1_i32_29 : BitVec 32 := 1#32
  let arg16 : BitVec 32 := Scf.iv c0_i32_27 c1_i32_29 k0_t2
  let v1303 : BitVec 32 := Scalar.addi c4_i32_1076 arg16
  let c3_i32_1078 : BitVec 32 := 3#32
  let c0_i32_1079 : BitVec 32 := 0#32
  ![v1303.toNat, 3, 0]
def k0_off36 (v1302 : BitVec 32) : Fin 2 → Nat :=
  let c0_i32_1080 : BitVec 32 := 0#32
  ![v1302.toNat, 0]

def k0_chk12 (v1302 : BitVec 32) : Prop :=
  (∀ a, (k0_off36 v1302) a + S1x1024.size a ≤ S8192x1024.size a)
theorem k0_off36_inb : ∀ (v1302 : BitVec 32) (k0_hw12 : k0_chk12 v1302), ∀ a, (k0_off36 v1302) a + S1x1024.size a ≤ S8192x1024.size a := fun v1302 k0_hw12 => k0_hw12

def k0_off37 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off38 (k0_t2 : Fin k0_t2_loop.trips) : Fin 3 → Nat :=
  let c4_i32_1082 : BitVec 32 := 4#32
  let c0_i32_27 : BitVec 32 := 0#32
  let c1_i32_29 : BitVec 32 := 1#32
  let arg16 : BitVec 32 := Scf.iv c0_i32_27 c1_i32_29 k0_t2
  let v1312 : BitVec 32 := Scalar.addi c4_i32_1082 arg16
  let c4_i32_1084 : BitVec 32 := 4#32
  let c0_i32_1085 : BitVec 32 := 0#32
  ![v1312.toNat, 4, 0]
def k0_off39 (v1311 : BitVec 32) : Fin 2 → Nat :=
  let c0_i32_1086 : BitVec 32 := 0#32
  ![v1311.toNat, 0]

def k0_chk13 (v1311 : BitVec 32) : Prop :=
  (∀ a, (k0_off39 v1311) a + S1x1024.size a ≤ S8192x1024.size a)
theorem k0_off39_inb : ∀ (v1311 : BitVec 32) (k0_hw13 : k0_chk13 v1311), ∀ a, (k0_off39 v1311) a + S1x1024.size a ≤ S8192x1024.size a := fun v1311 k0_hw13 => k0_hw13

def k0_off40 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off41 (k0_t2 : Fin k0_t2_loop.trips) : Fin 3 → Nat :=
  let c4_i32_1088 : BitVec 32 := 4#32
  let c0_i32_27 : BitVec 32 := 0#32
  let c1_i32_29 : BitVec 32 := 1#32
  let arg16 : BitVec 32 := Scf.iv c0_i32_27 c1_i32_29 k0_t2
  let v1321 : BitVec 32 := Scalar.addi c4_i32_1088 arg16
  let c5_i32_1090 : BitVec 32 := 5#32
  let c0_i32_1091 : BitVec 32 := 0#32
  ![v1321.toNat, 5, 0]
def k0_off42 (v1320 : BitVec 32) : Fin 2 → Nat :=
  let c0_i32_1092 : BitVec 32 := 0#32
  ![v1320.toNat, 0]

def k0_chk14 (v1320 : BitVec 32) : Prop :=
  (∀ a, (k0_off42 v1320) a + S1x1024.size a ≤ S8192x1024.size a)
theorem k0_off42_inb : ∀ (v1320 : BitVec 32) (k0_hw14 : k0_chk14 v1320), ∀ a, (k0_off42 v1320) a + S1x1024.size a ≤ S8192x1024.size a := fun v1320 k0_hw14 => k0_hw14

def k0_off43 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off44 (k0_t2 : Fin k0_t2_loop.trips) : Fin 3 → Nat :=
  let c4_i32_1094 : BitVec 32 := 4#32
  let c0_i32_27 : BitVec 32 := 0#32
  let c1_i32_29 : BitVec 32 := 1#32
  let arg16 : BitVec 32 := Scf.iv c0_i32_27 c1_i32_29 k0_t2
  let v1330 : BitVec 32 := Scalar.addi c4_i32_1094 arg16
  let c6_i32_1096 : BitVec 32 := 6#32
  let c0_i32_1097 : BitVec 32 := 0#32
  ![v1330.toNat, 6, 0]
def k0_off45 (v1329 : BitVec 32) : Fin 2 → Nat :=
  let c0_i32_1098 : BitVec 32 := 0#32
  ![v1329.toNat, 0]

def k0_chk15 (v1329 : BitVec 32) : Prop :=
  (∀ a, (k0_off45 v1329) a + S1x1024.size a ≤ S8192x1024.size a)
theorem k0_off45_inb : ∀ (v1329 : BitVec 32) (k0_hw15 : k0_chk15 v1329), ∀ a, (k0_off45 v1329) a + S1x1024.size a ≤ S8192x1024.size a := fun v1329 k0_hw15 => k0_hw15

def k0_off46 (d0 : Dev nD) (k0_t2 : Fin k0_t2_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c32_i32_1055 : BitVec 32 := 32#32
  let v1270 : BitVec 32 := Scalar.addi v17 c32_i32_1055
  let c0_i32_27 : BitVec 32 := 0#32
  let c1_i32_29 : BitVec 32 := 1#32
  let arg16 : BitVec 32 := Scf.iv c0_i32_27 c1_i32_29 k0_t2
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off47 (k0_t2 : Fin k0_t2_loop.trips) : Fin 3 → Nat :=
  let c4_i32_1100 : BitVec 32 := 4#32
  let c0_i32_27 : BitVec 32 := 0#32
  let c1_i32_29 : BitVec 32 := 1#32
  let arg16 : BitVec 32 := Scf.iv c0_i32_27 c1_i32_29 k0_t2
  let v1339 : BitVec 32 := Scalar.addi c4_i32_1100 arg16
  let c7_i32_1102 : BitVec 32 := 7#32
  let c0_i32_1103 : BitVec 32 := 0#32
  ![v1339.toNat, 7, 0]
def k0_off48 (v1338 : BitVec 32) : Fin 2 → Nat :=
  let c0_i32_1104 : BitVec 32 := 0#32
  ![v1338.toNat, 0]

def k0_chk16 (v1338 : BitVec 32) : Prop :=
  (∀ a, (k0_off48 v1338) a + S1x1024.size a ≤ S8192x1024.size a)
theorem k0_off48_inb : ∀ (v1338 : BitVec 32) (k0_hw16 : k0_chk16 v1338), ∀ a, (k0_off48 v1338) a + S1x1024.size a ≤ S8192x1024.size a := fun v1338 k0_hw16 => k0_hw16

def k0_off49 (d0 : Dev nD) (c0_i32_38 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let v44 : BitVec 32 := Scalar.addi v17 c0_i32_38
  let v45 : Index := Scalar.indexCast v44
  let c0 : Index := 0#32
  ![v45.toNat, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v67 : BitVec 32 := Scalar.muli v2 c4_i32_48
  let v68 : BitVec 32 := Scalar.addi c0_i32_49 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v69 : BitVec 32 := Scalar.muli v5 c2_i32_50
  let v70 : BitVec 32 := Scalar.addi v68 v69
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_51 : BitVec 32 := 1#32
  let v71 : BitVec 32 := Scalar.muli v14 c1_i32_51
  let v72 : BitVec 32 := Scalar.addi v70 v71
  v72.toNat
@[reducible] def k0_t3_loop : Scf.Loop 32 :=
  let c0_i32_56 : BitVec 32 := 0#32
  let c4_i32_57 : BitVec 32 := 4#32
  let v79 : BitVec 32 := Scalar.addi c0_i32_56 c4_i32_57
  let c1_i32_58 : BitVec 32 := 1#32
  ⟨c0_i32_56, v79, c1_i32_58⟩
def k0_off50 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off51 (k0_t3 : Fin k0_t3_loop.trips) : Fin 3 → Nat :=
  let c8_i32_1058 : BitVec 32 := 8#32
  let c0_i32_56 : BitVec 32 := 0#32
  let c1_i32_58 : BitVec 32 := 1#32
  let arg16 : BitVec 32 := Scf.iv c0_i32_56 c1_i32_58 k0_t3
  let v1276 : BitVec 32 := Scalar.addi c8_i32_1058 arg16
  let c0_i32_1060 : BitVec 32 := 0#32
  let c0_i32_1061 : BitVec 32 := 0#32
  ![v1276.toNat, 0, 0]
def k0_off52 (v1275 : BitVec 32) : Fin 2 → Nat :=
  let c0_i32_1062 : BitVec 32 := 0#32
  ![v1275.toNat, 0]

def k0_chk17 (v1275 : BitVec 32) : Prop :=
  (∀ a, (k0_off52 v1275) a + S1x1024.size a ≤ S8192x1024.size a)
theorem k0_off52_inb : ∀ (v1275 : BitVec 32) (k0_hw17 : k0_chk17 v1275), ∀ a, (k0_off52 v1275) a + S1x1024.size a ≤ S8192x1024.size a := fun v1275 k0_hw17 => k0_hw17

def k0_off53 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off54 (k0_t3 : Fin k0_t3_loop.trips) : Fin 3 → Nat :=
  let c8_i32_1064 : BitVec 32 := 8#32
  let c0_i32_56 : BitVec 32 := 0#32
  let c1_i32_58 : BitVec 32 := 1#32
  let arg16 : BitVec 32 := Scf.iv c0_i32_56 c1_i32_58 k0_t3
  let v1285 : BitVec 32 := Scalar.addi c8_i32_1064 arg16
  let c1_i32_1066 : BitVec 32 := 1#32
  let c0_i32_1067 : BitVec 32 := 0#32
  ![v1285.toNat, 1, 0]
def k0_off55 (v1284 : BitVec 32) : Fin 2 → Nat :=
  let c0_i32_1068 : BitVec 32 := 0#32
  ![v1284.toNat, 0]

def k0_chk18 (v1284 : BitVec 32) : Prop :=
  (∀ a, (k0_off55 v1284) a + S1x1024.size a ≤ S8192x1024.size a)
theorem k0_off55_inb : ∀ (v1284 : BitVec 32) (k0_hw18 : k0_chk18 v1284), ∀ a, (k0_off55 v1284) a + S1x1024.size a ≤ S8192x1024.size a := fun v1284 k0_hw18 => k0_hw18

def k0_off56 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off57 (k0_t3 : Fin k0_t3_loop.trips) : Fin 3 → Nat :=
  let c8_i32_1070 : BitVec 32 := 8#32
  let c0_i32_56 : BitVec 32 := 0#32
  let c1_i32_58 : BitVec 32 := 1#32
  let arg16 : BitVec 32 := Scf.iv c0_i32_56 c1_i32_58 k0_t3
  let v1294 : BitVec 32 := Scalar.addi c8_i32_1070 arg16
  let c2_i32_1072 : BitVec 32 := 2#32
  let c0_i32_1073 : BitVec 32 := 0#32
  ![v1294.toNat, 2, 0]
def k0_off58 (v1293 : BitVec 32) : Fin 2 → Nat :=
  let c0_i32_1074 : BitVec 32 := 0#32
  ![v1293.toNat, 0]

def k0_chk19 (v1293 : BitVec 32) : Prop :=
  (∀ a, (k0_off58 v1293) a + S1x1024.size a ≤ S8192x1024.size a)
theorem k0_off58_inb : ∀ (v1293 : BitVec 32) (k0_hw19 : k0_chk19 v1293), ∀ a, (k0_off58 v1293) a + S1x1024.size a ≤ S8192x1024.size a := fun v1293 k0_hw19 => k0_hw19

def k0_off59 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off60 (k0_t3 : Fin k0_t3_loop.trips) : Fin 3 → Nat :=
  let c8_i32_1076 : BitVec 32 := 8#32
  let c0_i32_56 : BitVec 32 := 0#32
  let c1_i32_58 : BitVec 32 := 1#32
  let arg16 : BitVec 32 := Scf.iv c0_i32_56 c1_i32_58 k0_t3
  let v1303 : BitVec 32 := Scalar.addi c8_i32_1076 arg16
  let c3_i32_1078 : BitVec 32 := 3#32
  let c0_i32_1079 : BitVec 32 := 0#32
  ![v1303.toNat, 3, 0]
def k0_off61 (v1302 : BitVec 32) : Fin 2 → Nat :=
  let c0_i32_1080 : BitVec 32 := 0#32
  ![v1302.toNat, 0]

def k0_chk20 (v1302 : BitVec 32) : Prop :=
  (∀ a, (k0_off61 v1302) a + S1x1024.size a ≤ S8192x1024.size a)
theorem k0_off61_inb : ∀ (v1302 : BitVec 32) (k0_hw20 : k0_chk20 v1302), ∀ a, (k0_off61 v1302) a + S1x1024.size a ≤ S8192x1024.size a := fun v1302 k0_hw20 => k0_hw20

def k0_off62 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off63 (k0_t3 : Fin k0_t3_loop.trips) : Fin 3 → Nat :=
  let c8_i32_1082 : BitVec 32 := 8#32
  let c0_i32_56 : BitVec 32 := 0#32
  let c1_i32_58 : BitVec 32 := 1#32
  let arg16 : BitVec 32 := Scf.iv c0_i32_56 c1_i32_58 k0_t3
  let v1312 : BitVec 32 := Scalar.addi c8_i32_1082 arg16
  let c4_i32_1084 : BitVec 32 := 4#32
  let c0_i32_1085 : BitVec 32 := 0#32
  ![v1312.toNat, 4, 0]
def k0_off64 (v1311 : BitVec 32) : Fin 2 → Nat :=
  let c0_i32_1086 : BitVec 32 := 0#32
  ![v1311.toNat, 0]

def k0_chk21 (v1311 : BitVec 32) : Prop :=
  (∀ a, (k0_off64 v1311) a + S1x1024.size a ≤ S8192x1024.size a)
theorem k0_off64_inb : ∀ (v1311 : BitVec 32) (k0_hw21 : k0_chk21 v1311), ∀ a, (k0_off64 v1311) a + S1x1024.size a ≤ S8192x1024.size a := fun v1311 k0_hw21 => k0_hw21

def k0_off65 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off66 (k0_t3 : Fin k0_t3_loop.trips) : Fin 3 → Nat :=
  let c8_i32_1088 : BitVec 32 := 8#32
  let c0_i32_56 : BitVec 32 := 0#32
  let c1_i32_58 : BitVec 32 := 1#32
  let arg16 : BitVec 32 := Scf.iv c0_i32_56 c1_i32_58 k0_t3
  let v1321 : BitVec 32 := Scalar.addi c8_i32_1088 arg16
  let c5_i32_1090 : BitVec 32 := 5#32
  let c0_i32_1091 : BitVec 32 := 0#32
  ![v1321.toNat, 5, 0]
def k0_off67 (v1320 : BitVec 32) : Fin 2 → Nat :=
  let c0_i32_1092 : BitVec 32 := 0#32
  ![v1320.toNat, 0]

def k0_chk22 (v1320 : BitVec 32) : Prop :=
  (∀ a, (k0_off67 v1320) a + S1x1024.size a ≤ S8192x1024.size a)
theorem k0_off67_inb : ∀ (v1320 : BitVec 32) (k0_hw22 : k0_chk22 v1320), ∀ a, (k0_off67 v1320) a + S1x1024.size a ≤ S8192x1024.size a := fun v1320 k0_hw22 => k0_hw22

def k0_off68 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off69 (k0_t3 : Fin k0_t3_loop.trips) : Fin 3 → Nat :=
  let c8_i32_1094 : BitVec 32 := 8#32
  let c0_i32_56 : BitVec 32 := 0#32
  let c1_i32_58 : BitVec 32 := 1#32
  let arg16 : BitVec 32 := Scf.iv c0_i32_56 c1_i32_58 k0_t3
  let v1330 : BitVec 32 := Scalar.addi c8_i32_1094 arg16
  let c6_i32_1096 : BitVec 32 := 6#32
  let c0_i32_1097 : BitVec 32 := 0#32
  ![v1330.toNat, 6, 0]
def k0_off70 (v1329 : BitVec 32) : Fin 2 → Nat :=
  let c0_i32_1098 : BitVec 32 := 0#32
  ![v1329.toNat, 0]

def k0_chk23 (v1329 : BitVec 32) : Prop :=
  (∀ a, (k0_off70 v1329) a + S1x1024.size a ≤ S8192x1024.size a)
theorem k0_off70_inb : ∀ (v1329 : BitVec 32) (k0_hw23 : k0_chk23 v1329), ∀ a, (k0_off70 v1329) a + S1x1024.size a ≤ S8192x1024.size a := fun v1329 k0_hw23 => k0_hw23

def k0_off71 (d0 : Dev nD) (k0_t3 : Fin k0_t3_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c64_i32_1055 : BitVec 32 := 64#32
  let v1270 : BitVec 32 := Scalar.addi v17 c64_i32_1055
  let c0_i32_56 : BitVec 32 := 0#32
  let c1_i32_58 : BitVec 32 := 1#32
  let arg16 : BitVec 32 := Scf.iv c0_i32_56 c1_i32_58 k0_t3
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off72 (k0_t3 : Fin k0_t3_loop.trips) : Fin 3 → Nat :=
  let c8_i32_1100 : BitVec 32 := 8#32
  let c0_i32_56 : BitVec 32 := 0#32
  let c1_i32_58 : BitVec 32 := 1#32
  let arg16 : BitVec 32 := Scf.iv c0_i32_56 c1_i32_58 k0_t3
  let v1339 : BitVec 32 := Scalar.addi c8_i32_1100 arg16
  let c7_i32_1102 : BitVec 32 := 7#32
  let c0_i32_1103 : BitVec 32 := 0#32
  ![v1339.toNat, 7, 0]
def k0_off73 (v1338 : BitVec 32) : Fin 2 → Nat :=
  let c0_i32_1104 : BitVec 32 := 0#32
  ![v1338.toNat, 0]

def k0_chk24 (v1338 : BitVec 32) : Prop :=
  (∀ a, (k0_off73 v1338) a + S1x1024.size a ≤ S8192x1024.size a)
theorem k0_off73_inb : ∀ (v1338 : BitVec 32) (k0_hw24 : k0_chk24 v1338), ∀ a, (k0_off73 v1338) a + S1x1024.size a ≤ S8192x1024.size a := fun v1338 k0_hw24 => k0_hw24

def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v107 : BitVec 32 := Scalar.muli v2 c4_i32_76
  let v108 : BitVec 32 := Scalar.addi c0_i32_77 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v109 : BitVec 32 := Scalar.muli v5 c2_i32_78
  let v110 : BitVec 32 := Scalar.addi v108 v109
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_79 : BitVec 32 := 1#32
  let v111 : BitVec 32 := Scalar.muli v14 c1_i32_79
  let v112 : BitVec 32 := Scalar.addi v110 v111
  v112.toNat
def k0_off74 (d0 : Dev nD) (c0_i32_105 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let v136 : BitVec 32 := Scalar.addi v17 c0_i32_105
  let v137 : Index := Scalar.indexCast v136
  let c0_106 : Index := 0#32
  ![v137.toNat, 0]
def k0_off75 (d0 : Dev nD) (c0_i32_108 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let v140 : BitVec 32 := Scalar.addi v17 c0_i32_108
  let c0_i32_115 : BitVec 32 := 0#32
  ![v140.toNat, 0]
def k0_dev6 (d0 : Dev nD) : Nat :=
  let c0_i32_112 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_111 : BitVec 32 := 4#32
  let v141 : BitVec 32 := Scalar.muli v15 c4_i32_111
  let v142 : BitVec 32 := Scalar.addi c0_i32_112 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v143 : BitVec 32 := Scalar.muli v5 c2_i32_113
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v145 : BitVec 32 := Scalar.muli v8 c1_i32_114
  let v146 : BitVec 32 := Scalar.addi v144 v145
  v146.toNat
def k0_dev7 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v155 : BitVec 32 := Scalar.muli v2 c4_i32_121
  let v156 : BitVec 32 := Scalar.addi c0_i32_122 v155
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_123 : BitVec 32 := 2#32
  let v157 : BitVec 32 := Scalar.muli v16 c2_i32_123
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v159 : BitVec 32 := Scalar.muli v8 c1_i32_124
  let v160 : BitVec 32 := Scalar.addi v158 v159
  v160.toNat
@[reducible] def k0_t4_loop : Scf.Loop 32 :=
  let c0_i32_127 : BitVec 32 := 0#32
  let c4_i32_128 : BitVec 32 := 4#32
  let v167 : BitVec 32 := Scalar.addi c0_i32_127 c4_i32_128
  let c1_i32_129 : BitVec 32 := 1#32
  ⟨c0_i32_127, v167, c1_i32_129⟩
def k0_off76 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off77 (k0_t4 : Fin k0_t4_loop.trips) : Fin 3 → Nat :=
  let c12_i32_1058 : BitVec 32 := 12#32
  let c0_i32_127 : BitVec 32 := 0#32
  let c1_i32_129 : BitVec 32 := 1#32
  let arg16 : BitVec 32 := Scf.iv c0_i32_127 c1_i32_129 k0_t4
  let v1276 : BitVec 32 := Scalar.addi c12_i32_1058 arg16
  let c0_i32_1060 : BitVec 32 := 0#32
  let c0_i32_1061 : BitVec 32 := 0#32
  ![v1276.toNat, 0, 0]
def k0_off78 (v1275 : BitVec 32) : Fin 2 → Nat :=
  let c0_i32_1062 : BitVec 32 := 0#32
  ![v1275.toNat, 0]

def k0_chk25 (v1275 : BitVec 32) : Prop :=
  (∀ a, (k0_off78 v1275) a + S1x1024.size a ≤ S8192x1024.size a)
theorem k0_off78_inb : ∀ (v1275 : BitVec 32) (k0_hw25 : k0_chk25 v1275), ∀ a, (k0_off78 v1275) a + S1x1024.size a ≤ S8192x1024.size a := fun v1275 k0_hw25 => k0_hw25

def k0_off79 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off80 (k0_t4 : Fin k0_t4_loop.trips) : Fin 3 → Nat :=
  let c12_i32_1064 : BitVec 32 := 12#32
  let c0_i32_127 : BitVec 32 := 0#32
  let c1_i32_129 : BitVec 32 := 1#32
  let arg16 : BitVec 32 := Scf.iv c0_i32_127 c1_i32_129 k0_t4
  let v1285 : BitVec 32 := Scalar.addi c12_i32_1064 arg16
  let c1_i32_1066 : BitVec 32 := 1#32
  let c0_i32_1067 : BitVec 32 := 0#32
  ![v1285.toNat, 1, 0]
def k0_off81 (v1284 : BitVec 32) : Fin 2 → Nat :=
  let c0_i32_1068 : BitVec 32 := 0#32
  ![v1284.toNat, 0]

def k0_chk26 (v1284 : BitVec 32) : Prop :=
  (∀ a, (k0_off81 v1284) a + S1x1024.size a ≤ S8192x1024.size a)
theorem k0_off81_inb : ∀ (v1284 : BitVec 32) (k0_hw26 : k0_chk26 v1284), ∀ a, (k0_off81 v1284) a + S1x1024.size a ≤ S8192x1024.size a := fun v1284 k0_hw26 => k0_hw26

def k0_off82 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off83 (k0_t4 : Fin k0_t4_loop.trips) : Fin 3 → Nat :=
  let c12_i32_1070 : BitVec 32 := 12#32
  let c0_i32_127 : BitVec 32 := 0#32
  let c1_i32_129 : BitVec 32 := 1#32
  let arg16 : BitVec 32 := Scf.iv c0_i32_127 c1_i32_129 k0_t4
  let v1294 : BitVec 32 := Scalar.addi c12_i32_1070 arg16
  let c2_i32_1072 : BitVec 32 := 2#32
  let c0_i32_1073 : BitVec 32 := 0#32
  ![v1294.toNat, 2, 0]
def k0_off84 (v1293 : BitVec 32) : Fin 2 → Nat :=
  let c0_i32_1074 : BitVec 32 := 0#32
  ![v1293.toNat, 0]

def k0_chk27 (v1293 : BitVec 32) : Prop :=
  (∀ a, (k0_off84 v1293) a + S1x1024.size a ≤ S8192x1024.size a)
theorem k0_off84_inb : ∀ (v1293 : BitVec 32) (k0_hw27 : k0_chk27 v1293), ∀ a, (k0_off84 v1293) a + S1x1024.size a ≤ S8192x1024.size a := fun v1293 k0_hw27 => k0_hw27

def k0_off85 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off86 (k0_t4 : Fin k0_t4_loop.trips) : Fin 3 → Nat :=
  let c12_i32_1076 : BitVec 32 := 12#32
  let c0_i32_127 : BitVec 32 := 0#32
  let c1_i32_129 : BitVec 32 := 1#32
  let arg16 : BitVec 32 := Scf.iv c0_i32_127 c1_i32_129 k0_t4
  let v1303 : BitVec 32 := Scalar.addi c12_i32_1076 arg16
  let c3_i32_1078 : BitVec 32 := 3#32
  let c0_i32_1079 : BitVec 32 := 0#32
  ![v1303.toNat, 3, 0]
def k0_off87 (v1302 : BitVec 32) : Fin 2 → Nat :=
  let c0_i32_1080 : BitVec 32 := 0#32
  ![v1302.toNat, 0]

def k0_chk28 (v1302 : BitVec 32) : Prop :=
  (∀ a, (k0_off87 v1302) a + S1x1024.size a ≤ S8192x1024.size a)
theorem k0_off87_inb : ∀ (v1302 : BitVec 32) (k0_hw28 : k0_chk28 v1302), ∀ a, (k0_off87 v1302) a + S1x1024.size a ≤ S8192x1024.size a := fun v1302 k0_hw28 => k0_hw28

def k0_off88 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off89 (k0_t4 : Fin k0_t4_loop.trips) : Fin 3 → Nat :=
  let c12_i32_1082 : BitVec 32 := 12#32
  let c0_i32_127 : BitVec 32 := 0#32
  let c1_i32_129 : BitVec 32 := 1#32
  let arg16 : BitVec 32 := Scf.iv c0_i32_127 c1_i32_129 k0_t4
  let v1312 : BitVec 32 := Scalar.addi c12_i32_1082 arg16
  let c4_i32_1084 : BitVec 32 := 4#32
  let c0_i32_1085 : BitVec 32 := 0#32
  ![v1312.toNat, 4, 0]
def k0_off90 (v1311 : BitVec 32) : Fin 2 → Nat :=
  let c0_i32_1086 : BitVec 32 := 0#32
  ![v1311.toNat, 0]

def k0_chk29 (v1311 : BitVec 32) : Prop :=
  (∀ a, (k0_off90 v1311) a + S1x1024.size a ≤ S8192x1024.size a)
theorem k0_off90_inb : ∀ (v1311 : BitVec 32) (k0_hw29 : k0_chk29 v1311), ∀ a, (k0_off90 v1311) a + S1x1024.size a ≤ S8192x1024.size a := fun v1311 k0_hw29 => k0_hw29

def k0_off91 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off92 (k0_t4 : Fin k0_t4_loop.trips) : Fin 3 → Nat :=
  let c12_i32_1088 : BitVec 32 := 12#32
  let c0_i32_127 : BitVec 32 := 0#32
  let c1_i32_129 : BitVec 32 := 1#32
  let arg16 : BitVec 32 := Scf.iv c0_i32_127 c1_i32_129 k0_t4
  let v1321 : BitVec 32 := Scalar.addi c12_i32_1088 arg16
  let c5_i32_1090 : BitVec 32 := 5#32
  let c0_i32_1091 : BitVec 32 := 0#32
  ![v1321.toNat, 5, 0]
def k0_off93 (v1320 : BitVec 32) : Fin 2 → Nat :=
  let c0_i32_1092 : BitVec 32 := 0#32
  ![v1320.toNat, 0]

def k0_chk30 (v1320 : BitVec 32) : Prop :=
  (∀ a, (k0_off93 v1320) a + S1x1024.size a ≤ S8192x1024.size a)
theorem k0_off93_inb : ∀ (v1320 : BitVec 32) (k0_hw30 : k0_chk30 v1320), ∀ a, (k0_off93 v1320) a + S1x1024.size a ≤ S8192x1024.size a := fun v1320 k0_hw30 => k0_hw30

def k0_off94 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off95 (k0_t4 : Fin k0_t4_loop.trips) : Fin 3 → Nat :=
  let c12_i32_1094 : BitVec 32 := 12#32
  let c0_i32_127 : BitVec 32 := 0#32
  let c1_i32_129 : BitVec 32 := 1#32
  let arg16 : BitVec 32 := Scf.iv c0_i32_127 c1_i32_129 k0_t4
  let v1330 : BitVec 32 := Scalar.addi c12_i32_1094 arg16
  let c6_i32_1096 : BitVec 32 := 6#32
  let c0_i32_1097 : BitVec 32 := 0#32
  ![v1330.toNat, 6, 0]
def k0_off96 (v1329 : BitVec 32) : Fin 2 → Nat :=
  let c0_i32_1098 : BitVec 32 := 0#32
  ![v1329.toNat, 0]

def k0_chk31 (v1329 : BitVec 32) : Prop :=
  (∀ a, (k0_off96 v1329) a + S1x1024.size a ≤ S8192x1024.size a)
theorem k0_off96_inb : ∀ (v1329 : BitVec 32) (k0_hw31 : k0_chk31 v1329), ∀ a, (k0_off96 v1329) a + S1x1024.size a ≤ S8192x1024.size a := fun v1329 k0_hw31 => k0_hw31

def k0_off97 (d0 : Dev nD) (k0_t4 : Fin k0_t4_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c96_i32_1055 : BitVec 32 := 96#32
  let v1270 : BitVec 32 := Scalar.addi v17 c96_i32_1055
  let c0_i32_127 : BitVec 32 := 0#32
  let c1_i32_129 : BitVec 32 := 1#32
  let arg16 : BitVec 32 := Scf.iv c0_i32_127 c1_i32_129 k0_t4
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off98 (k0_t4 : Fin k0_t4_loop.trips) : Fin 3 → Nat :=
  let c12_i32_1100 : BitVec 32 := 12#32
  let c0_i32_127 : BitVec 32 := 0#32
  let c1_i32_129 : BitVec 32 := 1#32
  let arg16 : BitVec 32 := Scf.iv c0_i32_127 c1_i32_129 k0_t4
  let v1339 : BitVec 32 := Scalar.addi c12_i32_1100 arg16
  let c7_i32_1102 : BitVec 32 := 7#32
  let c0_i32_1103 : BitVec 32 := 0#32
  ![v1339.toNat, 7, 0]
def k0_off99 (v1338 : BitVec 32) : Fin 2 → Nat :=
  let c0_i32_1104 : BitVec 32 := 0#32
  ![v1338.toNat, 0]

def k0_chk32 (v1338 : BitVec 32) : Prop :=
  (∀ a, (k0_off99 v1338) a + S1x1024.size a ≤ S8192x1024.size a)
theorem k0_off99_inb : ∀ (v1338 : BitVec 32) (k0_hw32 : k0_chk32 v1338), ∀ a, (k0_off99 v1338) a + S1x1024.size a ≤ S8192x1024.size a := fun v1338 k0_hw32 => k0_hw32

def k0_dev8 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v195 : BitVec 32 := Scalar.muli v2 c4_i32_146
  let v196 : BitVec 32 := Scalar.addi c0_i32_147 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v197 : BitVec 32 := Scalar.muli v5 c2_i32_148
  let v198 : BitVec 32 := Scalar.addi v196 v197
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_149 : BitVec 32 := 1#32
  let v199 : BitVec 32 := Scalar.muli v14 c1_i32_149
  let v200 : BitVec 32 := Scalar.addi v198 v199
  v200.toNat
def k0_dev9 (d0 : Dev nD) : Nat :=
  let c0_i32_182 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_181 : BitVec 32 := 4#32
  let v229 : BitVec 32 := Scalar.muli v15 c4_i32_181
  let v230 : BitVec 32 := Scalar.addi c0_i32_182 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v231 : BitVec 32 := Scalar.muli v5 c2_i32_183
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v233 : BitVec 32 := Scalar.muli v8 c1_i32_184
  let v234 : BitVec 32 := Scalar.addi v232 v233
  v234.toNat
def k0_dev10 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v243 : BitVec 32 := Scalar.muli v2 c4_i32_191
  let v244 : BitVec 32 := Scalar.addi c0_i32_192 v243
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_193 : BitVec 32 := 2#32
  let v245 : BitVec 32 := Scalar.muli v16 c2_i32_193
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v247 : BitVec 32 := Scalar.muli v8 c1_i32_194
  let v248 : BitVec 32 := Scalar.addi v246 v247
  v248.toNat
def k0_off100 (d0 : Dev nD) (c0_i32_215 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_213 : BitVec 32 := 256#32
  let v272 : BitVec 32 := Scalar.muli v13 c256_i32_213
  let v274 : BitVec 32 := Scalar.addi v272 c0_i32_215
  let c0_i32_222 : BitVec 32 := 0#32
  ![v274.toNat, 0]
def k0_dev11 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v275 : BitVec 32 := Scalar.muli v2 c4_i32_218
  let v276 : BitVec 32 := Scalar.addi c0_i32_219 v275
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_220 : BitVec 32 := 2#32
  let v277 : BitVec 32 := Scalar.muli v16 c2_i32_220
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v279 : BitVec 32 := Scalar.muli v8 c1_i32_221
  let v280 : BitVec 32 := Scalar.addi v278 v279
  v280.toNat
@[reducible] def k0_t5_loop : Scf.Loop 32 :=
  let c0_i32_224 : BitVec 32 := 0#32
  let c4_i32_225 : BitVec 32 := 4#32
  let v287 : BitVec 32 := Scalar.addi c0_i32_224 c4_i32_225
  let c1_i32_226 : BitVec 32 := 1#32
  ⟨c0_i32_224, v287, c1_i32_226⟩
def k0_off101 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off102 (k0_t5 : Fin k0_t5_loop.trips) : Fin 3 → Nat :=
  let c16_i32_1058 : BitVec 32 := 16#32
  let c0_i32_224 : BitVec 32 := 0#32
  let c1_i32_226 : BitVec 32 := 1#32
  let arg16 : BitVec 32 := Scf.iv c0_i32_224 c1_i32_226 k0_t5
  let v1276 : BitVec 32 := Scalar.addi c16_i32_1058 arg16
  let c0_i32_1060 : BitVec 32 := 0#32
  let c0_i32_1061 : BitVec 32 := 0#32
  ![v1276.toNat, 0, 0]
def k0_off103 (v1275 : BitVec 32) : Fin 2 → Nat :=
  let c0_i32_1062 : BitVec 32 := 0#32
  ![v1275.toNat, 0]

def k0_chk33 (v1275 : BitVec 32) : Prop :=
  (∀ a, (k0_off103 v1275) a + S1x1024.size a ≤ S8192x1024.size a)
theorem k0_off103_inb : ∀ (v1275 : BitVec 32) (k0_hw33 : k0_chk33 v1275), ∀ a, (k0_off103 v1275) a + S1x1024.size a ≤ S8192x1024.size a := fun v1275 k0_hw33 => k0_hw33

def k0_off104 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off105 (k0_t5 : Fin k0_t5_loop.trips) : Fin 3 → Nat :=
  let c16_i32_1064 : BitVec 32 := 16#32
  let c0_i32_224 : BitVec 32 := 0#32
  let c1_i32_226 : BitVec 32 := 1#32
  let arg16 : BitVec 32 := Scf.iv c0_i32_224 c1_i32_226 k0_t5
  let v1285 : BitVec 32 := Scalar.addi c16_i32_1064 arg16
  let c1_i32_1066 : BitVec 32 := 1#32
  let c0_i32_1067 : BitVec 32 := 0#32
  ![v1285.toNat, 1, 0]
def k0_off106 (v1284 : BitVec 32) : Fin 2 → Nat :=
  let c0_i32_1068 : BitVec 32 := 0#32
  ![v1284.toNat, 0]

def k0_chk34 (v1284 : BitVec 32) : Prop :=
  (∀ a, (k0_off106 v1284) a + S1x1024.size a ≤ S8192x1024.size a)
theorem k0_off106_inb : ∀ (v1284 : BitVec 32) (k0_hw34 : k0_chk34 v1284), ∀ a, (k0_off106 v1284) a + S1x1024.size a ≤ S8192x1024.size a := fun v1284 k0_hw34 => k0_hw34

def k0_off107 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off108 (k0_t5 : Fin k0_t5_loop.trips) : Fin 3 → Nat :=
  let c16_i32_1070 : BitVec 32 := 16#32
  let c0_i32_224 : BitVec 32 := 0#32
  let c1_i32_226 : BitVec 32 := 1#32
  let arg16 : BitVec 32 := Scf.iv c0_i32_224 c1_i32_226 k0_t5
  let v1294 : BitVec 32 := Scalar.addi c16_i32_1070 arg16
  let c2_i32_1072 : BitVec 32 := 2#32
  let c0_i32_1073 : BitVec 32 := 0#32
  ![v1294.toNat, 2, 0]
def k0_off109 (v1293 : BitVec 32) : Fin 2 → Nat :=
  let c0_i32_1074 : BitVec 32 := 0#32
  ![v1293.toNat, 0]

def k0_chk35 (v1293 : BitVec 32) : Prop :=
  (∀ a, (k0_off109 v1293) a + S1x1024.size a ≤ S8192x1024.size a)
theorem k0_off109_inb : ∀ (v1293 : BitVec 32) (k0_hw35 : k0_chk35 v1293), ∀ a, (k0_off109 v1293) a + S1x1024.size a ≤ S8192x1024.size a := fun v1293 k0_hw35 => k0_hw35

def k0_off110 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off111 (k0_t5 : Fin k0_t5_loop.trips) : Fin 3 → Nat :=
  let c16_i32_1076 : BitVec 32 := 16#32
  let c0_i32_224 : BitVec 32 := 0#32
  let c1_i32_226 : BitVec 32 := 1#32
  let arg16 : BitVec 32 := Scf.iv c0_i32_224 c1_i32_226 k0_t5
  let v1303 : BitVec 32 := Scalar.addi c16_i32_1076 arg16
  let c3_i32_1078 : BitVec 32 := 3#32
  let c0_i32_1079 : BitVec 32 := 0#32
  ![v1303.toNat, 3, 0]
def k0_off112 (v1302 : BitVec 32) : Fin 2 → Nat :=
  let c0_i32_1080 : BitVec 32 := 0#32
  ![v1302.toNat, 0]

def k0_chk36 (v1302 : BitVec 32) : Prop :=
  (∀ a, (k0_off112 v1302) a + S1x1024.size a ≤ S8192x1024.size a)
theorem k0_off112_inb : ∀ (v1302 : BitVec 32) (k0_hw36 : k0_chk36 v1302), ∀ a, (k0_off112 v1302) a + S1x1024.size a ≤ S8192x1024.size a := fun v1302 k0_hw36 => k0_hw36

def k0_off113 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off114 (k0_t5 : Fin k0_t5_loop.trips) : Fin 3 → Nat :=
  let c16_i32_1082 : BitVec 32 := 16#32
  let c0_i32_224 : BitVec 32 := 0#32
  let c1_i32_226 : BitVec 32 := 1#32
  let arg16 : BitVec 32 := Scf.iv c0_i32_224 c1_i32_226 k0_t5
  let v1312 : BitVec 32 := Scalar.addi c16_i32_1082 arg16
  let c4_i32_1084 : BitVec 32 := 4#32
  let c0_i32_1085 : BitVec 32 := 0#32
  ![v1312.toNat, 4, 0]
def k0_off115 (v1311 : BitVec 32) : Fin 2 → Nat :=
  let c0_i32_1086 : BitVec 32 := 0#32
  ![v1311.toNat, 0]

def k0_chk37 (v1311 : BitVec 32) : Prop :=
  (∀ a, (k0_off115 v1311) a + S1x1024.size a ≤ S8192x1024.size a)
theorem k0_off115_inb : ∀ (v1311 : BitVec 32) (k0_hw37 : k0_chk37 v1311), ∀ a, (k0_off115 v1311) a + S1x1024.size a ≤ S8192x1024.size a := fun v1311 k0_hw37 => k0_hw37

def k0_off116 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off117 (k0_t5 : Fin k0_t5_loop.trips) : Fin 3 → Nat :=
  let c16_i32_1088 : BitVec 32 := 16#32
  let c0_i32_224 : BitVec 32 := 0#32
  let c1_i32_226 : BitVec 32 := 1#32
  let arg16 : BitVec 32 := Scf.iv c0_i32_224 c1_i32_226 k0_t5
  let v1321 : BitVec 32 := Scalar.addi c16_i32_1088 arg16
  let c5_i32_1090 : BitVec 32 := 5#32
  let c0_i32_1091 : BitVec 32 := 0#32
  ![v1321.toNat, 5, 0]
def k0_off118 (v1320 : BitVec 32) : Fin 2 → Nat :=
  let c0_i32_1092 : BitVec 32 := 0#32
  ![v1320.toNat, 0]

def k0_chk38 (v1320 : BitVec 32) : Prop :=
  (∀ a, (k0_off118 v1320) a + S1x1024.size a ≤ S8192x1024.size a)
theorem k0_off118_inb : ∀ (v1320 : BitVec 32) (k0_hw38 : k0_chk38 v1320), ∀ a, (k0_off118 v1320) a + S1x1024.size a ≤ S8192x1024.size a := fun v1320 k0_hw38 => k0_hw38

def k0_off119 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off120 (k0_t5 : Fin k0_t5_loop.trips) : Fin 3 → Nat :=
  let c16_i32_1094 : BitVec 32 := 16#32
  let c0_i32_224 : BitVec 32 := 0#32
  let c1_i32_226 : BitVec 32 := 1#32
  let arg16 : BitVec 32 := Scf.iv c0_i32_224 c1_i32_226 k0_t5
  let v1330 : BitVec 32 := Scalar.addi c16_i32_1094 arg16
  let c6_i32_1096 : BitVec 32 := 6#32
  let c0_i32_1097 : BitVec 32 := 0#32
  ![v1330.toNat, 6, 0]
def k0_off121 (v1329 : BitVec 32) : Fin 2 → Nat :=
  let c0_i32_1098 : BitVec 32 := 0#32
  ![v1329.toNat, 0]

def k0_chk39 (v1329 : BitVec 32) : Prop :=
  (∀ a, (k0_off121 v1329) a + S1x1024.size a ≤ S8192x1024.size a)
theorem k0_off121_inb : ∀ (v1329 : BitVec 32) (k0_hw39 : k0_chk39 v1329), ∀ a, (k0_off121 v1329) a + S1x1024.size a ≤ S8192x1024.size a := fun v1329 k0_hw39 => k0_hw39

def k0_off122 (d0 : Dev nD) (k0_t5 : Fin k0_t5_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c128_i32_1055 : BitVec 32 := 128#32
  let v1270 : BitVec 32 := Scalar.addi v17 c128_i32_1055
  let c0_i32_224 : BitVec 32 := 0#32
  let c1_i32_226 : BitVec 32 := 1#32
  let arg16 : BitVec 32 := Scf.iv c0_i32_224 c1_i32_226 k0_t5
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off123 (k0_t5 : Fin k0_t5_loop.trips) : Fin 3 → Nat :=
  let c16_i32_1100 : BitVec 32 := 16#32
  let c0_i32_224 : BitVec 32 := 0#32
  let c1_i32_226 : BitVec 32 := 1#32
  let arg16 : BitVec 32 := Scf.iv c0_i32_224 c1_i32_226 k0_t5
  let v1339 : BitVec 32 := Scalar.addi c16_i32_1100 arg16
  let c7_i32_1102 : BitVec 32 := 7#32
  let c0_i32_1103 : BitVec 32 := 0#32
  ![v1339.toNat, 7, 0]
def k0_off124 (v1338 : BitVec 32) : Fin 2 → Nat :=
  let c0_i32_1104 : BitVec 32 := 0#32
  ![v1338.toNat, 0]

def k0_chk40 (v1338 : BitVec 32) : Prop :=
  (∀ a, (k0_off124 v1338) a + S1x1024.size a ≤ S8192x1024.size a)
theorem k0_off124_inb : ∀ (v1338 : BitVec 32) (k0_hw40 : k0_chk40 v1338), ∀ a, (k0_off124 v1338) a + S1x1024.size a ≤ S8192x1024.size a := fun v1338 k0_hw40 => k0_hw40

def k0_dev12 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v315 : BitVec 32 := Scalar.muli v2 c4_i32_243
  let v316 : BitVec 32 := Scalar.addi c0_i32_244 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v317 : BitVec 32 := Scalar.muli v5 c2_i32_245
  let v318 : BitVec 32 := Scalar.addi v316 v317
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_246 : BitVec 32 := 1#32
  let v319 : BitVec 32 := Scalar.muli v14 c1_i32_246
  let v320 : BitVec 32 := Scalar.addi v318 v319
  v320.toNat
def k0_dev13 (d0 : Dev nD) : Nat :=
  let c0_i32_279 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_278 : BitVec 32 := 4#32
  let v349 : BitVec 32 := Scalar.muli v15 c4_i32_278
  let v350 : BitVec 32 := Scalar.addi c0_i32_279 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v351 : BitVec 32 := Scalar.muli v5 c2_i32_280
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v353 : BitVec 32 := Scalar.muli v8 c1_i32_281
  let v354 : BitVec 32 := Scalar.addi v352 v353
  v354.toNat
def k0_dev14 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v363 : BitVec 32 := Scalar.muli v2 c4_i32_288
  let v364 : BitVec 32 := Scalar.addi c0_i32_289 v363
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_290 : BitVec 32 := 2#32
  let v365 : BitVec 32 := Scalar.muli v16 c2_i32_290
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_291 : BitVec 32 := 1#32
  let v367 : BitVec 32 := Scalar.muli v8 c1_i32_291
  let v368 : BitVec 32 := Scalar.addi v366 v367
  v368.toNat
def k0_dev15 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v395 : BitVec 32 := Scalar.muli v2 c4_i32_315
  let v396 : BitVec 32 := Scalar.addi c0_i32_316 v395
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_317 : BitVec 32 := 2#32
  let v397 : BitVec 32 := Scalar.muli v16 c2_i32_317
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v399 : BitVec 32 := Scalar.muli v8 c1_i32_318
  let v400 : BitVec 32 := Scalar.addi v398 v399
  v400.toNat
@[reducible] def k0_t6_loop : Scf.Loop 32 :=
  let c0_i32_321 : BitVec 32 := 0#32
  let c4_i32_322 : BitVec 32 := 4#32
  let v407 : BitVec 32 := Scalar.addi c0_i32_321 c4_i32_322
  let c1_i32_323 : BitVec 32 := 1#32
  ⟨c0_i32_321, v407, c1_i32_323⟩
def k0_off125 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off126 (k0_t6 : Fin k0_t6_loop.trips) : Fin 3 → Nat :=
  let c20_i32_1058 : BitVec 32 := 20#32
  let c0_i32_321 : BitVec 32 := 0#32
  let c1_i32_323 : BitVec 32 := 1#32
  let arg16 : BitVec 32 := Scf.iv c0_i32_321 c1_i32_323 k0_t6
  let v1276 : BitVec 32 := Scalar.addi c20_i32_1058 arg16
  let c0_i32_1060 : BitVec 32 := 0#32
  let c0_i32_1061 : BitVec 32 := 0#32
  ![v1276.toNat, 0, 0]
def k0_off127 (v1275 : BitVec 32) : Fin 2 → Nat :=
  let c0_i32_1062 : BitVec 32 := 0#32
  ![v1275.toNat, 0]

def k0_chk41 (v1275 : BitVec 32) : Prop :=
  (∀ a, (k0_off127 v1275) a + S1x1024.size a ≤ S8192x1024.size a)
theorem k0_off127_inb : ∀ (v1275 : BitVec 32) (k0_hw41 : k0_chk41 v1275), ∀ a, (k0_off127 v1275) a + S1x1024.size a ≤ S8192x1024.size a := fun v1275 k0_hw41 => k0_hw41

def k0_off128 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off129 (k0_t6 : Fin k0_t6_loop.trips) : Fin 3 → Nat :=
  let c20_i32_1064 : BitVec 32 := 20#32
  let c0_i32_321 : BitVec 32 := 0#32
  let c1_i32_323 : BitVec 32 := 1#32
  let arg16 : BitVec 32 := Scf.iv c0_i32_321 c1_i32_323 k0_t6
  let v1285 : BitVec 32 := Scalar.addi c20_i32_1064 arg16
  let c1_i32_1066 : BitVec 32 := 1#32
  let c0_i32_1067 : BitVec 32 := 0#32
  ![v1285.toNat, 1, 0]
def k0_off130 (v1284 : BitVec 32) : Fin 2 → Nat :=
  let c0_i32_1068 : BitVec 32 := 0#32
  ![v1284.toNat, 0]

def k0_chk42 (v1284 : BitVec 32) : Prop :=
  (∀ a, (k0_off130 v1284) a + S1x1024.size a ≤ S8192x1024.size a)
theorem k0_off130_inb : ∀ (v1284 : BitVec 32) (k0_hw42 : k0_chk42 v1284), ∀ a, (k0_off130 v1284) a + S1x1024.size a ≤ S8192x1024.size a := fun v1284 k0_hw42 => k0_hw42

def k0_off131 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off132 (k0_t6 : Fin k0_t6_loop.trips) : Fin 3 → Nat :=
  let c20_i32_1070 : BitVec 32 := 20#32
  let c0_i32_321 : BitVec 32 := 0#32
  let c1_i32_323 : BitVec 32 := 1#32
  let arg16 : BitVec 32 := Scf.iv c0_i32_321 c1_i32_323 k0_t6
  let v1294 : BitVec 32 := Scalar.addi c20_i32_1070 arg16
  let c2_i32_1072 : BitVec 32 := 2#32
  let c0_i32_1073 : BitVec 32 := 0#32
  ![v1294.toNat, 2, 0]
def k0_off133 (v1293 : BitVec 32) : Fin 2 → Nat :=
  let c0_i32_1074 : BitVec 32 := 0#32
  ![v1293.toNat, 0]

def k0_chk43 (v1293 : BitVec 32) : Prop :=
  (∀ a, (k0_off133 v1293) a + S1x1024.size a ≤ S8192x1024.size a)
theorem k0_off133_inb : ∀ (v1293 : BitVec 32) (k0_hw43 : k0_chk43 v1293), ∀ a, (k0_off133 v1293) a + S1x1024.size a ≤ S8192x1024.size a := fun v1293 k0_hw43 => k0_hw43

def k0_off134 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off135 (k0_t6 : Fin k0_t6_loop.trips) : Fin 3 → Nat :=
  let c20_i32_1076 : BitVec 32 := 20#32
  let c0_i32_321 : BitVec 32 := 0#32
  let c1_i32_323 : BitVec 32 := 1#32
  let arg16 : BitVec 32 := Scf.iv c0_i32_321 c1_i32_323 k0_t6
  let v1303 : BitVec 32 := Scalar.addi c20_i32_1076 arg16
  let c3_i32_1078 : BitVec 32 := 3#32
  let c0_i32_1079 : BitVec 32 := 0#32
  ![v1303.toNat, 3, 0]
def k0_off136 (v1302 : BitVec 32) : Fin 2 → Nat :=
  let c0_i32_1080 : BitVec 32 := 0#32
  ![v1302.toNat, 0]

def k0_chk44 (v1302 : BitVec 32) : Prop :=
  (∀ a, (k0_off136 v1302) a + S1x1024.size a ≤ S8192x1024.size a)
theorem k0_off136_inb : ∀ (v1302 : BitVec 32) (k0_hw44 : k0_chk44 v1302), ∀ a, (k0_off136 v1302) a + S1x1024.size a ≤ S8192x1024.size a := fun v1302 k0_hw44 => k0_hw44

def k0_off137 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off138 (k0_t6 : Fin k0_t6_loop.trips) : Fin 3 → Nat :=
  let c20_i32_1082 : BitVec 32 := 20#32
  let c0_i32_321 : BitVec 32 := 0#32
  let c1_i32_323 : BitVec 32 := 1#32
  let arg16 : BitVec 32 := Scf.iv c0_i32_321 c1_i32_323 k0_t6
  let v1312 : BitVec 32 := Scalar.addi c20_i32_1082 arg16
  let c4_i32_1084 : BitVec 32 := 4#32
  let c0_i32_1085 : BitVec 32 := 0#32
  ![v1312.toNat, 4, 0]
def k0_off139 (v1311 : BitVec 32) : Fin 2 → Nat :=
  let c0_i32_1086 : BitVec 32 := 0#32
  ![v1311.toNat, 0]

def k0_chk45 (v1311 : BitVec 32) : Prop :=
  (∀ a, (k0_off139 v1311) a + S1x1024.size a ≤ S8192x1024.size a)
theorem k0_off139_inb : ∀ (v1311 : BitVec 32) (k0_hw45 : k0_chk45 v1311), ∀ a, (k0_off139 v1311) a + S1x1024.size a ≤ S8192x1024.size a := fun v1311 k0_hw45 => k0_hw45

def k0_off140 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off141 (k0_t6 : Fin k0_t6_loop.trips) : Fin 3 → Nat :=
  let c20_i32_1088 : BitVec 32 := 20#32
  let c0_i32_321 : BitVec 32 := 0#32
  let c1_i32_323 : BitVec 32 := 1#32
  let arg16 : BitVec 32 := Scf.iv c0_i32_321 c1_i32_323 k0_t6
  let v1321 : BitVec 32 := Scalar.addi c20_i32_1088 arg16
  let c5_i32_1090 : BitVec 32 := 5#32
  let c0_i32_1091 : BitVec 32 := 0#32
  ![v1321.toNat, 5, 0]
def k0_off142 (v1320 : BitVec 32) : Fin 2 → Nat :=
  let c0_i32_1092 : BitVec 32 := 0#32
  ![v1320.toNat, 0]

def k0_chk46 (v1320 : BitVec 32) : Prop :=
  (∀ a, (k0_off142 v1320) a + S1x1024.size a ≤ S8192x1024.size a)
theorem k0_off142_inb : ∀ (v1320 : BitVec 32) (k0_hw46 : k0_chk46 v1320), ∀ a, (k0_off142 v1320) a + S1x1024.size a ≤ S8192x1024.size a := fun v1320 k0_hw46 => k0_hw46

def k0_off143 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off144 (k0_t6 : Fin k0_t6_loop.trips) : Fin 3 → Nat :=
  let c20_i32_1094 : BitVec 32 := 20#32
  let c0_i32_321 : BitVec 32 := 0#32
  let c1_i32_323 : BitVec 32 := 1#32
  let arg16 : BitVec 32 := Scf.iv c0_i32_321 c1_i32_323 k0_t6
  let v1330 : BitVec 32 := Scalar.addi c20_i32_1094 arg16
  let c6_i32_1096 : BitVec 32 := 6#32
  let c0_i32_1097 : BitVec 32 := 0#32
  ![v1330.toNat, 6, 0]
def k0_off145 (v1329 : BitVec 32) : Fin 2 → Nat :=
  let c0_i32_1098 : BitVec 32 := 0#32
  ![v1329.toNat, 0]

def k0_chk47 (v1329 : BitVec 32) : Prop :=
  (∀ a, (k0_off145 v1329) a + S1x1024.size a ≤ S8192x1024.size a)
theorem k0_off145_inb : ∀ (v1329 : BitVec 32) (k0_hw47 : k0_chk47 v1329), ∀ a, (k0_off145 v1329) a + S1x1024.size a ≤ S8192x1024.size a := fun v1329 k0_hw47 => k0_hw47

def k0_off146 (d0 : Dev nD) (k0_t6 : Fin k0_t6_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c160_i32_1055 : BitVec 32 := 160#32
  let v1270 : BitVec 32 := Scalar.addi v17 c160_i32_1055
  let c0_i32_321 : BitVec 32 := 0#32
  let c1_i32_323 : BitVec 32 := 1#32
  let arg16 : BitVec 32 := Scf.iv c0_i32_321 c1_i32_323 k0_t6
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off147 (k0_t6 : Fin k0_t6_loop.trips) : Fin 3 → Nat :=
  let c20_i32_1100 : BitVec 32 := 20#32
  let c0_i32_321 : BitVec 32 := 0#32
  let c1_i32_323 : BitVec 32 := 1#32
  let arg16 : BitVec 32 := Scf.iv c0_i32_321 c1_i32_323 k0_t6
  let v1339 : BitVec 32 := Scalar.addi c20_i32_1100 arg16
  let c7_i32_1102 : BitVec 32 := 7#32
  let c0_i32_1103 : BitVec 32 := 0#32
  ![v1339.toNat, 7, 0]
def k0_off148 (v1338 : BitVec 32) : Fin 2 → Nat :=
  let c0_i32_1104 : BitVec 32 := 0#32
  ![v1338.toNat, 0]

def k0_chk48 (v1338 : BitVec 32) : Prop :=
  (∀ a, (k0_off148 v1338) a + S1x1024.size a ≤ S8192x1024.size a)
theorem k0_off148_inb : ∀ (v1338 : BitVec 32) (k0_hw48 : k0_chk48 v1338), ∀ a, (k0_off148 v1338) a + S1x1024.size a ≤ S8192x1024.size a := fun v1338 k0_hw48 => k0_hw48

def k0_dev16 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v435 : BitVec 32 := Scalar.muli v2 c4_i32_340
  let v436 : BitVec 32 := Scalar.addi c0_i32_341 v435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_342 : BitVec 32 := 2#32
  let v437 : BitVec 32 := Scalar.muli v5 c2_i32_342
  let v438 : BitVec 32 := Scalar.addi v436 v437
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_343 : BitVec 32 := 1#32
  let v439 : BitVec 32 := Scalar.muli v14 c1_i32_343
  let v440 : BitVec 32 := Scalar.addi v438 v439
  v440.toNat
def k0_dev17 (d0 : Dev nD) : Nat :=
  let c0_i32_376 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_375 : BitVec 32 := 4#32
  let v469 : BitVec 32 := Scalar.muli v15 c4_i32_375
  let v470 : BitVec 32 := Scalar.addi c0_i32_376 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v471 : BitVec 32 := Scalar.muli v5 c2_i32_377
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v473 : BitVec 32 := Scalar.muli v8 c1_i32_378
  let v474 : BitVec 32 := Scalar.addi v472 v473
  v474.toNat
def k0_dev18 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v483 : BitVec 32 := Scalar.muli v2 c4_i32_385
  let v484 : BitVec 32 := Scalar.addi c0_i32_386 v483
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_387 : BitVec 32 := 2#32
  let v485 : BitVec 32 := Scalar.muli v16 c2_i32_387
  let v486 : BitVec 32 := Scalar.addi v484 v485
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v487 : BitVec 32 := Scalar.muli v8 c1_i32_388
  let v488 : BitVec 32 := Scalar.addi v486 v487
  v488.toNat
def k0_dev19 (d0 : Dev nD) : Nat :=
  let c0_i32_413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_412 : BitVec 32 := 4#32
  let v515 : BitVec 32 := Scalar.muli v2 c4_i32_412
  let v516 : BitVec 32 := Scalar.addi c0_i32_413 v515
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_414 : BitVec 32 := 2#32
  let v517 : BitVec 32 := Scalar.muli v16 c2_i32_414
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v519 : BitVec 32 := Scalar.muli v8 c1_i32_415
  let v520 : BitVec 32 := Scalar.addi v518 v519
  v520.toNat
@[reducible] def k0_t7_loop : Scf.Loop 32 :=
  let c0_i32_418 : BitVec 32 := 0#32
  let c4_i32_419 : BitVec 32 := 4#32
  let v527 : BitVec 32 := Scalar.addi c0_i32_418 c4_i32_419
  let c1_i32_420 : BitVec 32 := 1#32
  ⟨c0_i32_418, v527, c1_i32_420⟩
def k0_off149 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off150 (k0_t7 : Fin k0_t7_loop.trips) : Fin 3 → Nat :=
  let c24_i32_1058 : BitVec 32 := 24#32
  let c0_i32_418 : BitVec 32 := 0#32
  let c1_i32_420 : BitVec 32 := 1#32
  let arg16 : BitVec 32 := Scf.iv c0_i32_418 c1_i32_420 k0_t7
  let v1276 : BitVec 32 := Scalar.addi c24_i32_1058 arg16
  let c0_i32_1060 : BitVec 32 := 0#32
  let c0_i32_1061 : BitVec 32 := 0#32
  ![v1276.toNat, 0, 0]
def k0_off151 (v1275 : BitVec 32) : Fin 2 → Nat :=
  let c0_i32_1062 : BitVec 32 := 0#32
  ![v1275.toNat, 0]

def k0_chk49 (v1275 : BitVec 32) : Prop :=
  (∀ a, (k0_off151 v1275) a + S1x1024.size a ≤ S8192x1024.size a)
theorem k0_off151_inb : ∀ (v1275 : BitVec 32) (k0_hw49 : k0_chk49 v1275), ∀ a, (k0_off151 v1275) a + S1x1024.size a ≤ S8192x1024.size a := fun v1275 k0_hw49 => k0_hw49

def k0_off152 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off153 (k0_t7 : Fin k0_t7_loop.trips) : Fin 3 → Nat :=
  let c24_i32_1064 : BitVec 32 := 24#32
  let c0_i32_418 : BitVec 32 := 0#32
  let c1_i32_420 : BitVec 32 := 1#32
  let arg16 : BitVec 32 := Scf.iv c0_i32_418 c1_i32_420 k0_t7
  let v1285 : BitVec 32 := Scalar.addi c24_i32_1064 arg16
  let c1_i32_1066 : BitVec 32 := 1#32
  let c0_i32_1067 : BitVec 32 := 0#32
  ![v1285.toNat, 1, 0]
def k0_off154 (v1284 : BitVec 32) : Fin 2 → Nat :=
  let c0_i32_1068 : BitVec 32 := 0#32
  ![v1284.toNat, 0]

def k0_chk50 (v1284 : BitVec 32) : Prop :=
  (∀ a, (k0_off154 v1284) a + S1x1024.size a ≤ S8192x1024.size a)
theorem k0_off154_inb : ∀ (v1284 : BitVec 32) (k0_hw50 : k0_chk50 v1284), ∀ a, (k0_off154 v1284) a + S1x1024.size a ≤ S8192x1024.size a := fun v1284 k0_hw50 => k0_hw50

def k0_off155 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off156 (k0_t7 : Fin k0_t7_loop.trips) : Fin 3 → Nat :=
  let c24_i32_1070 : BitVec 32 := 24#32
  let c0_i32_418 : BitVec 32 := 0#32
  let c1_i32_420 : BitVec 32 := 1#32
  let arg16 : BitVec 32 := Scf.iv c0_i32_418 c1_i32_420 k0_t7
  let v1294 : BitVec 32 := Scalar.addi c24_i32_1070 arg16
  let c2_i32_1072 : BitVec 32 := 2#32
  let c0_i32_1073 : BitVec 32 := 0#32
  ![v1294.toNat, 2, 0]
def k0_off157 (v1293 : BitVec 32) : Fin 2 → Nat :=
  let c0_i32_1074 : BitVec 32 := 0#32
  ![v1293.toNat, 0]

def k0_chk51 (v1293 : BitVec 32) : Prop :=
  (∀ a, (k0_off157 v1293) a + S1x1024.size a ≤ S8192x1024.size a)
theorem k0_off157_inb : ∀ (v1293 : BitVec 32) (k0_hw51 : k0_chk51 v1293), ∀ a, (k0_off157 v1293) a + S1x1024.size a ≤ S8192x1024.size a := fun v1293 k0_hw51 => k0_hw51

def k0_off158 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off159 (k0_t7 : Fin k0_t7_loop.trips) : Fin 3 → Nat :=
  let c24_i32_1076 : BitVec 32 := 24#32
  let c0_i32_418 : BitVec 32 := 0#32
  let c1_i32_420 : BitVec 32 := 1#32
  let arg16 : BitVec 32 := Scf.iv c0_i32_418 c1_i32_420 k0_t7
  let v1303 : BitVec 32 := Scalar.addi c24_i32_1076 arg16
  let c3_i32_1078 : BitVec 32 := 3#32
  let c0_i32_1079 : BitVec 32 := 0#32
  ![v1303.toNat, 3, 0]
def k0_off160 (v1302 : BitVec 32) : Fin 2 → Nat :=
  let c0_i32_1080 : BitVec 32 := 0#32
  ![v1302.toNat, 0]

def k0_chk52 (v1302 : BitVec 32) : Prop :=
  (∀ a, (k0_off160 v1302) a + S1x1024.size a ≤ S8192x1024.size a)
theorem k0_off160_inb : ∀ (v1302 : BitVec 32) (k0_hw52 : k0_chk52 v1302), ∀ a, (k0_off160 v1302) a + S1x1024.size a ≤ S8192x1024.size a := fun v1302 k0_hw52 => k0_hw52

def k0_off161 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off162 (k0_t7 : Fin k0_t7_loop.trips) : Fin 3 → Nat :=
  let c24_i32_1082 : BitVec 32 := 24#32
  let c0_i32_418 : BitVec 32 := 0#32
  let c1_i32_420 : BitVec 32 := 1#32
  let arg16 : BitVec 32 := Scf.iv c0_i32_418 c1_i32_420 k0_t7
  let v1312 : BitVec 32 := Scalar.addi c24_i32_1082 arg16
  let c4_i32_1084 : BitVec 32 := 4#32
  let c0_i32_1085 : BitVec 32 := 0#32
  ![v1312.toNat, 4, 0]
def k0_off163 (v1311 : BitVec 32) : Fin 2 → Nat :=
  let c0_i32_1086 : BitVec 32 := 0#32
  ![v1311.toNat, 0]

def k0_chk53 (v1311 : BitVec 32) : Prop :=
  (∀ a, (k0_off163 v1311) a + S1x1024.size a ≤ S8192x1024.size a)
theorem k0_off163_inb : ∀ (v1311 : BitVec 32) (k0_hw53 : k0_chk53 v1311), ∀ a, (k0_off163 v1311) a + S1x1024.size a ≤ S8192x1024.size a := fun v1311 k0_hw53 => k0_hw53

def k0_off164 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off165 (k0_t7 : Fin k0_t7_loop.trips) : Fin 3 → Nat :=
  let c24_i32_1088 : BitVec 32 := 24#32
  let c0_i32_418 : BitVec 32 := 0#32
  let c1_i32_420 : BitVec 32 := 1#32
  let arg16 : BitVec 32 := Scf.iv c0_i32_418 c1_i32_420 k0_t7
  let v1321 : BitVec 32 := Scalar.addi c24_i32_1088 arg16
  let c5_i32_1090 : BitVec 32 := 5#32
  let c0_i32_1091 : BitVec 32 := 0#32
  ![v1321.toNat, 5, 0]
def k0_off166 (v1320 : BitVec 32) : Fin 2 → Nat :=
  let c0_i32_1092 : BitVec 32 := 0#32
  ![v1320.toNat, 0]

def k0_chk54 (v1320 : BitVec 32) : Prop :=
  (∀ a, (k0_off166 v1320) a + S1x1024.size a ≤ S8192x1024.size a)
theorem k0_off166_inb : ∀ (v1320 : BitVec 32) (k0_hw54 : k0_chk54 v1320), ∀ a, (k0_off166 v1320) a + S1x1024.size a ≤ S8192x1024.size a := fun v1320 k0_hw54 => k0_hw54

def k0_off167 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off168 (k0_t7 : Fin k0_t7_loop.trips) : Fin 3 → Nat :=
  let c24_i32_1094 : BitVec 32 := 24#32
  let c0_i32_418 : BitVec 32 := 0#32
  let c1_i32_420 : BitVec 32 := 1#32
  let arg16 : BitVec 32 := Scf.iv c0_i32_418 c1_i32_420 k0_t7
  let v1330 : BitVec 32 := Scalar.addi c24_i32_1094 arg16
  let c6_i32_1096 : BitVec 32 := 6#32
  let c0_i32_1097 : BitVec 32 := 0#32
  ![v1330.toNat, 6, 0]
def k0_off169 (v1329 : BitVec 32) : Fin 2 → Nat :=
  let c0_i32_1098 : BitVec 32 := 0#32
  ![v1329.toNat, 0]

def k0_chk55 (v1329 : BitVec 32) : Prop :=
  (∀ a, (k0_off169 v1329) a + S1x1024.size a ≤ S8192x1024.size a)
theorem k0_off169_inb : ∀ (v1329 : BitVec 32) (k0_hw55 : k0_chk55 v1329), ∀ a, (k0_off169 v1329) a + S1x1024.size a ≤ S8192x1024.size a := fun v1329 k0_hw55 => k0_hw55

def k0_off170 (d0 : Dev nD) (k0_t7 : Fin k0_t7_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c192_i32_1055 : BitVec 32 := 192#32
  let v1270 : BitVec 32 := Scalar.addi v17 c192_i32_1055
  let c0_i32_418 : BitVec 32 := 0#32
  let c1_i32_420 : BitVec 32 := 1#32
  let arg16 : BitVec 32 := Scf.iv c0_i32_418 c1_i32_420 k0_t7
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off171 (k0_t7 : Fin k0_t7_loop.trips) : Fin 3 → Nat :=
  let c24_i32_1100 : BitVec 32 := 24#32
  let c0_i32_418 : BitVec 32 := 0#32
  let c1_i32_420 : BitVec 32 := 1#32
  let arg16 : BitVec 32 := Scf.iv c0_i32_418 c1_i32_420 k0_t7
  let v1339 : BitVec 32 := Scalar.addi c24_i32_1100 arg16
  let c7_i32_1102 : BitVec 32 := 7#32
  let c0_i32_1103 : BitVec 32 := 0#32
  ![v1339.toNat, 7, 0]
def k0_off172 (v1338 : BitVec 32) : Fin 2 → Nat :=
  let c0_i32_1104 : BitVec 32 := 0#32
  ![v1338.toNat, 0]

def k0_chk56 (v1338 : BitVec 32) : Prop :=
  (∀ a, (k0_off172 v1338) a + S1x1024.size a ≤ S8192x1024.size a)
theorem k0_off172_inb : ∀ (v1338 : BitVec 32) (k0_hw56 : k0_chk56 v1338), ∀ a, (k0_off172 v1338) a + S1x1024.size a ≤ S8192x1024.size a := fun v1338 k0_hw56 => k0_hw56

def k0_dev20 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v555 : BitVec 32 := Scalar.muli v2 c4_i32_436
  let v556 : BitVec 32 := Scalar.addi c0_i32_437 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_438 : BitVec 32 := 2#32
  let v557 : BitVec 32 := Scalar.muli v5 c2_i32_438
  let v558 : BitVec 32 := Scalar.addi v556 v557
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_439 : BitVec 32 := 1#32
  let v559 : BitVec 32 := Scalar.muli v14 c1_i32_439
  let v560 : BitVec 32 := Scalar.addi v558 v559
  v560.toNat
def k0_dev21 (d0 : Dev nD) : Nat :=
  let c0_i32_472 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_471 : BitVec 32 := 4#32
  let v589 : BitVec 32 := Scalar.muli v15 c4_i32_471
  let v590 : BitVec 32 := Scalar.addi c0_i32_472 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_473 : BitVec 32 := 2#32
  let v591 : BitVec 32 := Scalar.muli v5 c2_i32_473
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_474 : BitVec 32 := 1#32
  let v593 : BitVec 32 := Scalar.muli v8 c1_i32_474
  let v594 : BitVec 32 := Scalar.addi v592 v593
  v594.toNat
def k0_dev22 (d0 : Dev nD) : Nat :=
  let c0_i32_482 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_481 : BitVec 32 := 4#32
  let v603 : BitVec 32 := Scalar.muli v2 c4_i32_481
  let v604 : BitVec 32 := Scalar.addi c0_i32_482 v603
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_483 : BitVec 32 := 2#32
  let v605 : BitVec 32 := Scalar.muli v16 c2_i32_483
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_484 : BitVec 32 := 1#32
  let v607 : BitVec 32 := Scalar.muli v8 c1_i32_484
  let v608 : BitVec 32 := Scalar.addi v606 v607
  v608.toNat
def k0_dev23 (d0 : Dev nD) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v635 : BitVec 32 := Scalar.muli v2 c4_i32_508
  let v636 : BitVec 32 := Scalar.addi c0_i32_509 v635
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_510 : BitVec 32 := 2#32
  let v637 : BitVec 32 := Scalar.muli v16 c2_i32_510
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_511 : BitVec 32 := 1#32
  let v639 : BitVec 32 := Scalar.muli v8 c1_i32_511
  let v640 : BitVec 32 := Scalar.addi v638 v639
  v640.toNat
@[reducible] def k0_t8_loop : Scf.Loop 32 :=
  let c0_i32_514 : BitVec 32 := 0#32
  let c4_i32_515 : BitVec 32 := 4#32
  let v647 : BitVec 32 := Scalar.addi c0_i32_514 c4_i32_515
  let c1_i32_516 : BitVec 32 := 1#32
  ⟨c0_i32_514, v647, c1_i32_516⟩
def k0_off173 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c0_i32_1057 : BitVec 32 := 0#32
  let v1273 : BitVec 32 := Scalar.addi v1272 c0_i32_1057
  let v1274 : Index := Scalar.indexCast v1273
  ![v1274.toNat]
def k0_off174 (k0_t8 : Fin k0_t8_loop.trips) : Fin 3 → Nat :=
  let c28_i32_1058 : BitVec 32 := 28#32
  let c0_i32_514 : BitVec 32 := 0#32
  let c1_i32_516 : BitVec 32 := 1#32
  let arg16 : BitVec 32 := Scf.iv c0_i32_514 c1_i32_516 k0_t8
  let v1276 : BitVec 32 := Scalar.addi c28_i32_1058 arg16
  let c0_i32_1060 : BitVec 32 := 0#32
  let c0_i32_1061 : BitVec 32 := 0#32
  ![v1276.toNat, 0, 0]
def k0_off175 (v1275 : BitVec 32) : Fin 2 → Nat :=
  let c0_i32_1062 : BitVec 32 := 0#32
  ![v1275.toNat, 0]

def k0_chk57 (v1275 : BitVec 32) : Prop :=
  (∀ a, (k0_off175 v1275) a + S1x1024.size a ≤ S8192x1024.size a)
theorem k0_off175_inb : ∀ (v1275 : BitVec 32) (k0_hw57 : k0_chk57 v1275), ∀ a, (k0_off175 v1275) a + S1x1024.size a ≤ S8192x1024.size a := fun v1275 k0_hw57 => k0_hw57

def k0_off176 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c1_i32_1063 : BitVec 32 := 1#32
  let v1282 : BitVec 32 := Scalar.addi v1272 c1_i32_1063
  let v1283 : Index := Scalar.indexCast v1282
  ![v1283.toNat]
def k0_off177 (k0_t8 : Fin k0_t8_loop.trips) : Fin 3 → Nat :=
  let c28_i32_1064 : BitVec 32 := 28#32
  let c0_i32_514 : BitVec 32 := 0#32
  let c1_i32_516 : BitVec 32 := 1#32
  let arg16 : BitVec 32 := Scf.iv c0_i32_514 c1_i32_516 k0_t8
  let v1285 : BitVec 32 := Scalar.addi c28_i32_1064 arg16
  let c1_i32_1066 : BitVec 32 := 1#32
  let c0_i32_1067 : BitVec 32 := 0#32
  ![v1285.toNat, 1, 0]
def k0_off178 (v1284 : BitVec 32) : Fin 2 → Nat :=
  let c0_i32_1068 : BitVec 32 := 0#32
  ![v1284.toNat, 0]

def k0_chk58 (v1284 : BitVec 32) : Prop :=
  (∀ a, (k0_off178 v1284) a + S1x1024.size a ≤ S8192x1024.size a)
theorem k0_off178_inb : ∀ (v1284 : BitVec 32) (k0_hw58 : k0_chk58 v1284), ∀ a, (k0_off178 v1284) a + S1x1024.size a ≤ S8192x1024.size a := fun v1284 k0_hw58 => k0_hw58

def k0_off179 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c2_i32_1069 : BitVec 32 := 2#32
  let v1291 : BitVec 32 := Scalar.addi v1272 c2_i32_1069
  let v1292 : Index := Scalar.indexCast v1291
  ![v1292.toNat]
def k0_off180 (k0_t8 : Fin k0_t8_loop.trips) : Fin 3 → Nat :=
  let c28_i32_1070 : BitVec 32 := 28#32
  let c0_i32_514 : BitVec 32 := 0#32
  let c1_i32_516 : BitVec 32 := 1#32
  let arg16 : BitVec 32 := Scf.iv c0_i32_514 c1_i32_516 k0_t8
  let v1294 : BitVec 32 := Scalar.addi c28_i32_1070 arg16
  let c2_i32_1072 : BitVec 32 := 2#32
  let c0_i32_1073 : BitVec 32 := 0#32
  ![v1294.toNat, 2, 0]
def k0_off181 (v1293 : BitVec 32) : Fin 2 → Nat :=
  let c0_i32_1074 : BitVec 32 := 0#32
  ![v1293.toNat, 0]

def k0_chk59 (v1293 : BitVec 32) : Prop :=
  (∀ a, (k0_off181 v1293) a + S1x1024.size a ≤ S8192x1024.size a)
theorem k0_off181_inb : ∀ (v1293 : BitVec 32) (k0_hw59 : k0_chk59 v1293), ∀ a, (k0_off181 v1293) a + S1x1024.size a ≤ S8192x1024.size a := fun v1293 k0_hw59 => k0_hw59

def k0_off182 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c3_i32_1075 : BitVec 32 := 3#32
  let v1300 : BitVec 32 := Scalar.addi v1272 c3_i32_1075
  let v1301 : Index := Scalar.indexCast v1300
  ![v1301.toNat]
def k0_off183 (k0_t8 : Fin k0_t8_loop.trips) : Fin 3 → Nat :=
  let c28_i32_1076 : BitVec 32 := 28#32
  let c0_i32_514 : BitVec 32 := 0#32
  let c1_i32_516 : BitVec 32 := 1#32
  let arg16 : BitVec 32 := Scf.iv c0_i32_514 c1_i32_516 k0_t8
  let v1303 : BitVec 32 := Scalar.addi c28_i32_1076 arg16
  let c3_i32_1078 : BitVec 32 := 3#32
  let c0_i32_1079 : BitVec 32 := 0#32
  ![v1303.toNat, 3, 0]
def k0_off184 (v1302 : BitVec 32) : Fin 2 → Nat :=
  let c0_i32_1080 : BitVec 32 := 0#32
  ![v1302.toNat, 0]

def k0_chk60 (v1302 : BitVec 32) : Prop :=
  (∀ a, (k0_off184 v1302) a + S1x1024.size a ≤ S8192x1024.size a)
theorem k0_off184_inb : ∀ (v1302 : BitVec 32) (k0_hw60 : k0_chk60 v1302), ∀ a, (k0_off184 v1302) a + S1x1024.size a ≤ S8192x1024.size a := fun v1302 k0_hw60 => k0_hw60

def k0_off185 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c4_i32_1081 : BitVec 32 := 4#32
  let v1309 : BitVec 32 := Scalar.addi v1272 c4_i32_1081
  let v1310 : Index := Scalar.indexCast v1309
  ![v1310.toNat]
def k0_off186 (k0_t8 : Fin k0_t8_loop.trips) : Fin 3 → Nat :=
  let c28_i32_1082 : BitVec 32 := 28#32
  let c0_i32_514 : BitVec 32 := 0#32
  let c1_i32_516 : BitVec 32 := 1#32
  let arg16 : BitVec 32 := Scf.iv c0_i32_514 c1_i32_516 k0_t8
  let v1312 : BitVec 32 := Scalar.addi c28_i32_1082 arg16
  let c4_i32_1084 : BitVec 32 := 4#32
  let c0_i32_1085 : BitVec 32 := 0#32
  ![v1312.toNat, 4, 0]
def k0_off187 (v1311 : BitVec 32) : Fin 2 → Nat :=
  let c0_i32_1086 : BitVec 32 := 0#32
  ![v1311.toNat, 0]

def k0_chk61 (v1311 : BitVec 32) : Prop :=
  (∀ a, (k0_off187 v1311) a + S1x1024.size a ≤ S8192x1024.size a)
theorem k0_off187_inb : ∀ (v1311 : BitVec 32) (k0_hw61 : k0_chk61 v1311), ∀ a, (k0_off187 v1311) a + S1x1024.size a ≤ S8192x1024.size a := fun v1311 k0_hw61 => k0_hw61

def k0_off188 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c5_i32_1087 : BitVec 32 := 5#32
  let v1318 : BitVec 32 := Scalar.addi v1272 c5_i32_1087
  let v1319 : Index := Scalar.indexCast v1318
  ![v1319.toNat]
def k0_off189 (k0_t8 : Fin k0_t8_loop.trips) : Fin 3 → Nat :=
  let c28_i32_1088 : BitVec 32 := 28#32
  let c0_i32_514 : BitVec 32 := 0#32
  let c1_i32_516 : BitVec 32 := 1#32
  let arg16 : BitVec 32 := Scf.iv c0_i32_514 c1_i32_516 k0_t8
  let v1321 : BitVec 32 := Scalar.addi c28_i32_1088 arg16
  let c5_i32_1090 : BitVec 32 := 5#32
  let c0_i32_1091 : BitVec 32 := 0#32
  ![v1321.toNat, 5, 0]
def k0_off190 (v1320 : BitVec 32) : Fin 2 → Nat :=
  let c0_i32_1092 : BitVec 32 := 0#32
  ![v1320.toNat, 0]

def k0_chk62 (v1320 : BitVec 32) : Prop :=
  (∀ a, (k0_off190 v1320) a + S1x1024.size a ≤ S8192x1024.size a)
theorem k0_off190_inb : ∀ (v1320 : BitVec 32) (k0_hw62 : k0_chk62 v1320), ∀ a, (k0_off190 v1320) a + S1x1024.size a ≤ S8192x1024.size a := fun v1320 k0_hw62 => k0_hw62

def k0_off191 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c6_i32_1093 : BitVec 32 := 6#32
  let v1327 : BitVec 32 := Scalar.addi v1272 c6_i32_1093
  let v1328 : Index := Scalar.indexCast v1327
  ![v1328.toNat]
def k0_off192 (k0_t8 : Fin k0_t8_loop.trips) : Fin 3 → Nat :=
  let c28_i32_1094 : BitVec 32 := 28#32
  let c0_i32_514 : BitVec 32 := 0#32
  let c1_i32_516 : BitVec 32 := 1#32
  let arg16 : BitVec 32 := Scf.iv c0_i32_514 c1_i32_516 k0_t8
  let v1330 : BitVec 32 := Scalar.addi c28_i32_1094 arg16
  let c6_i32_1096 : BitVec 32 := 6#32
  let c0_i32_1097 : BitVec 32 := 0#32
  ![v1330.toNat, 6, 0]
def k0_off193 (v1329 : BitVec 32) : Fin 2 → Nat :=
  let c0_i32_1098 : BitVec 32 := 0#32
  ![v1329.toNat, 0]

def k0_chk63 (v1329 : BitVec 32) : Prop :=
  (∀ a, (k0_off193 v1329) a + S1x1024.size a ≤ S8192x1024.size a)
theorem k0_off193_inb : ∀ (v1329 : BitVec 32) (k0_hw63 : k0_chk63 v1329), ∀ a, (k0_off193 v1329) a + S1x1024.size a ≤ S8192x1024.size a := fun v1329 k0_hw63 => k0_hw63

def k0_off194 (d0 : Dev nD) (k0_t8 : Fin k0_t8_loop.trips) : Fin 1 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v17 : BitVec 32 := Scalar.muli v10 c256_i32
  let c224_i32_1055 : BitVec 32 := 224#32
  let v1270 : BitVec 32 := Scalar.addi v17 c224_i32_1055
  let c0_i32_514 : BitVec 32 := 0#32
  let c1_i32_516 : BitVec 32 := 1#32
  let arg16 : BitVec 32 := Scf.iv c0_i32_514 c1_i32_516 k0_t8
  let c8_i32_1056 : BitVec 32 := 8#32
  let v1271 : BitVec 32 := Scalar.muli arg16 c8_i32_1056
  let v1272 : BitVec 32 := Scalar.addi v1270 v1271
  let c7_i32_1099 : BitVec 32 := 7#32
  let v1336 : BitVec 32 := Scalar.addi v1272 c7_i32_1099
  let v1337 : Index := Scalar.indexCast v1336
  ![v1337.toNat]
def k0_off195 (k0_t8 : Fin k0_t8_loop.trips) : Fin 3 → Nat :=
  let c28_i32_1100 : BitVec 32 := 28#32
  let c0_i32_514 : BitVec 32 := 0#32
  let c1_i32_516 : BitVec 32 := 1#32
  let arg16 : BitVec 32 := Scf.iv c0_i32_514 c1_i32_516 k0_t8
  let v1339 : BitVec 32 := Scalar.addi c28_i32_1100 arg16
  let c7_i32_1102 : BitVec 32 := 7#32
  let c0_i32_1103 : BitVec 32 := 0#32
  ![v1339.toNat, 7, 0]
def k0_off196 (v1338 : BitVec 32) : Fin 2 → Nat :=
  let c0_i32_1104 : BitVec 32 := 0#32
  ![v1338.toNat, 0]

def k0_chk64 (v1338 : BitVec 32) : Prop :=
  (∀ a, (k0_off196 v1338) a + S1x1024.size a ≤ S8192x1024.size a)
theorem k0_off196_inb : ∀ (v1338 : BitVec 32) (k0_hw64 : k0_chk64 v1338), ∀ a, (k0_off196 v1338) a + S1x1024.size a ≤ S8192x1024.size a := fun v1338 k0_hw64 => k0_hw64

def k0_dev24 (d0 : Dev nD) : Nat :=
  let c0_i32_533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_532 : BitVec 32 := 4#32
  let v675 : BitVec 32 := Scalar.muli v2 c4_i32_532
  let v676 : BitVec 32 := Scalar.addi c0_i32_533 v675
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_534 : BitVec 32 := 2#32
  let v677 : BitVec 32 := Scalar.muli v5 c2_i32_534
  let v678 : BitVec 32 := Scalar.addi v676 v677
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_535 : BitVec 32 := 1#32
  let v679 : BitVec 32 := Scalar.muli v14 c1_i32_535
  let v680 : BitVec 32 := Scalar.addi v678 v679
  v680.toNat
def k0_dev25 (d0 : Dev nD) : Nat :=
  let c0_i32_568 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_567 : BitVec 32 := 4#32
  let v709 : BitVec 32 := Scalar.muli v15 c4_i32_567
  let v710 : BitVec 32 := Scalar.addi c0_i32_568 v709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v711 : BitVec 32 := Scalar.muli v5 c2_i32_569
  let v712 : BitVec 32 := Scalar.addi v710 v711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_570 : BitVec 32 := 1#32
  let v713 : BitVec 32 := Scalar.muli v8 c1_i32_570
  let v714 : BitVec 32 := Scalar.addi v712 v713
  v714.toNat
def k0_dev26 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v723 : BitVec 32 := Scalar.muli v2 c4_i32_577
  let v724 : BitVec 32 := Scalar.addi c0_i32_578 v723
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_579 : BitVec 32 := 2#32
  let v725 : BitVec 32 := Scalar.muli v16 c2_i32_579
  let v726 : BitVec 32 := Scalar.addi v724 v725
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v727 : BitVec 32 := Scalar.muli v8 c1_i32_580
  let v728 : BitVec 32 := Scalar.addi v726 v727
  v728.toNat
def k0_dev27 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v755 : BitVec 32 := Scalar.muli v2 c4_i32_604
  let v756 : BitVec 32 := Scalar.addi c0_i32_605 v755
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_606 : BitVec 32 := 2#32
  let v757 : BitVec 32 := Scalar.muli v16 c2_i32_606
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_607 : BitVec 32 := 1#32
  let v759 : BitVec 32 := Scalar.muli v8 c1_i32_607
  let v760 : BitVec 32 := Scalar.addi v758 v759
  v760.toNat
def k0_dev28 (d0 : Dev nD) : Nat :=
  let c0_i32_625 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_624 : BitVec 32 := 4#32
  let v794 : BitVec 32 := Scalar.muli v2 c4_i32_624
  let v795 : BitVec 32 := Scalar.addi c0_i32_625 v794
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_626 : BitVec 32 := 2#32
  let v796 : BitVec 32 := Scalar.muli v5 c2_i32_626
  let v797 : BitVec 32 := Scalar.addi v795 v796
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_627 : BitVec 32 := 1#32
  let v798 : BitVec 32 := Scalar.muli v14 c1_i32_627
  let v799 : BitVec 32 := Scalar.addi v797 v798
  v799.toNat
def k0_dev29 (d0 : Dev nD) : Nat :=
  let c0_i32_660 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_659 : BitVec 32 := 4#32
  let v828 : BitVec 32 := Scalar.muli v15 c4_i32_659
  let v829 : BitVec 32 := Scalar.addi c0_i32_660 v828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_661 : BitVec 32 := 2#32
  let v830 : BitVec 32 := Scalar.muli v5 c2_i32_661
  let v831 : BitVec 32 := Scalar.addi v829 v830
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v832 : BitVec 32 := Scalar.muli v8 c1_i32_662
  let v833 : BitVec 32 := Scalar.addi v831 v832
  v833.toNat
def k0_dev30 (d0 : Dev nD) : Nat :=
  let c0_i32_670 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_669 : BitVec 32 := 4#32
  let v842 : BitVec 32 := Scalar.muli v2 c4_i32_669
  let v843 : BitVec 32 := Scalar.addi c0_i32_670 v842
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_671 : BitVec 32 := 2#32
  let v844 : BitVec 32 := Scalar.muli v16 c2_i32_671
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v846 : BitVec 32 := Scalar.muli v8 c1_i32_672
  let v847 : BitVec 32 := Scalar.addi v845 v846
  v847.toNat
def k0_dev31 (d0 : Dev nD) : Nat :=
  let c0_i32_697 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_696 : BitVec 32 := 4#32
  let v874 : BitVec 32 := Scalar.muli v2 c4_i32_696
  let v875 : BitVec 32 := Scalar.addi c0_i32_697 v874
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_698 : BitVec 32 := 2#32
  let v876 : BitVec 32 := Scalar.muli v16 c2_i32_698
  let v877 : BitVec 32 := Scalar.addi v875 v876
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_699 : BitVec 32 := 1#32
  let v878 : BitVec 32 := Scalar.muli v8 c1_i32_699
  let v879 : BitVec 32 := Scalar.addi v877 v878
  v879.toNat
def k0_dev32 (d0 : Dev nD) : Nat :=
  let c0_i32_730 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_729 : BitVec 32 := 4#32
  let v908 : BitVec 32 := Scalar.muli v15 c4_i32_729
  let v909 : BitVec 32 := Scalar.addi c0_i32_730 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_731 : BitVec 32 := 2#32
  let v910 : BitVec 32 := Scalar.muli v5 c2_i32_731
  let v911 : BitVec 32 := Scalar.addi v909 v910
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v912 : BitVec 32 := Scalar.muli v8 c1_i32_732
  let v913 : BitVec 32 := Scalar.addi v911 v912
  v913.toNat
def k0_dev33 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v922 : BitVec 32 := Scalar.muli v2 c4_i32_739
  let v923 : BitVec 32 := Scalar.addi c0_i32_740 v922
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_741 : BitVec 32 := 2#32
  let v924 : BitVec 32 := Scalar.muli v16 c2_i32_741
  let v925 : BitVec 32 := Scalar.addi v923 v924
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_742 : BitVec 32 := 1#32
  let v926 : BitVec 32 := Scalar.muli v8 c1_i32_742
  let v927 : BitVec 32 := Scalar.addi v925 v926
  v927.toNat
def k0_dev34 (d0 : Dev nD) : Nat :=
  let c0_i32_767 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_766 : BitVec 32 := 4#32
  let v954 : BitVec 32 := Scalar.muli v2 c4_i32_766
  let v955 : BitVec 32 := Scalar.addi c0_i32_767 v954
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_768 : BitVec 32 := 2#32
  let v956 : BitVec 32 := Scalar.muli v16 c2_i32_768
  let v957 : BitVec 32 := Scalar.addi v955 v956
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_769 : BitVec 32 := 1#32
  let v958 : BitVec 32 := Scalar.muli v8 c1_i32_769
  let v959 : BitVec 32 := Scalar.addi v957 v958
  v959.toNat
def k0_dev35 (d0 : Dev nD) : Nat :=
  let c0_i32_794 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_793 : BitVec 32 := 4#32
  let v986 : BitVec 32 := Scalar.muli v2 c4_i32_793
  let v987 : BitVec 32 := Scalar.addi c0_i32_794 v986
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_795 : BitVec 32 := 2#32
  let v988 : BitVec 32 := Scalar.muli v16 c2_i32_795
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_796 : BitVec 32 := 1#32
  let v990 : BitVec 32 := Scalar.muli v8 c1_i32_796
  let v991 : BitVec 32 := Scalar.addi v989 v990
  v991.toNat
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | .hbm, ⟨11, _⟩ => ⟨S1024x1024, .bf16⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Prog.lean ====
/- The kernel's body as a short program over the chunk number: one definition for a gathered row, one for each stage of
   a chunk, the list of stages in the order the body runs them, and that the printed body is that program. -/
module

public import proofs.«01_k».proof.Defs
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic Idealize.ShloMosaic.TcCoe
open Idealize.SL.Sem

variable {F : FTy → Type} [FloatOps F]

/-- The row of chunk `k`, trip `t`, unroll `u`, in the list of token ids, as the kernel computes it. -/
def idOff (d0 : Dev nD) (k : Fin 8) (t : Fin k0_t1_loop.trips) (u : Fin 8) : Fin 1 → Nat :=
  ![(Scalar.indexCast (Scalar.addi (Scalar.addi (Scalar.addi
      (Scalar.muli (Scalar.addi (Scalar.muli 2#32 (Scalar.remsi (Scalar.divsi (Dev.word d0) 4#32) 2#32))
        (Scalar.remsi (Scalar.divsi (Dev.word d0) 2#32) 2#32)) 256#32)
      (BitVec.ofNat 32 (32 * k.val))) (Scalar.muli (Scf.iv 0#32 1#32 t) 8#32)) (BitVec.ofNat 32 u.val)) : Index).toNat]

/-- Where that row lands in the gathered block. -/
def rowOff (k : Fin 8) (t : Fin k0_t1_loop.trips) (u : Fin 8) : Fin 3 → Nat :=
  ![(Scalar.addi (BitVec.ofNat 32 (4 * k.val)) (Scf.iv 0#32 1#32 t)).toNat, u.val, 0]

/-- The token's place is inside the list of ids. -/
theorem idOff_inb : ∀ (d0 : Dev nD) (k : Fin 8) (t : Fin k0_t1_loop.trips) (u : Fin 8),
    ∀ a, idOff d0 k t u a + S1.size a ≤ S1024.size a := by decide +kernel
/-- The row's place is inside the gathered block. -/
theorem rowOff_inb : ∀ (k : Fin 8) (t : Fin k0_t1_loop.trips) (u : Fin 8),
    ∀ a, rowOff k t u a + S1x1x1024.size a ≤ S32x8x1024.size a := by decide +kernel
/-- A chunk's semaphore is one of the eight. -/
theorem sem_inb : ∀ (k : Fin 8), ∀ a, (![k.val] : Fin 1 → Nat) a + S1.size a ≤ S8.size a := by decide
/-- A chunk's rows are inside the partial block. -/
theorem part_inb : ∀ (k : Fin 8), ∀ a, (![32 * k.val, 0] : Fin 2 → Nat) a + S32x1024.size a ≤ S256x1024.size a := by decide
/-- A chunk's rows are inside the gathered block. -/
theorem gath_inb : ∀ (k : Fin 8), ∀ a, (![4 * k.val, 0, 0] : Fin 3 → Nat) a + S4x8x1024.size a ≤ S32x8x1024.size a := by decide
/-- A chunk's rows of the partial block are whole packed rows. -/
theorem part_packed : ∀ (k : Fin 8),
    (Rect.unit (s := S256x1024) ![32 * k.val, 0] S32x1024.size (part_inb k)).PackedRows (EltTy.packing .bf16) := by decide
/-- A chunk's rows of the partial block are whole words. -/
theorem part_words : ∀ (k : Fin 8),
    (Rect.unit (s := S256x1024) ![32 * k.val, 0] S32x1024.size (part_inb k)).WholeWords (EltTy.packing .bf16) := by decide

/-- The masked and rounded rows a chunk stores, from its token ids (read twice) and its gathered rows. -/
def maskRows (v18 : BitVec 32) (a b : Vec F S32x1 .i32) (g : Vec F S4x8x1024 .f32) : FVec F S32x1024 .bf16 :=
  k0_pay6 v18 (k0_pay4 a) (k0_pay5 v18) b g

/-- Programs in order. -/
def seqL : List (Prog (TpuEff nD τ sig (Elt F) Λ₀ .tc) PUnit) → Prog (TpuEff nD τ sig (Elt F) Λ₀ .tc) PUnit
  | [] => pure ⟨⟩
  | p :: ps => p >>= fun _ => seqL ps

section Body

variable (arg0 : Memref sig .tc .smem S1024 .i32) (harg0 : arg0.IsWhole) (arg1 : Memref sig .tc .vmem S1024x1 .i32) (harg1 : arg1.IsWhole)
  (arg2 : Memref sig .tc .hbm S8192x1024 .f32) (harg2 : arg2.IsWhole) (arg3 : Memref sig .tc .vmem S1024x1024 .bf16) (harg3 : arg3.IsWhole)
  (arg4 : Memref sig .tc .vmem S32x8x1024 .f32) (harg4 : arg4.IsWhole) (arg5 : Memref sig .tc .vmem S256x1024 .bf16) (harg5 : arg5.IsWhole)
  (arg6 : Memref sig .tc .vmem S256x1024 .bf16) (harg6 : arg6.IsWhole)
  (arg7 arg8 arg9 arg10 arg11 arg12 arg13 arg14 arg15 : DmaSems sig S8)

/-- A chunk's semaphore of an array of eight. -/
abbrev semAt (a : DmaSems sig S8) (k : Fin 8) : DmaSem sig :=
  ((a.slice (Rect.unit (s := S8) ![k.val] S1.size (sem_inb k))).squeeze S_ squeezes_S1_S_).sem

/-- A chunk's rows of a partial block. -/
abbrev partAt (a : Memref sig .tc .vmem S256x1024 .bf16) (k : Fin 8) : Memref sig .tc .vmem S32x1024 .bf16 :=
  a.slice (Rect.unit (s := S256x1024) ![32 * k.val, 0] S32x1024.size (part_inb k)) (fun _ => rfl)

/-- A chunk's rows of the gathered block. -/
abbrev gathAt (a : Memref sig .tc .vmem S32x8x1024 .f32) (k : Fin 8) : Memref sig .tc .vmem S4x8x1024 .f32 :=
  a.slice (Rect.unit (s := S32x8x1024) ![4 * k.val, 0, 0] S4x8x1024.size (gath_inb k)) (fun _ => rfl)

/-- A chunk's rows of the device's own block of the result. -/
abbrev ownAt (a : Memref sig .tc .vmem S1024x1024 .bf16) (d0 : Dev nD) (k : Fin 8) : Memref sig .tc .vmem S32x1024 .bf16 :=
  a.slice (Rect.unit (s := S1024x1024) (k0_off75 d0 (BitVec.ofNat 32 (32 * k.val))) S32x1024.size (k0_off75_inb d0 k)) (fun _ => rfl)

/-- A chunk's rows of the block of the result that comes over `x`. -/
abbrev overAt (a : Memref sig .tc .vmem S1024x1024 .bf16) (d0 : Dev nD) (k : Fin 8) : Memref sig .tc .vmem S32x1024 .bf16 :=
  a.slice (Rect.unit (s := S1024x1024) (k0_off100 d0 (BitVec.ofNat 32 (32 * k.val))) S32x1024.size (k0_off100_inb d0 k)) (fun _ => rfl)

/-- One gathered row: read the id, start the copy. -/
def rowProg (d0 : Dev nD) (k : Fin 8) (t : Fin k0_t1_loop.trips) (u : Fin 8) : Prog (TpuEff nD τ sig (Elt F) Λ₀ .tc) PUnit := do
  let v : Elt F .i32 ← smemLoad arg0 (Rect.unit (s := S1024) (idOff d0 k t u) S1.size (idOff_inb d0 k t u)) numel1_S1 rfl
  have hw : k0_chk1 v := (← Prog.lift (TpuEff.assume (k0_chk1 v) (k0_chk1.dec v))).down
  Prog.lift (.enqueueDma
    (arg2.slice (Rect.unit (s := S8192x1024) (k0_off3 v) S1x1024.size (k0_off3_inb v hw)) (fun _ => rfl) : Memref sig .tc .hbm S1x1024 .f32)
    (.here ((arg4.slice (Rect.unit (s := S32x8x1024) (rowOff k t u) S1x1x1024.size (rowOff_inb k t u)) (fun _ => rfl)).squeeze S1x1024 squeezes_S1x1x1024_S1x1024))
    (.dma (semAt arg7 k)) (View.wordExact_bits rfl) ((View.wordExact_bits rfl).reshape _ _) ⟨Or.inl rfl, trivial⟩)

/-- A chunk's gather: four trips of eight rows. -/
def gatherProg (d0 : Dev nD) (k : Fin 8) : Prog (TpuEff nD τ sig (Elt F) Λ₀ .tc) PUnit :=
  Scf.Loop.for k0_t1_loop k0_t1_ok ⟨⟩ fun t _ => seqL ([0, 1, 2, 3, 4, 5, 6, 7].map (rowProg arg0 arg2 arg4 arg7 d0 k t))

/-- The first id row of a device's half of the table. -/
def lowWord (d0 : Dev nD) : BitVec 32 := Scalar.muli (Scalar.remsi (Scalar.divsi (Dev.word d0) 1#32) 2#32) 8192#32

/-- A chunk's ids. -/
abbrev idRect (d0 : Dev nD) (k : Fin 8) : Rect S1024x1 :=
  Rect.unit (s := S1024x1) (k0_off49 d0 (BitVec.ofNat 32 (32 * k.val))) S32x1.size (k0_off49_inb d0 k)
/-- A chunk's rows of a partial block, as a rectangle. -/
abbrev partRect (k : Fin 8) : Rect S256x1024 := Rect.unit (s := S256x1024) ![32 * k.val, 0] S32x1024.size (part_inb k)
/-- A chunk's rows of the gathered block, as a rectangle. -/
abbrev gathRect (k : Fin 8) : Rect S32x8x1024 := Rect.unit (s := S32x8x1024) ![4 * k.val, 0, 0] S4x8x1024.size (gath_inb k)
/-- A chunk's rows of the device's own block of the result, as a rectangle. -/
abbrev ownRect (d0 : Dev nD) (k : Fin 8) : Rect S1024x1024 :=
  Rect.unit (s := S1024x1024) (k0_off74 d0 (BitVec.ofNat 32 (32 * k.val))) S32x1024.size (k0_off74_inb d0 k)

/-- First stage of a chunk: wait for its rows, mask and round them, send them across `z`. -/
def stage1 (d0 : Dev nD) (k : Fin 8) : Prog (TpuEff nD τ sig (Elt F) Λ₀ .tc) PUnit := do
  Prog.lift (.waitDma2 (semAt arg7 k) (gathAt arg4 k) (gathAt arg4 k) (View.wordExact_bits rfl) (View.wordExact_bits rfl))
  let a : Vec F S32x1 .i32 ← Prog.lift (.load arg1 (idRect d0 k).toLoadRect (View.loadsAt_vmem h_S32x1))
  let b : Vec F S32x1 .i32 ← Prog.lift (.load arg1 (idRect d0 k).toLoadRect (View.loadsAt_vmem h_S32x1))
  let g : Vec F S4x8x1024 .f32 ← Prog.lift (.load arg4 (gathRect k).toLoadRect (View.loadsAt_vmem h_S4x8x1024))
  let _ : Vec F S32x1024 .bf16 ← Prog.lift (.load arg5 (partRect k).toLoadRect (View.loadsAt_vmem h_S32x1024))
  Prog.lift (.store arg5 (partRect k) (maskRows (lowWord d0) a b g) Finset.univ
    (View.stores_vmem h_S32x1024 (harg5.storeExact_slice rfl _ (part_packed k)) (fun _ => rfl)) (.inl rfl))
  Prog.lift (.enqueueDma (partAt arg5 k) (.remote (Dev.tc (⟨k0_dev1 d0, k0_dev1_lt d0⟩ : Dev nD)) (partAt arg6 k) (.dma (semAt arg8 k))) (.dma (semAt arg9 k))
    (harg5.wordExact_slice rfl _ (part_words k)) (harg6.wordExact_slice rfl _ (part_words k)) ⟨⟨rfl, Or.inl rfl⟩, trivial⟩)

/-- Second stage of a chunk: add the rows received across `z`, send the sum across `x` and `y`. -/
def stage2 (d0 : Dev nD) (k : Fin 8) : Prog (TpuEff nD τ sig (Elt F) Λ₀ .tc) PUnit := do
  Prog.lift (.waitDma2 (semAt arg8 k) (partAt arg6 k) (partAt arg5 k) (harg6.wordExact_slice rfl _ (part_words k)) (harg5.wordExact_slice rfl _ (part_words k)))
  Prog.lift (.waitDma2 (semAt arg9 k) (partAt arg5 k) (partAt arg6 k) (harg5.wordExact_slice rfl _ (part_words k)) (harg6.wordExact_slice rfl _ (part_words k)))
  let a : Vec F S32x1024 .bf16 ← Prog.lift (.load arg5 (partRect k).toLoadRect (View.loadsAt_vmem h_S32x1024))
  let b : Vec F S32x1024 .bf16 ← Prog.lift (.load arg6 (partRect k).toLoadRect (View.loadsAt_vmem h_S32x1024))
  let _ : Vec F S32x1024 .bf16 ← Prog.lift (.load arg3 (ownRect d0 k).toLoadRect (View.loadsAt_vmem h_S32x1024))
  Prog.lift (.store arg3 (ownRect d0 k) (k0_pay7 a b) Finset.univ
    (View.stores_vmem h_S32x1024 (harg3.storeExact_slice rfl _ (k0_off74_packedbf16 d0 k)) (fun _ => rfl)) (.inl rfl))
  Prog.lift (.enqueueDma (ownAt arg3 d0 k) (.remote (Dev.tc (⟨k0_dev2 d0, k0_dev2_lt d0⟩ : Dev nD)) (ownAt arg3 d0 k) (.dma (semAt arg10 k))) (.dma (semAt arg11 k))
    (harg3.wordExact_slice rfl _ (k0_off75_wordsbf16 d0 k)) (harg3.wordExact_slice rfl _ (k0_off75_wordsbf16 d0 k)) ⟨⟨rfl, Or.inl rfl⟩, trivial⟩)
  Prog.lift (.enqueueDma (ownAt arg3 d0 k) (.remote (Dev.tc (⟨k0_dev3 d0, k0_dev3_lt d0⟩ : Dev nD)) (ownAt arg3 d0 k) (.dma (semAt arg12 k))) (.dma (semAt arg13 k))
    (harg3.wordExact_slice rfl _ (k0_off75_wordsbf16 d0 k)) (harg3.wordExact_slice rfl _ (k0_off75_wordsbf16 d0 k)) ⟨⟨rfl, Or.inl rfl⟩, trivial⟩)

/-- Third stage of a chunk: forward the rows received across `x` across `y`. -/
def stage3 (d0 : Dev nD) (k : Fin 8) : Prog (TpuEff nD τ sig (Elt F) Λ₀ .tc) PUnit := do
  Prog.lift (.waitDma2 (semAt arg10 k) (ownAt arg3 d0 k) (ownAt arg3 d0 k) (harg3.wordExact_slice rfl _ (k0_off75_wordsbf16 d0 k)) (harg3.wordExact_slice rfl _ (k0_off75_wordsbf16 d0 k)))
  Prog.lift (.waitDma2 (semAt arg11 k) (ownAt arg3 d0 k) (ownAt arg3 d0 k) (harg3.wordExact_slice rfl _ (k0_off75_wordsbf16 d0 k)) (harg3.wordExact_slice rfl _ (k0_off75_wordsbf16 d0 k)))
  Prog.lift (.enqueueDma (overAt arg3 d0 k) (.remote (Dev.tc (⟨k0_dev3 d0, k0_dev3_lt d0⟩ : Dev nD)) (overAt arg3 d0 k) (.dma (semAt arg14 k))) (.dma (semAt arg15 k))
    (harg3.wordExact_slice rfl _ (k0_off100_wordsbf16 d0 k)) (harg3.wordExact_slice rfl _ (k0_off100_wordsbf16 d0 k)) ⟨⟨rfl, Or.inl rfl⟩, trivial⟩)

/-- A chunk's last waits on the copies of the device's own rows over `y`. -/
def stage4 (d0 : Dev nD) (k : Fin 8) : Prog (TpuEff nD τ sig (Elt F) Λ₀ .tc) PUnit := do
  Prog.lift (.waitDma2 (semAt arg12 k) (ownAt arg3 d0 k) (ownAt arg3 d0 k) (harg3.wordExact_slice rfl _ (k0_off75_wordsbf16 d0 k)) (harg3.wordExact_slice rfl _ (k0_off75_wordsbf16 d0 k)))
  Prog.lift (.waitDma2 (semAt arg13 k) (ownAt arg3 d0 k) (ownAt arg3 d0 k) (harg3.wordExact_slice rfl _ (k0_off75_wordsbf16 d0 k)) (harg3.wordExact_slice rfl _ (k0_off75_wordsbf16 d0 k)))

/-- A chunk's last waits on the forwarded copies over `y`. -/
def stage5 (d0 : Dev nD) (k : Fin 8) : Prog (TpuEff nD τ sig (Elt F) Λ₀ .tc) PUnit := do
  Prog.lift (.waitDma2 (semAt arg14 k) (overAt arg3 d0 k) (overAt arg3 d0 k) (harg3.wordExact_slice rfl _ (k0_off100_wordsbf16 d0 k)) (harg3.wordExact_slice rfl _ (k0_off100_wordsbf16 d0 k)))
  Prog.lift (.waitDma2 (semAt arg15 k) (overAt arg3 d0 k) (overAt arg3 d0 k) (harg3.wordExact_slice rfl _ (k0_off100_wordsbf16 d0 k)) (harg3.wordExact_slice rfl _ (k0_off100_wordsbf16 d0 k)))

end Body

/-- The stages of a chunk, the gather counted as stage zero. -/
def stageProg (arg0 : Memref sig .tc .smem S1024 .i32) (arg1 : Memref sig .tc .vmem S1024x1 .i32)
    (arg2 : Memref sig .tc .hbm S8192x1024 .f32) (arg3 : Memref sig .tc .vmem S1024x1024 .bf16) (harg3 : arg3.IsWhole)
    (arg4 : Memref sig .tc .vmem S32x8x1024 .f32) (arg5 : Memref sig .tc .vmem S256x1024 .bf16) (harg5 : arg5.IsWhole)
    (arg6 : Memref sig .tc .vmem S256x1024 .bf16) (harg6 : arg6.IsWhole)
    (arg7 arg8 arg9 arg10 arg11 arg12 arg13 arg14 arg15 : DmaSems sig S8) (d0 : Dev nD) :
    Fin 6 × Fin 8 → Prog (TpuEff nD τ sig (Elt F) Λ₀ .tc) PUnit
  | (0, k) => gatherProg arg0 arg2 arg4 arg7 d0 k
  | (1, k) => stage1 arg1 arg4 arg5 harg5 arg6 harg6 arg7 arg8 arg9 d0 k
  | (2, k) => stage2 arg3 harg3 arg5 harg5 arg6 harg6 arg8 arg9 arg10 arg11 arg12 arg13 d0 k
  | (3, k) => stage3 arg3 harg3 arg10 arg11 arg14 arg15 d0 k
  | (4, k) => stage4 arg3 harg3 arg12 arg13 d0 k
  | (5, k) => stage5 arg3 harg3 arg14 arg15 d0 k

/-- The stages after the barrier, in the order the body runs them. -/
def plan : List (Fin 6 × Fin 8) :=
  [(0, 1), (1, 0), (0, 2), (1, 1), (2, 0), (0, 3), (1, 2), (2, 1), (3, 0), (0, 4), (1, 3), (2, 2), (3, 1),
   (0, 5), (1, 4), (2, 3), (3, 2), (0, 6), (1, 5), (2, 4), (3, 3), (0, 7), (1, 6), (2, 5), (3, 4), (1, 7), (2, 6), (3, 5),
   (2, 7), (3, 6), (3, 7),
   (4, 0), (4, 1), (4, 2), (4, 3), (4, 4), (4, 5), (4, 6), (4, 7),
   (5, 0), (5, 1), (5, 2), (5, 3), (5, 4), (5, 5), (5, 6), (5, 7)]

/-- The body: tell the three neighbours, gather the first chunk, wait for the neighbours, then the stages. -/
def bodyProg (arg0 : Memref sig .tc .smem S1024 .i32) (arg1 : Memref sig .tc .vmem S1024x1 .i32)
    (arg2 : Memref sig .tc .hbm S8192x1024 .f32) (arg3 : Memref sig .tc .vmem S1024x1024 .bf16) (harg3 : arg3.IsWhole)
    (arg4 : Memref sig .tc .vmem S32x8x1024 .f32) (arg5 : Memref sig .tc .vmem S256x1024 .bf16) (harg5 : arg5.IsWhole)
    (arg6 : Memref sig .tc .vmem S256x1024 .bf16) (harg6 : arg6.IsWhole)
    (arg7 arg8 arg9 arg10 arg11 arg12 arg13 arg14 arg15 : DmaSems sig S8) : Prog (TpuEff nD τ sig (Elt F) Λ₀ .tc) PUnit := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  gatherProg arg0 arg2 arg4 arg7 d0 0
  semWaitWord (SemArray.scalar (sig.barrier 0 rfl) : Sems sig S_).sem 3#32
  seqL (plan.map (stageProg arg0 arg1 arg2 arg3 harg3 arg4 arg5 harg5 arg6 harg6 arg7 arg8 arg9 arg10 arg11 arg12 arg13 arg14 arg15 d0))

end Cert.Proof.KI
-- ==== Proof.Geom.lean ====
/- The buffers, the neighbours, the contents each buffer holds at the end, and where each chunk of a buffer lies. -/
module

public import proofs.«01_k».proof.Proof.Prog
public import Idealize.ShloMosaic.Lib.Rounds
public import Idealize.ShloMosaic.Lib.ShareLeaves
public import Idealize.ShloMosaic.Lib.ViewIndex
public import Idealize.ShloMosaic.Lib.ValueIdx
public import Idealize.ShloMosaic.Lib.ValueLayout

@[expose] public section

noncomputable section

namespace Cert.Proof.KI

open Cert.KernelIdeal Cert.KernelIdeal.Gen
open Idealize.ShloMosaic Idealize.ShloMosaic.TcCoe
open Idealize.SL.Sem
open Idealize.ShloMosaic.ValueIdx

variable {F : FTy → Type} [FloatOps F]

/-! ## Devices -/

/-- The neighbour across `z`. -/
def pz (c : Dev nD) : Dev nD := ⟨k0_dev1 c, k0_dev1_lt c⟩
/-- The neighbour across `x`. -/
def px (c : Dev nD) : Dev nD := ⟨k0_dev2 c, k0_dev2_lt c⟩
/-- The neighbour across `y`. -/
def py (c : Dev nD) : Dev nD := ⟨k0_dev3 c, k0_dev3_lt c⟩

/-- Across `z` twice is back. -/
theorem pz_pz (c : Dev nD) : pz (pz c) = c := by revert c; decide
/-- Across `x` twice is back. -/
theorem px_px (c : Dev nD) : px (px c) = c := by revert c; decide
/-- Across `y` twice is back. -/
theorem py_py (c : Dev nD) : py (py c) = c := by revert c; decide
/-- The order of crossing `x` and `y` does not matter. -/
theorem px_py (c : Dev nD) : px (py c) = py (px c) := by revert c; decide
/-- The neighbour across `z` is another device. -/
theorem pz_ne (c : Dev nD) : pz c ≠ c := by revert c; decide
/-- The neighbour across `x` is another device. -/
theorem px_ne (c : Dev nD) : px c ≠ c := by revert c; decide
/-- The neighbour across `y` is another device. -/
theorem py_ne (c : Dev nD) : py c ≠ c := by revert c; decide

/-- Going across an axis is a renaming of the devices. -/
def pzE : Dev nD ≃ Dev nD := ⟨pz, pz, pz_pz, pz_pz⟩
/-- Crossing `x` permutes the devices. -/
def pxE : Dev nD ≃ Dev nD := ⟨px, px, px_px, px_px⟩
/-- Crossing `y` permutes the devices. -/
def pyE : Dev nD ≃ Dev nD := ⟨py, py, py_py, py_py⟩

/-- The quarter of the tokens a device sums. -/
def qOf (c : Dev nD) : Fin 4 := ⟨c.val / 2, by have := c.isLt; have : nD = 8 := rfl; omega⟩
/-- The device of a quarter on the same side of `z` as `c`. -/
def mate (c : Dev nD) (q : Fin 4) : Dev nD := ⟨2 * q.val + c.val % 2, by have : nD = 8 := rfl; omega⟩

/-- A device is the one of its own quarter on its side of `z`. -/
theorem mate_qOf (c : Dev nD) : mate c (qOf c) = c := by revert c; decide
/-- The device of a quarter on one's side of `z` is the same seen from across `x`. -/
theorem mate_px (c : Dev nD) (q : Fin 4) : mate (px c) q = mate c q := by revert c q; decide
/-- The device of a quarter on one's side of `z` is the same seen from across `y`. -/
theorem mate_py (c : Dev nD) (q : Fin 4) : mate (py c) q = mate c q := by revert c q; decide

/-! ## Buffers -/

/-- The clipped row numbers. -/
abbrev idsM : Memref sig .tc .smem S1024 .i32 := Memref.whole cc0_stg0_0
/-- The token numbers, as a column. -/
abbrev tokM : Memref sig .tc .vmem S1024x1 .i32 := Memref.whole cc0_stg1_0
/-- The device's half of the table. -/
abbrev embM : Memref sig .tc .hbm S8192x1024 .f32 := Memref.whole main_arg1
/-- The result. -/
abbrev outM : Memref sig .tc .vmem S1024x1024 .bf16 := Memref.whole cc0_stg2_0
/-- The gathered rows. -/
abbrev gathM : Memref sig .tc .vmem S32x8x1024 .f32 := Memref.whole cc0_scratch0
/-- The device's masked rows. -/
abbrev partM : Memref sig .tc .vmem S256x1024 .bf16 := Memref.whole cc0_scratch1
/-- The rows received across `z`. -/
abbrev comM : Memref sig .tc .vmem S256x1024 .bf16 := Memref.whole cc0_scratch2

/-- The row of the table a gathered row comes from. -/
abbrev embRow (v : BitVec 32) (hw : k0_chk1 v) : Memref sig .tc .hbm S1x1024 .f32 :=
  embM.slice (Rect.unit (s := S8192x1024) (k0_off3 v) S1x1024.size (k0_off3_inb v hw)) (fun _ => rfl)
/-- A gathered row. -/
abbrev rowAt (k : Fin 8) (t : Fin k0_t1_loop.trips) (u : Fin 8) : Memref sig .tc .vmem S1x1024 .f32 :=
  (gathM.slice (Rect.unit (s := S32x8x1024) (rowOff k t u) S1x1x1024.size (rowOff_inb k t u)) (fun _ => rfl)).squeeze S1x1024 squeezes_S1x1x1024_S1x1024

/-- What a chunk's copies of sums credit. -/
abbrev NC : ℕ := (partAt partM 0).view.dmaCredit
/-- What a gathered row credits. -/
abbrev NR : ℕ := (rowAt 0 ⟨0, by decide⟩ 0).view.dmaCredit

/-- A chunk's copy credits something. -/
theorem NC_pos : 0 < NC := View.dmaCredit_pos _ (by decide)
/-- A row's copy credits something. -/
theorem NR_pos : 0 < NR := View.dmaCredit_pos _ (by decide)
/-- A received chunk credits as much as any chunk. -/
theorem com_credit (k : Fin 8) : (partAt comM k).view.dmaCredit = NC := by decide +revert +kernel
/-- A chunk of masked rows credits as much as any chunk. -/
theorem part_credit (k : Fin 8) : (partAt partM k).view.dmaCredit = NC := by decide +revert +kernel
/-- A chunk of the result credits as much as any chunk. -/
theorem own_credit (c : Dev nD) (k : Fin 8) : (ownAt outM c k).view.dmaCredit = NC := by decide +revert +kernel
/-- A chunk passed on credits as much as any chunk. -/
theorem over_credit (c : Dev nD) (k : Fin 8) : (overAt outM c k).view.dmaCredit = NC := by decide +revert +kernel
/-- Every row's copy credits the same. -/
theorem row_credit (k : Fin 8) (t : Fin k0_t1_loop.trips) (u : Fin 8) : (rowAt k t u).view.dmaCredit = NR := by decide +revert +kernel
/-- A chunk of gathered rows counts for thirty-two rows. -/
theorem gath_credit (k : Fin 8) : (gathAt gathM k).view.dmaCredit = 32 * NR := by decide +revert +kernel

/-! ## Semaphores -/

/-- The semaphore of chunk `k` in the `a`-th array. -/
def dsem (a : Fin 9) (k : Fin 8) : DmaSem sig := ⟨3 + 8 * a.val + k.val, by have : sig.nDmaSem = 75 := rfl; omega⟩

/-- A chunk's semaphore of the gather, by its number. -/
theorem sem_g (k : Fin 8) : semAt cc0_scratch3 k = dsem 0 k := by revert k; decide
/-- A chunk's sending semaphore across `z`, by its number. -/
theorem sem_zs (k : Fin 8) : semAt cc0_scratch4 k = dsem 1 k := by revert k; decide
/-- A chunk's receiving semaphore across `z`, by its number. -/
theorem sem_zr (k : Fin 8) : semAt cc0_scratch5 k = dsem 2 k := by revert k; decide
/-- A chunk's sending semaphore across `x`, by its number. -/
theorem sem_xs (k : Fin 8) : semAt cc0_scratch6 k = dsem 3 k := by revert k; decide
/-- A chunk's receiving semaphore across `x`, by its number. -/
theorem sem_xr (k : Fin 8) : semAt cc0_scratch7 k = dsem 4 k := by revert k; decide
/-- A chunk's sending semaphore of the first copy across `y`, by its number. -/
theorem sem_ys (k : Fin 8) : semAt cc0_scratch8 k = dsem 5 k := by revert k; decide
/-- A chunk's receiving semaphore of the first copy across `y`, by its number. -/
theorem sem_yr (k : Fin 8) : semAt cc0_scratch9 k = dsem 6 k := by revert k; decide
/-- A chunk's sending semaphore of the second copy across `y`, by its number. -/
theorem sem_ws (k : Fin 8) : semAt cc0_scratch10 k = dsem 7 k := by revert k; decide
/-- A chunk's receiving semaphore of the second copy across `y`, by its number. -/
theorem sem_wr (k : Fin 8) : semAt cc0_scratch11 k = dsem 8 k := by revert k; decide

/-- The barrier's semaphore. -/
abbrev barS : Sem sig := (SemArray.scalar (sig.barrier 0 rfl) : Sems sig S_).sem

/-- A device's barrier cell. -/
abbrev barCell (c : Dev nD) : GSem nD τ sig := ((c : Thread nD τ), .reg barS)
/-- A device's cell of one of the nine arrays, for a chunk. -/
abbrev cell (c : Dev nD) (a : Fin 9) (k : Fin 8) : GSem nD τ sig := ((c : Thread nD τ), .dma (dsem a k))

/-- A copy's semaphore names its array and its chunk. -/
theorem dsem_inj {a a' : Fin 9} {k k' : Fin 8} (h : dsem a k = dsem a' k') : a = a' ∧ k = k' := by
  have h' : 3 + 8 * a.val + k.val = 3 + 8 * a'.val + k'.val := congrArg (fun s : DmaSem sig => s.val) h
  exact ⟨Fin.ext (by omega), Fin.ext (by omega)⟩

/-- A cell names its device, its array and its chunk. -/
theorem cell_inj {c c' : Dev nD} {a a' : Fin 9} {k k' : Fin 8} (h : cell c a k = cell c' a' k') : c = c' ∧ a = a' ∧ k = k' :=
  ⟨congrArg (fun g : GSem nD τ sig => g.1.1) h, dsem_inj (by injection (congrArg Prod.snd h))⟩

/-! ## Offsets in plain numbers -/

/-- Where a chunk of a device's own quarter of the result starts, as copied. -/
theorem off75_eq (c : Dev nD) (k : Fin 8) : k0_off75 c (BitVec.ofNat 32 (32 * k.val)) = ![256 * (qOf c).val + 32 * k.val, 0] := by
  revert c k; decide +kernel
/-- Where a chunk of a device's own quarter of the result starts, as stored. -/
theorem off74_eq (c : Dev nD) (k : Fin 8) : k0_off74 c (BitVec.ofNat 32 (32 * k.val)) = ![256 * (qOf c).val + 32 * k.val, 0] := by
  revert c k; decide +kernel
/-- Where a chunk of the quarter across `x` starts in the result. -/
theorem off100_eq (c : Dev nD) (k : Fin 8) : k0_off100 c (BitVec.ofNat 32 (32 * k.val)) = ![256 * (qOf (px c)).val + 32 * k.val, 0] := by
  revert c k; decide +kernel
/-- Where a chunk's token numbers start. -/
theorem off49_eq (c : Dev nD) (k : Fin 8) : k0_off49 c (BitVec.ofNat 32 (32 * k.val)) = ![256 * (qOf c).val + 32 * k.val, 0] := by
  revert c k; decide +kernel

/-- The trip of a number below four. -/
abbrev trip (t : Fin 4) : Fin k0_t1_loop.trips := ⟨t.val, t.isLt⟩

/-- Which token a row of a trip belongs to. -/
theorem idOff_eq (c : Dev nD) (k : Fin 8) (t : Fin k0_t1_loop.trips) (u : Fin 8) :
    idOff c k t u = ![256 * (qOf c).val + 32 * k.val + 8 * t.val + u.val] := by
  revert c k t u; decide +kernel
/-- Where a row of a trip lies among the gathered rows. -/
theorem rowOff_eq (k : Fin 8) (t : Fin k0_t1_loop.trips) (u : Fin 8) : rowOff k t u = ![4 * k.val + t.val, u.val, 0] := by
  revert k t u; decide +kernel

/-! ## Which elements a chunk has -/

/-- The elements of a block of whole rows. -/
theorem mem_rows {n m r : ℕ} (i : (⟨2, ![n, m]⟩ : Shape).Idx) {off : Fin 2 → ℕ} {h} (a : ℕ) (hoff : off = ![a, 0]) :
    i ∈ (Rect.unit (s := (⟨2, ![n, m]⟩ : Shape)) off (![r, m]) h).set ↔ a ≤ (i 0).val ∧ (i 0).val < a + r := by
  subst hoff
  have h1 : (i 1).val < m := (i 1).isLt
  rw [Rect.mem_set_unit]
  constructor
  · intro h; exact h 0
  · intro h b
    match b with
    | ⟨0, _⟩ => exact h
    | ⟨1, _⟩ => exact ⟨Nat.zero_le _, by show (i 1).val < 0 + m; omega⟩

/-- The elements of a chunk of a device's own quarter of the result. -/
theorem mem_own (c : Dev nD) (k : Fin 8) (i : S1024x1024.Idx) :
    i ∈ (ownAt outM c k).view.set ↔ (i 0).val / 32 = 8 * (qOf c).val + k.val := by
  have e : (ownAt outM c k).view.set = (Rect.unit (s := S1024x1024) (k0_off75 c (BitVec.ofNat 32 (32 * k.val))) S32x1024.size (k0_off75_inb c k)).set :=
    View.set_slice_whole _ _
  rw [e]
  refine (mem_rows (n := 1024) (m := 1024) (r := 32) i _ (off75_eq c k)).trans ?_
  omega
/-- The chunk passed on is the one that the neighbour across `x` owns. -/
theorem over_set (c : Dev nD) (k : Fin 8) : (overAt outM c k).view.set = (ownAt outM (px c) k).view.set := by
  have e : (overAt outM c k).view.set = (Rect.unit (s := S1024x1024) (k0_off100 c (BitVec.ofNat 32 (32 * k.val))) S32x1024.size (k0_off100_inb c k)).set :=
    View.set_slice_whole _ _
  refine Finset.ext fun i => ?_
  rw [e]
  refine (mem_rows (n := 1024) (m := 1024) (r := 32) i _ (off100_eq c k)).trans (Iff.trans ?_ (mem_own (px c) k i).symm)
  omega
/-- A chunk of the result has the same elements stored as copied. -/
theorem own_access_set (c : Dev nD) (k : Fin 8) : (outM.access (ownRect c k)).set = (ownAt outM c k).view.set := by
  have e : (outM.access (ownRect c k)).set = (ownRect c k).set := View.set_slice_whole _ _
  refine Finset.ext fun i => ?_
  rw [e]
  refine (mem_rows (n := 1024) (m := 1024) (r := 32) i _ (off74_eq c k)).trans (Iff.trans ?_ (mem_own c k i).symm)
  omega
/-- The elements of a chunk of masked rows. -/
theorem mem_part (k : Fin 8) (i : S256x1024.Idx) : i ∈ (partAt partM k).view.set ↔ (i 0).val / 32 = k.val := by
  have e : (partAt partM k).view.set = (partRect k).set := View.set_slice_whole _ _
  rw [e]
  refine (mem_rows (n := 256) (m := 1024) (r := 32) i _ rfl).trans ?_
  omega
/-- The elements of a chunk of received rows. -/
theorem mem_com (k : Fin 8) (i : S256x1024.Idx) : i ∈ (partAt comM k).view.set ↔ (i 0).val / 32 = k.val := by
  have e : (partAt comM k).view.set = (partRect k).set := View.set_slice_whole _ _
  rw [e]
  refine (mem_rows (n := 256) (m := 1024) (r := 32) i _ rfl).trans ?_
  omega
/-- The elements of a chunk of gathered rows. -/
theorem mem_gath (k : Fin 8) (i : S32x8x1024.Idx) : i ∈ (gathAt gathM k).view.set ↔ (i 0).val / 4 = k.val := by
  have e : (gathAt gathM k).view.set = (gathRect k).set := View.set_slice_whole _ _
  rw [e, Rect.mem_set_unit]
  have h1 : (i 1).val < 8 := (i 1).isLt
  have h2 : (i 2).val < 1024 := (i 2).isLt
  constructor
  · intro h
    have h0 : 4 * k.val ≤ (i 0).val ∧ (i 0).val < 4 * k.val + 4 := h 0
    omega
  · intro h a
    match a with
    | ⟨0, _⟩ => show 4 * k.val ≤ (i 0).val ∧ (i 0).val < 4 * k.val + 4; omega
    | ⟨1, _⟩ => show 0 ≤ (i 1).val ∧ (i 1).val < 0 + 8; omega
    | ⟨2, _⟩ => show 0 ≤ (i 2).val ∧ (i 2).val < 0 + 1024; omega
/-- The elements of one gathered row. -/
theorem mem_row (k : Fin 8) (t : Fin k0_t1_loop.trips) (u : Fin 8) (i : S32x8x1024.Idx) :
    i ∈ (rowAt k t u).view.set ↔ (i 0).val = 4 * k.val + t.val ∧ (i 1).val = u.val := by
  have e : (rowAt k t u).view.set = (Rect.unit (s := S32x8x1024) (rowOff k t u) S1x1x1024.size (rowOff_inb k t u)).set :=
    (View.set_reshape _ _).trans (View.set_slice_whole _ _)
  rw [e, Rect.mem_set_unit, rowOff_eq]
  have h2 : (i 2).val < 1024 := (i 2).isLt
  constructor
  · intro h
    have h0 : 4 * k.val + t.val ≤ (i 0).val ∧ (i 0).val < 4 * k.val + t.val + 1 := h 0
    have h1 : u.val ≤ (i 1).val ∧ (i 1).val < u.val + 1 := h 1
    omega
  · intro h a
    match a with
    | ⟨0, _⟩ => show 4 * k.val + t.val ≤ (i 0).val ∧ (i 0).val < 4 * k.val + t.val + 1; omega
    | ⟨1, _⟩ => show u.val ≤ (i 1).val ∧ (i 1).val < u.val + 1; omega
    | ⟨2, _⟩ => show 0 ≤ (i 2).val ∧ (i 2).val < 0 + 1024; omega

/-! ## Contents -/

/-- What the kernel is given on every device: the clipped row numbers, the token ids, the block of the table. -/
structure Ins (F : FTy → Type) where
  ids : Dev nD → S1024.Idx → BitVec 32
  tok : Dev nD → S1024x1.Idx → BitVec 32
  emb : Dev nD → S8192x1024.Idx → Elt F .f32

variable (I : Ins F)

/-- The gathered rows of a device's quarter. -/
def gathF (c : Dev nD) : S32x8x1024.Idx → Elt F .f32 := fun i =>
  I.emb c (ix2 (⟨(I.ids c (ix1 (⟨256 * (qOf c).val + 8 * (i 0).val + (i 1).val, by
    have h0 : (i 0).val < 32 := (i 0).isLt
    have h1 : (i 1).val < 8 := (i 1).isLt
    have := (qOf c).isLt
    omega⟩ : Fin 1024))).toNat % 8192, Nat.mod_lt _ (by decide)⟩ : Fin 8192) (⟨(i 2).val, (i 2).isLt⟩ : Fin 1024))

/-- The ids of a chunk's tokens. -/
def tokChunk (c : Dev nD) (k : Fin 8) : Vec F S32x1 .i32 := tokM.view.readAt (Elt F) (idRect c k).toLoadRect (I.tok c)
/-- The gathered rows of a chunk. -/
def gathChunk (c : Dev nD) (k : Fin 8) : Vec F S4x8x1024 .f32 := gathM.view.readAt (Elt F) (gathRect k).toLoadRect (gathF I c)
/-- A chunk's rows, masked and rounded. -/
def partChunk (c : Dev nD) (k : Fin 8) : FVec F S32x1024 .bf16 :=
  maskRows (lowWord c) (tokChunk I c k) (tokChunk I c k) (gathChunk I c k)
/-- A chunk's sum with the neighbour's across `z`. -/
def sumChunk (c : Dev nD) (k : Fin 8) : FVec F S32x1024 .bf16 := k0_pay7 (partChunk I c k) (partChunk I (pz c) k)

/-- The chunk a row of a quarter is in. -/
abbrev chunkOf (n : ℕ) (h : n < 256) : Fin 8 := ⟨n / 32, by omega⟩

/-- A device's masked rows. -/
def partF (c : Dev nD) : S256x1024.Idx → Elt F .bf16 := fun i =>
  partChunk I c (chunkOf (i 0).val (i 0).isLt) (ix2 (⟨(i 0).val % 32, Nat.mod_lt _ (by decide)⟩ : Fin 32) (⟨(i 1).val, (i 1).isLt⟩ : Fin 1024))
/-- The result on a device. -/
def outF (c : Dev nD) : S1024x1024.Idx → Elt F .bf16 := fun i =>
  sumChunk I (mate c ⟨(i 0).val / 256, by have : (i 0).val < 1024 := (i 0).isLt; omega⟩) (chunkOf ((i 0).val % 256) (Nat.mod_lt _ (by decide)))
    (ix2 (⟨(i 0).val % 32, Nat.mod_lt _ (by decide)⟩ : Fin 32) (⟨(i 1).val, (i 1).isLt⟩ : Fin 1024))

/-- The result is the same across `x`. -/
theorem outF_px (c : Dev nD) : outF I (px c) = outF I c := by funext i; unfold outF; rw [mate_px]
/-- The result is the same across `y`. -/
theorem outF_py (c : Dev nD) : outF I (py c) = outF I c := by funext i; unfold outF; rw [mate_py]

/-- A view written with what it reads of `g` holds `g` on its elements. -/
theorem write_eq {κ : Kind} {sp : Space} {s : Shape} {e : EltTy} (v : View sig κ sp s e) (fd g : v.ty.Contents (Elt F)) (w : s.Idx → Elt F e)
    (h : w = v.read (Elt F) g) : ∀ i ∈ v.set, v.write (Elt F) fd w Finset.univ i = g i := by
  intro i hi
  rw [h, View.write_read_eq_piecewise]
  exact Finset.piecewise_eq_of_mem _ _ _ hi

/-- The masked rows, at an index of a chunk. -/
theorem partF_at (c : Dev nD) (k : Fin 8) (a : Fin 32) (b : Fin 1024) (i : S256x1024.Idx) (h0 : (i 0).val = 32 * k.val + a.val) (h1 : (i 1).val = b.val) :
    partF I c i = partChunk I c k (ix2 a b) := by
  have e0 : chunkOf (i 0).val (i 0).isLt = k := Fin.ext (by show (i 0).val / 32 = k.val; omega)
  have e1 : (⟨(i 0).val % 32, Nat.mod_lt _ (by decide)⟩ : Fin 32) = a := Fin.ext (by show (i 0).val % 32 = a.val; omega)
  have e2 : (⟨(i 1).val, (i 1).isLt⟩ : Fin 1024) = b := Fin.ext h1
  unfold partF
  rw [e0, e1, e2]
/-- The result, at an index of a chunk of the device's own quarter. -/
theorem outF_at (c : Dev nD) (k : Fin 8) (a : Fin 32) (b : Fin 1024) (i : S1024x1024.Idx) (h0 : (i 0).val = 256 * (qOf c).val + 32 * k.val + a.val)
    (h1 : (i 1).val = b.val) : outF I c i = sumChunk I c k (ix2 a b) := by
  have hq : (⟨(i 0).val / 256, by have : (i 0).val < 1024 := (i 0).isLt; omega⟩ : Fin 4) = qOf c := Fin.ext (by show (i 0).val / 256 = (qOf c).val; omega)
  have e0 : chunkOf ((i 0).val % 256) (Nat.mod_lt _ (by decide)) = k := Fin.ext (by show (i 0).val % 256 / 32 = k.val; omega)
  have e1 : (⟨(i 0).val % 32, Nat.mod_lt _ (by decide)⟩ : Fin 32) = a := Fin.ext (by show (i 0).val % 32 = a.val; omega)
  have e2 : (⟨(i 1).val, (i 1).isLt⟩ : Fin 1024) = b := Fin.ext h1
  unfold outF
  rw [hq, e0, e1, e2, mate_qOf]

/-- An index of a chunk, by its row and its column. -/
theorem idx32 (x : S32x1024.Idx) : x = ix2 (⟨(x 0).val, (x 0).isLt⟩ : Fin 32) (⟨(x 1).val, (x 1).isLt⟩ : Fin 1024) := eq_ix2 x

/-- A chunk read of the masked rows is that chunk. -/
theorem part_read (c : Dev nD) (k : Fin 8) : (partAt partM k).view.read (Elt F) (partF I c) = partChunk I c k := by
  funext x
  rw [idx32 x]
  exact partF_at I c k _ _ _ (by show 32 * k.val + 1 * (x 0).val = _; simp) (by show 0 + 1 * (x 1).val = _; simp)
/-- A chunk read of the received rows is that chunk. -/
theorem com_read (c : Dev nD) (k : Fin 8) : (partAt comM k).view.read (Elt F) (partF I c) = partChunk I c k := part_read I c k
/-- A chunk read of the result, as it is copied, is the chunk's sum. -/
theorem own_read (c : Dev nD) (k : Fin 8) : (ownAt outM c k).view.read (Elt F) (outF I c) = sumChunk I c k := by
  funext x
  rw [idx32 x]
  refine outF_at I c k _ _ _ ?_ ?_
  · show k0_off75 c (BitVec.ofNat 32 (32 * k.val)) 0 + 1 * (x 0).val = _
    rw [off75_eq]; simp
  · show k0_off75 c (BitVec.ofNat 32 (32 * k.val)) 1 + 1 * (x 1).val = _
    rw [off75_eq]; simp
/-- A chunk read of the result, as it is stored, is the chunk's sum. -/
theorem own_access_read (c : Dev nD) (k : Fin 8) : (outM.access (ownRect c k)).read (Elt F) (outF I c) = sumChunk I c k := by
  funext x
  rw [idx32 x]
  refine outF_at I c k _ _ _ ?_ ?_
  · show k0_off74 c (BitVec.ofNat 32 (32 * k.val)) 0 + 1 * (x 0).val = _
    rw [off74_eq]; simp
  · show k0_off74 c (BitVec.ofNat 32 (32 * k.val)) 1 + 1 * (x 1).val = _
    rw [off74_eq]; simp

/-- The row number read for a row. -/
theorem row_read (c : Dev nD) (k : Fin 8) (t : Fin k0_t1_loop.trips) (u : Fin 8) (v : BitVec 32) (hw : k0_chk1 v)
    (hv : v = I.ids c (ix1 (⟨256 * (qOf c).val + 32 * k.val + 8 * t.val + u.val, by
      have ht : t.val < 4 := t.isLt
      have := (qOf c).isLt
      have := k.isLt
      have := u.isLt
      omega⟩ : Fin 1024))) :
    (embRow v hw).view.read (Elt F) (I.emb c) = (rowAt k t u).view.read (Elt F) (gathF I c) := by
  funext x
  obtain ⟨a, b, rfl⟩ : ∃ (a : Fin 1) (b : Fin 1024), x = ix2 a b := ⟨x 0, x 1, eq_ix2 x⟩
  have hv8 : v.toNat + 1 ≤ 8192 := hw 0
  have ha : a.val = 0 := by omega
  show I.emb c ((Rect.unit (s := S8192x1024) (k0_off3 v) S1x1024.size (k0_off3_inb v hw)).emb (ix2 a b)) =
    gathF I c ((Rect.unit (s := S32x8x1024) (rowOff k t u) S1x1x1024.size (rowOff_inb k t u)).emb (Shape.reshapeEquiv _ (ix2 a b)))
  rw [reshapeEquiv_ix2_1ab]
  unfold gathF
  have ht : t.val < 4 := t.isLt
  have h0 : (((Rect.unit (s := S32x8x1024) (rowOff k t u) S1x1x1024.size (rowOff_inb k t u)).emb (ix3 (⟨0, Nat.one_pos⟩ : Fin 1) a b)) 0).val = 4 * k.val + t.val := by
    show rowOff k t u 0 + 1 * 0 = _
    rw [rowOff_eq]; rfl
  have h1 : (((Rect.unit (s := S32x8x1024) (rowOff k t u) S1x1x1024.size (rowOff_inb k t u)).emb (ix3 (⟨0, Nat.one_pos⟩ : Fin 1) a b)) 1).val = u.val := by
    show rowOff k t u 1 + 1 * a.val = _
    rw [rowOff_eq, ha]; rfl
  have h2 : (((Rect.unit (s := S32x8x1024) (rowOff k t u) S1x1x1024.size (rowOff_inb k t u)).emb (ix3 (⟨0, Nat.one_pos⟩ : Fin 1) a b)) 2).val = b.val := by
    show rowOff k t u 2 + 1 * b.val = _
    rw [rowOff_eq]; show 0 + 1 * b.val = _; omega
  refine congrArg (I.emb c) (funext fun d => Fin.ext ?_)
  match d with
  | ⟨0, _⟩ =>
    show v.toNat + 1 * a.val = (I.ids c (ix1 _)).toNat % 8192
    have hi : (I.ids c (ix1 (⟨256 * (qOf c).val + 8 * (((Rect.unit (s := S32x8x1024) (rowOff k t u) S1x1x1024.size (rowOff_inb k t u)).emb
        (ix3 (⟨0, Nat.one_pos⟩ : Fin 1) a b)) 0).val + (((Rect.unit (s := S32x8x1024) (rowOff k t u) S1x1x1024.size (rowOff_inb k t u)).emb
        (ix3 (⟨0, Nat.one_pos⟩ : Fin 1) a b)) 1).val, by rw [h0, h1]; have := (qOf c).isLt; omega⟩ : Fin 1024))) = v := by
      rw [hv]
      exact congrArg (fun n => I.ids c (ix1 n)) (Fin.ext (by show 256 * (qOf c).val + 8 * _ + _ = 256 * (qOf c).val + 32 * k.val + 8 * t.val + u.val; rw [h0, h1]; omega))
    refine Eq.trans ?_ (congrArg (fun w : BitVec 32 => w.toNat % 8192) hi).symm
    show v.toNat + 1 * a.val = v.toNat % 8192
    omega
  | ⟨1, _⟩ => show 0 + 1 * b.val = _; rw [show ∀ n, 0 + 1 * n = n from fun n => by omega]; exact h2.symm

end Cert.Proof.KI
-- ==== Proof.Proto.lean ====
/- The protocol between the devices: what each semaphore counts, who pays it, and what a payment carries. -/
module

public import proofs.«01_k».proof.Proof.Geom
public import Idealize.ShloMosaic.Lib.Pipeline.Regions
public import Idealize.ShloMosaic.Lib.Pipeline.Kit
public import Idealize.ShloMosaic.Lib.Pipeline.RegionTalk
public import Idealize.ShloMosaic.Lib.Rounds.Family
public import Idealize.ShloMosaic.Lib.Tactic

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves

variable {F : FTy → Type} [FloatOps F]

/-- The two copies of the rounds algebra: the pipeline's and this protocol's. -/
abbrev UU : Type := Rounds.URounds (GSem nD τ sig) Unit × Rounds.URounds (GSem nD τ sig) (Fin 32)

local notation "𝕄" => MT nD τ sig Unit (Elt F) ℕ UU ℕ

/-- The pipeline's part of the ghost state. -/
abbrev EP : Emb (Rounds.URounds (GSem nD τ sig) Unit) (MT nD τ sig Unit (Elt F) ℕ UU ℕ) := embL
/-- The protocol's part of the ghost state. -/
abbrev ER : Emb (Rounds.URounds (GSem nD τ sig) (Fin 32)) (MT nD τ sig Unit (Elt F) ℕ UU ℕ) := embR

/-- A separating conjunction over a set with one element more. -/
theorem sep_insert {J : Type} [DecidableEq J] {S : Finset J} {j : J} (h : j ∉ S) (Φ : J → sProp 𝕄) :
    bigSep (insert j S) Φ = iprop(Φ j ∗ bigSep S Φ) := bigSep_insert h
/-- Over a list with one element more. -/
theorem sepL_cons {J : Type} (j : J) (l : List J) (Φ : J → sProp 𝕄) : bigSepL (j :: l) Φ = iprop(Φ j ∗ bigSepL l Φ) := bigSepL_cons j l Φ

/-! ## Pieces of buffers -/

/-- Chunk `k` of the masked rows on `c`. -/
abbrev partPt (c : Dev nD) (k : Fin 8) (f : S256x1024.Idx → Elt F .bf16) : sProp 𝕄 :=
  (partAt partM k).view.loc (c : Thread nD τ) ↦[(partAt partM k).view.set]{fullShare} f
/-- Chunk `k` of the landing buffer across `z` on `c`. -/
abbrev comPt (c : Dev nD) (k : Fin 8) (f : S256x1024.Idx → Elt F .bf16) : sProp 𝕄 :=
  (partAt comM k).view.loc (c : Thread nD τ) ↦[(partAt comM k).view.set]{fullShare} f
/-- Chunk `k` of the gathered rows on `c`. -/
abbrev gathPt (c : Dev nD) (k : Fin 8) (f : S32x8x1024.Idx → Elt F .f32) : sProp 𝕄 :=
  (gathAt gathM k).view.loc (c : Thread nD τ) ↦[(gathAt gathM k).view.set]{fullShare} f
/-- One gathered row on `c`. -/
abbrev rowPt (c : Dev nD) (k : Fin 8) (t : Fin k0_t1_loop.trips) (u : Fin 8) (f : S32x8x1024.Idx → Elt F .f32) : sProp 𝕄 :=
  (rowAt k t u).view.loc (c : Thread nD τ) ↦[(rowAt k t u).view.set]{fullShare} f
/-- Chunk `k` of the quarter of device `d`, in the result buffer of `c`. -/
abbrev ownPt (d c : Dev nD) (k : Fin 8) (q : PosShare TreeShare) (f : S1024x1024.Idx → Elt F .bf16) : sProp 𝕄 :=
  (ownAt outM d k).view.loc (c : Thread nD τ) ↦[(ownAt outM d k).view.set]{q} f
/-- The number of the share of the table a row's copy reads with. -/
def leafIx (k : Fin 8) (d : Fin 32) : Fin (2 ^ 8) := ⟨32 * k.val + d.val, by omega⟩
/-- The table, with the share that a row's copy reads with. -/
abbrev embPt (I : Ins F) (c : Dev nD) (k : Fin 8) (d : Fin 32) : sProp 𝕄 :=
  embM.view.loc (c : Thread nD τ) ↦[Finset.univ]{leaf 8 fullShare (leafIx k d)} I.emb c

/-- The trip of a row of a chunk. -/
abbrev tOf (d : Fin 32) : Fin k0_t1_loop.trips := trip ⟨d.val / 8, by omega⟩
/-- The place of a row in its trip. -/
abbrev uOf (d : Fin 32) : Fin 8 := ⟨d.val % 8, by omega⟩

/-- Holding a chunk passed on is holding the chunk that the neighbour across `x` owns. -/
theorem over_pt (c d : Dev nD) (k : Fin 8) (q : PosShare TreeShare) (f : S1024x1024.Idx → Elt F .bf16) :
    ((overAt outM c k).view.loc (d : Thread nD τ) ↦[(overAt outM c k).view.set]{q} f : sProp 𝕄) = ownPt (px c) d k q f := by
  unfold ownPt; rw [over_set]

/-! ## Payloads -/

variable (I : Ins F)

/-- What device `b` is told by its neighbour across `z`: the neighbour's landing buffer is its to write. -/
def barZ (b : Dev nD) : sProp 𝕄 :=
  bigSep Finset.univ fun k : Fin 8 => iprop((∃ f, comPt (pz b) k f) ∗ reached ER (cell (pz b) 2 k) 0)
/-- By its neighbour across `x`: its own quarter of the neighbour's result is its to write. -/
def barX (b : Dev nD) : sProp 𝕄 :=
  bigSep Finset.univ fun k : Fin 8 => iprop((∃ f, ownPt b (px b) k fullShare f) ∗ reached ER (cell (px b) 4 k) 0)
/-- By its neighbour across `y`: its own quarter and the one it forwards, of the neighbour's result. -/
def barY (b : Dev nD) : sProp 𝕄 :=
  bigSep Finset.univ fun k : Fin 8 => iprop((∃ f, ownPt b (py b) k fullShare f) ∗ (∃ f, ownPt (px b) (py b) k fullShare f)
    ∗ reached ER (cell (py b) 6 k) 0 ∗ reached ER (cell (py b) 8 k) 0)

/-- What a payment to a chunk's semaphore of the `a`-th array carries. -/
def dmaPay (c : Dev nD) (a : ℕ) (k : Fin 8) (d : Fin 32) : sProp 𝕄 :=
  match a with
  | 0 => iprop(rowPt c k (tOf d) (uOf d) (gathF I c) ∗ embPt I c k d)
  | 1 => partPt c k (partF I c)
  | 2 => comPt c k (partF I (pz c))
  | 3 => ownPt c c k fullShare.left (outF I c)
  | 4 => ownPt (px c) c k fullShare (outF I c)
  | 5 => ownPt c c k fullShare.right (outF I c)
  | 6 => ownPt (py c) c k fullShare (outF I c)
  | 7 => ownPt (px c) c k fullShare (outF I c)
  | 8 => ownPt (px (py c)) c k fullShare (outF I c)
  | _ => iprop(emp)

/-- The duties of a semaphore. -/
def dutiesOf : SemLoc sig → Finset (Fin 32)
  | .reg _ => {0, 1, 2}
  | .dma s => if s.val < 3 then ∅ else if s.val < 11 then Finset.univ else {0}
/-- What a duty of a semaphore pays. -/
def amountOf : SemLoc sig → ℕ
  | .reg _ => 1
  | .dma s => if s.val < 11 then NR else NC
/-- What a duty's payment carries. -/
def payOf (c : Dev nD) (d : Fin 32) : SemLoc sig → sProp 𝕄
  | .reg _ => if d = 0 then barZ c else if d = 1 then barX c else barY c
  | .dma s => dmaPay I c ((s.val - 3) / 8) ⟨(s.val - 3) % 8, Nat.mod_lt _ (by decide)⟩ d

/-- One round on every semaphore of the kernel. -/
def Rd : Rounds.Schedule (GSem nD τ sig) (Fin 32) 𝕄 where
  duties g r := if r = 0 ∧ g.1.2 = .tc then dutiesOf g.2 else ∅
  unitless _ := False
  amount g _ _ := amountOf g.2
  payload g r d := payOf I g.1.1 d g.2
  amount_pos g _ _ _ := by
    unfold amountOf
    split
    · exact Nat.one_pos
    · split
      · exact NR_pos
      · exact NC_pos

/-- What a duty hands over can be stored. -/
instance Rd_storable (g : GSem nD τ sig) (r : ℕ) (d : Fin 32) : BI.Storable (upEmb : UEmb _ 𝕄) ((Rd I).payload g r d) := by
  show BI.Storable upEmb (payOf I g.1.1 d g.2)
  unfold payOf dmaPay barX barY barZ
  (repeat' split) <;> infer_instance

section Sched

variable (c : Dev nD) (a : Fin 9) (k : Fin 8)

/-- The barrier's duties are those of the three neighbours. -/
theorem duties_bar : (Rd I).duties (barCell c) 0 = {0, 1, 2} := by
  show (if 0 = 0 ∧ (c : Thread nD τ).2 = .tc then dutiesOf (.reg barS) else ∅) = _
  rw [if_pos ⟨rfl, rfl⟩]; rfl
/-- A gather semaphore's duties are the thirty-two rows. -/
theorem duties_g : (Rd I).duties (cell c 0 k) 0 = Finset.univ := by
  show (if 0 = 0 ∧ (c : Thread nD τ).2 = .tc then dutiesOf (.dma (dsem 0 k)) else ∅) = _
  rw [if_pos ⟨rfl, rfl⟩]
  show (if 3 + 8 * 0 + k.val < 3 then ∅ else if 3 + 8 * 0 + k.val < 11 then (Finset.univ : Finset (Fin 32)) else {0}) = _
  rw [if_neg (by omega), if_pos (by omega)]
/-- Every other semaphore has one duty. -/
theorem duties_c (ha : a ≠ 0) : (Rd I).duties (cell c a k) 0 = {0} := by
  have : 1 ≤ a.val := Nat.one_le_iff_ne_zero.mpr fun h => ha (Fin.ext h)
  show (if 0 = 0 ∧ (c : Thread nD τ).2 = .tc then dutiesOf (.dma (dsem a k)) else ∅) = _
  rw [if_pos ⟨rfl, rfl⟩]
  show (if 3 + 8 * a.val + k.val < 3 then ∅ else if 3 + 8 * a.val + k.val < 11 then (Finset.univ : Finset (Fin 32)) else {0}) = _
  rw [if_neg (by omega), if_neg (by omega)]
/-- After the first round there are no duties. -/
theorem duties_later (g : GSem nD τ sig) : ∀ r, 1 ≤ r → (Rd I).duties g r = ∅ :=
  fun r hr => if_neg fun h => by omega

/-- A neighbour's signal is of one. -/
theorem amount_bar (d : Fin 32) : (Rd I).amount (barCell c) 0 d = 1 := rfl
/-- A row's copy pays a row. -/
theorem amount_g (d : Fin 32) : (Rd I).amount (cell c 0 k) 0 d = NR := by
  show (if 3 + 8 * 0 + k.val < 11 then NR else NC) = _
  rw [if_pos (by omega)]
/-- Every other copy pays a chunk. -/
theorem amount_c (ha : a ≠ 0) (d : Fin 32) : (Rd I).amount (cell c a k) 0 d = NC := by
  have : 1 ≤ a.val := Nat.one_le_iff_ne_zero.mpr fun h => ha (Fin.ext h)
  show (if 3 + 8 * a.val + k.val < 11 then NR else NC) = _
  rw [if_neg (by omega)]

/-- A barrier is paid three in all. -/
theorem expect_bar : (Rd I).expect (barCell c) 0 = 3 := by
  unfold Schedule.expect Schedule.amountOf; rw [duties_bar]; rfl
/-- A gather semaphore is paid thirty-two rows in all. -/
theorem expect_g : (Rd I).expect (cell c 0 k) 0 = 32 * NR := by
  unfold Schedule.expect Schedule.amountOf
  rw [duties_g, Finset.sum_congr rfl (fun d _ => amount_g I c k d), Finset.sum_const, Finset.card_univ, Fintype.card_fin, smul_eq_mul]
/-- Every other semaphore is paid a chunk in all. -/
theorem expect_c (ha : a ≠ 0) : (Rd I).expect (cell c a k) 0 = NC := by
  unfold Schedule.expect Schedule.amountOf; rw [duties_c I c a k ha, Finset.sum_singleton, amount_c I c a k ha]

/-- What a copy's duty hands over. -/
theorem payload_c (d : Fin 32) : (Rd I).payload (cell c a k) 0 d = dmaPay I c a.val k d := by
  show dmaPay I c ((3 + 8 * a.val + k.val - 3) / 8) ⟨(3 + 8 * a.val + k.val - 3) % 8, _⟩ d = _
  have h1 : (3 + 8 * a.val + k.val - 3) / 8 = a.val := by omega
  have h2 : (⟨(3 + 8 * a.val + k.val - 3) % 8, Nat.mod_lt _ (by decide)⟩ : Fin 8) = k := Fin.ext (by show (3 + 8 * a.val + k.val - 3) % 8 = k.val; omega)
  rw [h1, h2]
/-- What the neighbour across `z` hands over at the barrier. -/
theorem payload_bz : (Rd I).payload (barCell c) 0 0 = barZ c := rfl
/-- What the neighbour across `x` hands over at the barrier. -/
theorem payload_bx : (Rd I).payload (barCell c) 0 1 = barX c := rfl
/-- What the neighbour across `y` hands over at the barrier. -/
theorem payload_by : (Rd I).payload (barCell c) 0 2 = barY c := rfl

/-- What a wait for a copy gives. -/
theorem rest_c (ha : a ≠ 0) : bigSep ((Rd I).duties (cell c a k) 0 \ ∅) (fun d => (Rd I).payload (cell c a k) 0 d) = dmaPay I c a.val k 0 := by
  rw [Finset.sdiff_empty, duties_c I c a k ha, bigSep_singleton, payload_c]
/-- What the wait for a gather gives. -/
theorem rest_g : bigSep ((Rd I).duties (cell c 0 k) 0 \ ∅) (fun d => (Rd I).payload (cell c 0 k) 0 d)
    = bigSep Finset.univ fun d => iprop(rowPt c k (tOf d) (uOf d) (gathF I c) ∗ embPt I c k d) := by
  rw [Finset.sdiff_empty, duties_g]
  exact bigSep_congr fun d _ => payload_c I c 0 k d
/-- What the wait on the barrier gives. -/
theorem rest_bar : bigSep ((Rd I).duties (barCell c) 0 \ ∅) (fun d => (Rd I).payload (barCell c) 0 d) = iprop(barZ c ∗ barX c ∗ barY c) := by
  rw [Finset.sdiff_empty, duties_bar, bigSep_insert (by decide), bigSep_insert (by decide), bigSep_singleton]
  rfl

end Sched

/-! ## What a device still has to pay other devices, in the order it pays -/

/-- A payment to another device. -/
inductive Site
  | bz | bx | by'
  | zr (k : Fin 8) | xr (k : Fin 8) | yr (k : Fin 8) | wr (k : Fin 8)
  deriving DecidableEq

/-- The neighbour it goes to. -/
def Site.to : Site → Dev nD ≃ Dev nD
  | .bz => pzE | .bx => pxE | .by' => pyE
  | .zr _ => pzE | .xr _ => pxE | .yr _ => pyE | .wr _ => pyE
/-- The semaphore it pays. -/
def Site.sem : Site → SemLoc sig
  | .bz => .reg barS | .bx => .reg barS | .by' => .reg barS
  | .zr k => .dma (dsem 2 k) | .xr k => .dma (dsem 4 k) | .yr k => .dma (dsem 6 k) | .wr k => .dma (dsem 8 k)
/-- How much it pays. -/
def Site.amt : Site → ℕ
  | .bz => 1 | .bx => 1 | .by' => 1
  | .zr _ => NC | .xr _ => NC | .yr _ => NC | .wr _ => NC

/-- The tally of the payments of a list, on device `c`. -/
def tallyS (c : Dev nD) : List Site → CellTallies nD τ sig Unit
  | [] => 0
  | s :: l => tallyS c l + tallyAt ((s.to c : Thread nD τ), s.sem) () s.amt

/-- The levels of the semaphores. -/
def lvOf : SemLoc sig → ℕ
  | .reg _ => 1
  | .dma s => if s.val < 3 then 0 else match (s.val - 3) / 8 with
    | 2 => 2 * ((s.val - 3) % 8) + 2
    | 4 => 2 * ((s.val - 3) % 8) + 3
    | 6 => 2 * ((s.val - 3) % 8) + 3
    | 8 => 100
    | _ => 0
/-- A cell's level. -/
def lv (g : GSem nD τ sig) (_ : Unit) : ℕ := lvOf g.2
/-- The cells that have a level are those of the TensorCores. -/
def L (g : GSem nD τ sig) : Finset Unit := if g.1.2 = .tc then {()} else ∅

/-- Other threads' cells have no level. -/
theorem L_of_ne (g : GSem nD τ sig) (h : g.1.2 ≠ .tc) : L g = ∅ := if_neg h
/-- A TensorCore's cells have one. -/
theorem L_tc (c : Dev nD) (sm : SemLoc sig) : L ((c : Thread nD τ), sm) = {()} := if_pos rfl

/-- Where a list's tally is positive. -/
theorem tallyS_pos {c : Dev nD} {l : List Site} {g : GSem nD τ sig} {u : Unit} (h : 0 < tallyS c l g u) :
    ∃ s ∈ l, g = ((s.to c : Thread nD τ), s.sem) := by
  induction l with
  | nil => exact absurd h (Nat.lt_irrefl 0)
  | cons s l ih =>
    rw [tallyS, Pi.add_apply, Finsupp.add_apply] at h
    rcases Nat.add_pos_iff_pos_or_pos.mp h with h | h
    · obtain ⟨s', hs, e⟩ := ih h
      exact ⟨s', List.mem_cons_of_mem _ hs, e⟩
    · exact ⟨s, List.mem_cons_self, (Pipeline.tallyAt_pos h).1⟩

/-- A device may wait on a semaphore whose level is below every one it still has to pay. -/
theorem mayWait (c : Dev nD) (sm : SemLoc sig) (l : List Site) (h : ∀ s ∈ l, lvOf sm < lvOf s.sem) :
    (levAts L lv : sProp 𝕄) ⊢ MayWait (c : Thread nD τ) sm () (tallyS c l) :=
  MayOwe.of_cut (L := L) (lev := lv) (lvOf sm) (fun p hp => by rw [Finset.mem_singleton.mp hp, L_tc]; exact Finset.mem_singleton_self _)
    (fun g u hg => by obtain ⟨s, -, rfl⟩ := tallyS_pos hg; rw [L_tc]; exact Finset.mem_singleton_self _)
    (fun p hp => by rw [Finset.mem_singleton.mp hp]; exact le_rfl)
    (fun g u hg => by obtain ⟨s, hs, rfl⟩ := tallyS_pos hg; exact h s hs)

/-! ## The semaphores' invariants -/

/-- The barrier cells. -/
def barCells : Finset (GSem nD τ sig) := Finset.univ.map ⟨barCell, fun c c' h => congrArg (fun g : GSem nD τ sig => g.1.1) h⟩
/-- The copies' cells. -/
def dmaCells : Finset (GSem nD τ sig) :=
  (Finset.univ : Finset (Dev nD × Fin 9 × Fin 8)).map ⟨fun x => cell x.1 x.2.1 x.2.2, fun x y h => by
    obtain ⟨h1, h2, h3⟩ := cell_inj h
    exact Prod.ext h1 (Prod.ext h2 h3)⟩

/-- All the cells' invariants, at their names. -/
def recs (K : GSem nD τ sig → ℕ) : sProp 𝕄 := bigSep (barCells ∪ dmaCells) fun g => cellInv ER (Rd I) (K g) g

/-- The invariants can be kept. -/
instance recs_persistent (K : GSem nD τ sig → ℕ) : BI.Persistent (recs I K) := by unfold recs; infer_instance

/-- The invariant of a cell, from all of them. -/
theorem recs_get (K : GSem nD τ sig → ℕ) {g : GSem nD τ sig} (hg : g ∈ barCells ∪ dmaCells) : recs I K ⊢ cellInv ER (Rd I) (K g) g :=
  by
  unfold recs
  rw [bigSep_erase hg]
  exact sep_elim_left
/-- The invariant of a barrier cell. -/
theorem recs_bar (K : GSem nD τ sig → ℕ) (c : Dev nD) : recs I K ⊢ cellInv ER (Rd I) (K (barCell c)) (barCell c) :=
  recs_get I K (Finset.mem_union_left _ (Finset.mem_map.mpr ⟨c, Finset.mem_univ _, rfl⟩))
/-- The invariant of a copy's cell. -/
theorem recs_cell (K : GSem nD τ sig → ℕ) (c : Dev nD) (a : Fin 9) (k : Fin 8) : recs I K ⊢ cellInv ER (Rd I) (K (cell c a k)) (cell c a k) :=
  recs_get I K (Finset.mem_union_right _ (Finset.mem_map.mpr ⟨(c, a, k), Finset.mem_univ _, rfl⟩))

end Cert.Proof.KI
-- ==== Proof.Gather.lean ====
/- The gather of a chunk: thirty-two rows of the table copied by the row numbers read. -/
module

public import proofs.«01_k».proof.Proof.Proto

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

/-- No loop of the body needs a variant of its own. -/
abbrev 𝒱₀ : Variants := Variants.none

variable (I : Ins F) (K : GSem nD τ sig → ℕ) (c : Dev nD) (k : Fin 8)

/-- The ids the kernel reads, on `c`. -/
abbrev idsPt : sProp 𝕄 := idsM.view.loc (c : Thread nD τ) ↦[Finset.univ]{fullShare} I.ids c

/-- The number of a row in its chunk. -/
abbrev rowNo (t : Fin k0_t1_loop.trips) (u : Fin 8) : Fin 32 := ⟨8 * t.val + u.val, by have : t.val < 4 := t.isLt; omega⟩

/-- What a row's copy needs. -/
def rowRes (t : Fin k0_t1_loop.trips) (u : Fin 8) : sProp 𝕄 :=
  iprop((∃ f, rowPt c k t u f) ∗ embPt I c k (rowNo t u) ∗ dutyTok ER (cell c 0 k) 0 (rowNo t u))

/-- The rest of the table beside a row's source. -/
theorem emb_split (v : BitVec 32) (hw : k0_chk1 v) (q : PosShare TreeShare) :
    (embM.view.loc (c : Thread nD τ) ↦[Finset.univ]{q} I.emb c : sProp 𝕄)
      ⊣⊢ iprop(((embRow v hw).view.loc (c : Thread nD τ) ↦[(embRow v hw).view.set]{q} I.emb c)
        ∗ (embM.view.loc (c : Thread nD τ) ↦[Finset.univ \ (embRow v hw).view.set]{q} I.emb c)) :=
  pointsTo_split_subset (Finset.subset_univ _)

/-- The row number a row's copy reads. -/
abbrev rowId (t : Fin k0_t1_loop.trips) (u : Fin 8) : BitVec 32 :=
  I.ids c (ix1 (⟨256 * (qOf c).val + 32 * k.val + 8 * t.val + u.val, by
      have ht : t.val < 4 := t.isLt
      have := (qOf c).isLt
      have := k.isLt
      have := u.isLt
      omega⟩ : Fin 1024))

/-- The clipped row number that a trip reads is the token's. -/
theorem id_read (t : Fin k0_t1_loop.trips) (u : Fin 8) (x : S1.Idx) :
    (idsM.access (Rect.unit (s := S1024) (idOff c k t u) S1.size (idOff_inb c k t u))).read (Elt F) (I.ids c) x = rowId I c k t u := by
  have hx : (x 0).val = 0 := by have : (x 0).val < 1 := (x 0).isLt; omega
  show I.ids c ((Rect.unit (s := S1024) (idOff c k t u) S1.size (idOff_inb c k t u)).emb x) = _
  refine congrArg (I.ids c) (funext fun d => Fin.ext ?_)
  match d with
  | ⟨0, _⟩ =>
    show idOff c k t u 0 + 1 * (x 0).val = 256 * (qOf c).val + 32 * k.val + 8 * t.val + u.val
    rw [idOff_eq, hx]; rfl

set_option maxHeartbeats 1000000 in
/-- The copy of a row whose number has been read. -/
theorem row_copy (t : Fin k0_t1_loop.trips) (u : Fin 8) (v : BitVec 32) (hv : v = rowId I c k t u) (hw : k0_chk1 v) {β : Type}
    (s : DmaSem sig) (hs : s = dsem 0 k) {h1 h2 h3} (kk : PUnit → Prog (TpuEff nD τ sig (Elt F) Λ₀ .tc) β) (Q : β → sProp 𝕄) :
    iprop(recs I K ∗ reached ER (cell c 0 k) 0 ∗ rowRes I c k t u)
      ⊢ iprop((cred (tallyAt (cell c 0 k) () NR) -∗ wp frame (wpE (defs₀ (F := F)) 𝒱₀ c none) Set.univ (kk ⟨⟩) Q)
        -∗ wp frame (wpE (defs₀ (F := F)) 𝒱₀ c none) Set.univ
            (.op (.enqueueDma (embRow v hw) (.here (rowAt k t u)) (.dma s) h1 h2 h3) kk) Q) := by
  subst hs
  unfold rowRes
  have ht : tOf (rowNo t u) = t := Fin.ext (by show (8 * t.val + u.val) / 8 = t.val; omega)
  have hu : uOf (rowNo t u) = u := Fin.ext (by show (8 * t.val + u.val) % 8 = u.val; omega)
  have hpay (f : S32x8x1024.Idx → Elt F .f32) : iprop((((rowAt k t u).view.loc (c : Thread nD τ) ↦[(rowAt k t u).view.set]{fullShare}
        ((rowAt k t u).view.write (Elt F) f ((embRow v hw).view.read (Elt F) (I.emb c)) Finset.univ))
        ∗ (embM.view.loc (c : Thread nD τ) ↦[Finset.univ \ (embRow v hw).view.set]{leaf 8 fullShare (leafIx k (rowNo t u))} I.emb c))
        ∗ ((embRow v hw).view.loc (c : Thread nD τ) ↦[(embRow v hw).view.set]{leaf 8 fullShare (leafIx k (rowNo t u))} I.emb c))
      ⊢ ((Rd I).payload (cell c 0 k) 0 (rowNo t u) : sProp 𝕄) := by
    rw [payload_c]
    show _ ⊢ iprop(rowPt c k (tOf (rowNo t u)) (uOf (rowNo t u)) (gathF I c) ∗ embPt I c k (rowNo t u))
    rw [ht, hu, pointsTo_congr (write_eq (rowAt k t u).view f (gathF I c) _ (row_read I c k t u v hw hv))]
    iintro ⟨⟨Hd, Hrest⟩, Hsrc⟩
    isplitl [Hd]
    · iexact Hd
    · iapply (emb_split I c v hw _).2
      isplitl [Hsrc]; · iexact Hsrc
      iexact Hrest
  iintro ⟨#HI, #Hr, ⟨%f, Hrow⟩, Hemb, Htok⟩ Hk
  ihave Hemb := (emb_split I c v hw _).1 $$ Hemb
  icases Hemb with ⟨Hsrc, Hrest⟩
  ihave Hw := (pointsTo_writeUpdate (c : Thread nD τ) (v := (rowAt k t u).view) (w := (embRow v hw).view.read (Elt F) (I.emb c)) subset_rfl) $$ Hrow
  icombine Hw Hrest as Hw
  ihave Hw := (writeUpdate_frame (c : Thread nD τ)) $$ Hw
  iapply (Rounds.wp_copy 𝒱₀ ER (Rd I) (c : Thread nD τ) none (src := embRow v hw) (dst := rowAt k t u) (sem := .dma (dsem 0 k)) (k := kk)
      (q := leaf 8 fullShare (leafIx k (rowNo t u))) (fs := I.emb c) (κ := K (cell c 0 k)) (r := 0) (d := rowNo t u)
      (by rw [duties_g]; exact Finset.mem_univ _) () NR (row_credit k t u) (amount_g I c k _) (hpay f)) $$ [Hw Hsrc Htok]
  · isplitr; · iapply (recs_cell I K c 0 k); iexact HI
    isplitl [Hsrc]; · iexact Hsrc
    isplitl [Hw]; · iexact Hw
    isplitl [Htok]; · iexact Htok
    iexact Hr
  iexact Hk

set_option maxHeartbeats 1000000 in
/-- One row: its copy is started, and its amount may be waited for. -/
theorem row_step (hids : ∀ c i, k0_chk1 (I.ids c i)) (t : Fin k0_t1_loop.trips) (u : Fin 8) {β : Type}
    (kk : PUnit → Prog (TpuEff nD τ sig (Elt F) Λ₀ .tc) β) (Q : β → sProp 𝕄) :
    iprop(recs I K ∗ reached ER (cell c 0 k) 0 ∗ idsPt I c ∗ rowRes I c k t u)
      ⊢ iprop(((idsPt I c ∗ cred (tallyAt (cell c 0 k) () NR)) -∗ wp frame (wpE (defs₀ (F := F)) 𝒱₀ c none) Set.univ (kk ⟨⟩) Q)
        -∗ wp frame (wpE (defs₀ (F := F)) 𝒱₀ c none) Set.univ (rowProg idsM embM gathM cc0_scratch3 c k t u >>= kk) Q) := by
  unfold rowProg smemLoad
  have hchk (x : S1.Idx) : k0_chk1 ((idsM.access (Rect.unit (s := S1024) (idOff c k t u) S1.size (idOff_inb c k t u))).read (Elt F) (I.ids c) x) := by
    rw [id_read]; exact hids _ _
  iintro ⟨#HI, #Hr, Hids, Hres⟩ Hk
  simp only [bind_assoc, Prog.lift, Prog.bind_op, Prog.bind_ret]
  iapply (wp_load_rect 𝒱₀ (c : Thread nD τ) none Set.univ (m := idsM) (S := Finset.univ) (q := fullShare) (f := I.ids c) (Finset.subset_univ _)) $$ [Hids]
  · iexact Hids
  iintro Hids
  iapply (wp_assume 𝒱₀ (c : Thread nD τ) none Set.univ (hchk _))
  iapply (row_copy I K c k t u _ (id_read I c k t u _) (hchk _) _ (sem_g k) kk Q) $$ [Hres]
  · isplitr; · iexact HI
    isplitr; · iexact Hr
    iexact Hres
  iintro Hc
  iapply Hk
  isplitl [Hids] <;> iassumption

/-- The rows of one trip, in order. -/
theorem trip_step (hids : ∀ c i, k0_chk1 (I.ids c i)) (t : Fin k0_t1_loop.trips) (us : List (Fin 8)) (n : ℕ) (Q : PUnit → sProp 𝕄) :
    iprop(recs I K ∗ reached ER (cell c 0 k) 0 ∗ idsPt I c ∗ cred (tallyAt (cell c 0 k) () n) ∗ bigSepL us (rowRes I c k t))
      ⊢ iprop(((idsPt I c ∗ cred (tallyAt (cell c 0 k) () (n + us.length * NR))) -∗ Q ⟨⟩)
        -∗ wp frame (wpE (defs₀ (F := F)) 𝒱₀ c none) Set.univ (seqL (us.map (rowProg idsM embM gathM cc0_scratch3 c k t))) Q) := by
  induction us generalizing n with
  | nil =>
    rw [List.map_nil, List.length_nil, Nat.zero_mul, Nat.add_zero]
    show _ ⊢ iprop(_ -∗ wp _ _ _ (Prog.ret _) _)
    rw [wp_ret]
    iintro ⟨-, -, Hids, Hc, -⟩ Hk
    imodintro
    iapply Hk
    isplitl [Hids] <;> iassumption
  | cons u us ih =>
    rw [List.map_cons, List.length_cons, sepL_cons]
    show _ ⊢ iprop(_ -∗ wp _ _ _ (rowProg idsM embM gathM cc0_scratch3 c k t u >>= fun _ => seqL (us.map (rowProg idsM embM gathM cc0_scratch3 c k t))) _)
    iintro ⟨#HI, #Hr, Hids, Hc, Hu, Hus⟩ Hk
    iapply (row_step I K c k hids t u _ _) $$ [Hids Hu]
    · isplitr; · iexact HI
      isplitr; · iexact Hr
      isplitl [Hids] <;> iassumption
    iintro ⟨Hids, Hc'⟩
    icombine Hc Hc' as Hc
    rw [tallyAt_add]
    iapply (ih (n + NR)) $$ [Hids Hc Hus]
    · isplitr; · iexact HI
      isplitr; · iexact Hr
      isplitl [Hids]; · iexact Hids
      isplitl [Hc] <;> iassumption
    rw [show n + NR + us.length * NR = n + (us.length + 1) * NR by ring]
    iexact Hk

/-- The trips still to come. -/
abbrev later (n : ℕ) : Finset (Fin k0_t1_loop.trips) := Finset.univ.filter fun t => n ≤ t.val

/-- What a chunk's gather keeps from one trip to the next. -/
def gathInv (n : ℕ) (_ : PUnit) : sProp 𝕄 :=
  iprop(recs I K ∗ reached ER (cell c 0 k) 0 ∗ idsPt I c ∗ cred (tallyAt (cell c 0 k) () (n * (8 * NR)))
    ∗ bigSep (later n) fun t => bigSepL [0, 1, 2, 3, 4, 5, 6, 7] (rowRes I c k t))

/-- The trips from one on are that trip and those after it. -/
theorem later_succ (t : Fin k0_t1_loop.trips) : later t.val = insert t (later (t.val + 1)) := by
  ext s
  simp only [Finset.mem_filter, Finset.mem_univ, _root_.true_and, Finset.mem_insert]
  constructor
  · intro h
    by_cases e : s = t
    · exact .inl e
    · exact .inr (by have : s.val ≠ t.val := fun h' => e (Fin.ext h'); omega)
  · rintro (rfl | h)
    · exact le_rfl
    · omega

/-- A chunk's gather: every row's copy started. -/
theorem gather_run (hids : ∀ c i, k0_chk1 (I.ids c i)) (Q : PUnit → sProp 𝕄) :
    iprop(recs I K ∗ reached ER (cell c 0 k) 0 ∗ idsPt I c
        ∗ bigSep Finset.univ fun t : Fin k0_t1_loop.trips => bigSepL [0, 1, 2, 3, 4, 5, 6, 7] (rowRes I c k t))
      ⊢ iprop(((idsPt I c ∗ cred (tallyAt (cell c 0 k) () (32 * NR))) -∗ Q ⟨⟩)
        -∗ wp frame (wpE (defs₀ (F := F)) 𝒱₀ c none) Set.univ (gatherProg idsM embM gathM cc0_scratch3 c k) Q) := by
  have hbody (t : Fin k0_t1_loop.trips) (acc : PUnit) : gathInv I K c k t.val acc
      ⊢ wp frame (wpE (defs₀ (F := F)) 𝒱₀ c none) Set.univ (seqL ([0, 1, 2, 3, 4, 5, 6, 7].map (rowProg idsM embM gathM cc0_scratch3 c k t)))
          (gathInv I K c k (t.val + 1)) := by
    unfold gathInv
    rw [later_succ, sep_insert (by simp)]
    iintro ⟨#HI, #Hr, Hids, Hc, Ht, Hrest⟩
    iapply (trip_step I K c k hids t _ _ _) $$ [Hids Hc Ht]
    · isplitr; · iexact HI
      isplitr; · iexact Hr
      isplitl [Hids]; · iexact Hids
      isplitl [Hc] <;> iassumption
    iintro ⟨Hids, Hc⟩
    isplitr; · iexact HI
    isplitr; · iexact Hr
    isplitl [Hids]; · iexact Hids
    isplitl [Hc]
    · rw [show (t.val + 1) * (8 * NR) = t.val * (8 * NR) + [0, 1, 2, 3, 4, 5, 6, (7 : Fin 8)].length * NR by
        show _ = _ + 8 * NR; ring]
      iexact Hc
    · iexact Hrest
  have hl : later 0 = Finset.univ := by ext; simp
  have hf : later 4 = ∅ := by
    ext s
    simp only [Finset.mem_filter, Finset.mem_univ, _root_.true_and, Finset.notMem_empty, iff_false]
    have : s.val < 4 := s.isLt
    omega
  iintro ⟨#HI, #Hr, Hids, Hres⟩ Hk
  unfold gatherProg
  iapply (Scf.wp_for frame (wpE (defs₀ (F := F)) 𝒱₀ c none) Set.univ _ _ _ _ _ _ (gathInv I K c k) hbody)
  isplitr [Hk]
  · unfold gathInv
    isplitr; · iexact HI
    isplitr; · iexact Hr
    isplitl [Hids]; · iexact Hids
    isplitr
    · rw [Nat.zero_mul, tallyAt_zero, cred_zero]; iempintro
    · rw [hl]; iexact Hres
  · iintro %acc Hinv
    unfold gathInv
    icases Hinv with ⟨-, -, Hids, Hc, -⟩
    iapply Hk
    isplitl [Hids]; · iexact Hids
    rw [show 32 * NR = Scf.trips k0_t1_loop.lb k0_t1_loop.ub k0_t1_loop.st * (8 * NR) by
      show _ = 4 * (8 * NR); ring]
    iexact Hc

end Cert.Proof.KI
-- ==== Proof.Steps.lean ====
/- The stages of a chunk, one after the other. -/
module

public import proofs.«01_k».proof.Proof.Gather

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD) (k : Fin 8)

/-- What `c` owes: the payments of a list. -/
def owesL (l : List Site) : sProp 𝕄 := iprop(∃ W, owes (c : Thread nD τ) (tallyS c l) W)

/-- The program from here on. -/
abbrev run {β : Type} (p : Prog (TpuEff nD τ sig (Elt F) Λ₀ .tc) β) (Q : β → sProp 𝕄) : sProp 𝕄 :=
  wp frame (wpE (defs₀ (F := F)) 𝒱₀ c none) Set.univ p Q

/-- A wait on a chunk's semaphore of one duty. -/
theorem wait_step (a : Fin 9) (ha : a ≠ 0) {s : DmaSem sig} (hs : s = dsem a k) {sp sp' : Space} {sh : Shape} {e : EltTy}
    {src : Memref sig .tc sp sh e} {dst : Memref sig .tc sp' sh e} {h1 h2} (hN : dst.view.dmaCredit = NC) (l : List Site)
    (hl : ∀ x ∈ l, lvOf (.dma (dsem a k)) < lvOf x.sem) {β : Type} (kk : PUnit → Prog (TpuEff nD τ sig (Elt F) Λ₀ .tc) β) (Q : β → sProp 𝕄) :
    iprop(recs I K ∗ levAts L lv ∗ cred (tallyAt (cell c a k) () NC) ∗ owesL c l ∗ atPos ER (cell c a k) 0 ∅ 0)
      ⊢ iprop(((owesL c l ∗ atPos ER (cell c a k) 1 ∅ 0 ∗ dmaPay I c a.val k 0) -∗ run c (kk ⟨⟩) Q)
        -∗ run c (.op (.waitDma2 s src dst h1 h2) kk) Q) := by
  subst hs
  unfold owesL
  iintro ⟨#HI, #Hlev, Hc, ⟨%W, HO⟩, Hat⟩ Hk
  iapply (Rounds.wp_wait_rest_token 𝒱₀ ER (Rd I) (c : Thread nD τ) none (κ := K (cell c a k))
      (wpE_waitDma2_eq (src := src) (dst := dst) 𝒱₀ (c : Thread nD τ) none Set.univ) (Set.mem_univ _) () (O := tallyS c l) (W := W) (R := 0) (m := 0) (T := ∅)
      (by rw [hN, Nat.zero_add, expect_c I c a k ha])) $$ [Hc HO Hat]
  · isplitr; · iapply (recs_cell I K c a k); iexact HI
    isplitl [Hc]; · rw [hN]; iexact Hc
    isplitl [HO]; · iexact HO
    isplitr; · iapply (mayWait c _ l hl); iexact Hlev
    iexact Hat
  iintro ⟨HO, Hat, -, Hpay⟩
  ihave Hp := (Entails.of_eq (rest_c I c a k ha)) $$ Hpay
  iapply Hk
  isplitl [HO]; · iexists _; iexact HO
  isplitl [Hat] <;> iassumption

/-- The wait for a chunk's rows. -/
theorem wait_rows {s : DmaSem sig} (hs : s = dsem 0 k) {sp sp' : Space} {sh : Shape} {e : EltTy}
    {src : Memref sig .tc sp sh e} {dst : Memref sig .tc sp' sh e} {h1 h2} (hN : dst.view.dmaCredit = 32 * NR) (l : List Site)
    (hl : ∀ x ∈ l, lvOf (.dma (dsem 0 k)) < lvOf x.sem) {β : Type} (kk : PUnit → Prog (TpuEff nD τ sig (Elt F) Λ₀ .tc) β) (Q : β → sProp 𝕄) :
    iprop(recs I K ∗ levAts L lv ∗ cred (tallyAt (cell c 0 k) () (32 * NR)) ∗ owesL c l ∗ atPos ER (cell c 0 k) 0 ∅ 0)
      ⊢ iprop(((owesL c l ∗ atPos ER (cell c 0 k) 1 ∅ 0 ∗ bigSep Finset.univ fun d => iprop(rowPt c k (tOf d) (uOf d) (gathF I c) ∗ embPt I c k d)) -∗ run c (kk ⟨⟩) Q)
        -∗ run c (.op (.waitDma2 s src dst h1 h2) kk) Q) := by
  subst hs
  unfold owesL
  iintro ⟨#HI, #Hlev, Hc, ⟨%W, HO⟩, Hat⟩ Hk
  iapply (Rounds.wp_wait_rest_token 𝒱₀ ER (Rd I) (c : Thread nD τ) none (κ := K (cell c 0 k))
      (wpE_waitDma2_eq (src := src) (dst := dst) 𝒱₀ (c : Thread nD τ) none Set.univ) (Set.mem_univ _) () (O := tallyS c l) (W := W) (R := 0) (m := 0) (T := ∅)
      (by rw [hN, Nat.zero_add, expect_g I c k])) $$ [Hc HO Hat]
  · isplitr; · iapply (recs_cell I K c 0 k); iexact HI
    isplitl [Hc]; · rw [hN]; iexact Hc
    isplitl [HO]; · iexact HO
    isplitr; · iapply (mayWait c _ l hl); iexact Hlev
    iexact Hat
  iintro ⟨HO, Hat, -, Hpay⟩
  ihave Hp := (Entails.of_eq (rest_g I c k)) $$ Hpay
  iapply Hk
  isplitl [HO]; · iexists _; iexact HO
  isplitl [Hat] <;> iassumption

/-- A copy across `z` pays the neighbour across `z`. -/
theorem to_zr : (Site.zr k).to c = pz c := rfl
/-- A copy across `x` pays the neighbour across `x`. -/
theorem to_xr : (Site.xr k).to c = px c := rfl
/-- The first copy across `y` pays the neighbour across `y`. -/
theorem to_yr : (Site.yr k).to c = py c := rfl
/-- The second copy across `y` pays the neighbour across `y`. -/
theorem to_wr : (Site.wr k).to c = py c := rfl
/-- The semaphore that a copy across `z` pays. -/
theorem sem_ofzr : (Site.zr k).sem = .dma (dsem 2 k) := rfl
/-- The semaphore that a copy across `x` pays. -/
theorem sem_ofxr : (Site.xr k).sem = .dma (dsem 4 k) := rfl
/-- The semaphore that the first copy across `y` pays. -/
theorem sem_ofyr : (Site.yr k).sem = .dma (dsem 6 k) := rfl
/-- The semaphore that the second copy across `y` pays. -/
theorem sem_ofwr : (Site.wr k).sem = .dma (dsem 8 k) := rfl
/-- A copy across `z` pays a chunk. -/
theorem amt_zr : (Site.zr k).amt = NC := rfl
/-- A copy across `x` pays a chunk. -/
theorem amt_xr : (Site.xr k).amt = NC := rfl
/-- The first copy across `y` pays a chunk. -/
theorem amt_yr : (Site.yr k).amt = NC := rfl
/-- The second copy across `y` pays a chunk. -/
theorem amt_wr : (Site.wr k).amt = NC := rfl
/-- The neighbour across `z`, as the kernel computes it. -/
theorem dev_z : pz c = (⟨k0_dev1 c, k0_dev1_lt c⟩ : Dev nD) := rfl
/-- The neighbour across `x`, as the kernel computes it. -/
theorem dev_x : px c = (⟨k0_dev2 c, k0_dev2_lt c⟩ : Dev nD) := rfl
/-- The neighbour across `y`, as the kernel computes it. -/
theorem dev_y : py c = (⟨k0_dev3 c, k0_dev3_lt c⟩ : Dev nD) := rfl

/-- A chunk sent to a neighbour. -/
theorem send_step (a b : Fin 9) (ha : a ≠ 0) (hb : b ≠ 0) (x : Site) (hx : x.sem = .dma (dsem b k)) (hxa : x.amt = NC) (c' : Dev nD) (hc : x.to c = c') {d : Dev nD} (hd : c' = d)
    {s₁ s₂ : DmaSem sig} (hs₁ : s₁ = dsem a k) (hs₂ : s₂ = dsem b k)
    {src dst : Memref sig .tc .vmem S32x1024 .bf16} {hsc h1 h2 h3} (hN : dst.view.dmaCredit = NC)
    (q : PosShare TreeShare) (fs : Buf (Elt F) (src.view.loc (c : Thread nD τ))) (fd : Buf (Elt F) (dst.view.loc (c' : Thread nD τ)))
    (hpay₁ : (src.view.loc (c : Thread nD τ) ↦[src.view.set]{q} fs : sProp 𝕄) ⊢ dmaPay I c a.val k 0)
    (hpay₂ : (dst.view.loc (c' : Thread nD τ) ↦[dst.view.set]{fullShare} (dst.view.write (Elt F) fd (src.view.read (Elt F) fs) Finset.univ) : sProp 𝕄)
      ⊢ dmaPay I c' b.val k 0) (l : List Site) {β : Type} (kk : PUnit → Prog (TpuEff nD τ sig (Elt F) Λ₀ .tc) β) (Q : β → sProp 𝕄) :
    iprop(recs I K ∗ (src.view.loc (c : Thread nD τ) ↦[src.view.set]{q} fs) ∗ (dst.view.loc (c' : Thread nD τ) ↦[dst.view.set]{fullShare} fd)
        ∗ owesL c (x :: l) ∗ (dutyTok ER (cell c a k) 0 0 ∗ reached ER (cell c a k) 0) ∗ (dutyTok ER (cell c' b k) 0 0 ∗ reached ER (cell c' b k) 0))
      ⊢ iprop(((cred (tallyAt (cell c a k) () NC) ∗ owesL c l) -∗ run c (kk ⟨⟩) Q)
        -∗ run c (.op (.enqueueDma src (.remote (Dev.tc d) dst (.dma s₁) hsc) (.dma s₂) h1 h2 h3) kk) Q) := by
  subst hs₁ hs₂ hd
  unfold owesL
  have hO : tallyS c (x :: l) = tallyS c l + tallyAt (cell c' b k) () NC := by
    rw [tallyS, hx, hxa, hc]
  iintro ⟨#HI, Hsrc, Hdst, ⟨%W, HO⟩, ⟨Ht1, Hr1⟩, Ht2, Hr2⟩ Hk
  iapply (Rounds.wp_send_pointsTo 𝒱₀ ER (Rd I) (c : Thread nD τ) none (c' := (c' : Thread nD τ)) (src := src) (dst := dst)
      (sS := .dma (dsem a k)) (sem := .dma (dsem b k)) (k := kk) (q := q) (fs := fs) (κ₁ := K (cell c a k)) (κ₂ := K (cell c' b k))
      (r₁ := 0) (r₂ := 0) (d₁ := 0) (d₂ := 0) (fd := fd)
      (by rw [duties_c I c a k ha]; exact Finset.mem_singleton_self _) (by rw [duties_c I c' b k hb]; exact Finset.mem_singleton_self _)
      () () NC hN (amount_c I c a k ha 0) (amount_c I c' b k hb 0) (tallyS c l) hO (W := W)
      (by rw [payload_c]; exact hpay₁) (by rw [payload_c]; exact hpay₂)) $$ [Hsrc Hdst HO Ht1 Hr1 Ht2 Hr2]
  · isplitr; · iapply (recs_cell I K c a k); iexact HI
    isplitr; · iapply (recs_cell I K c' b k); iexact HI
    isplitl [Hsrc]; · iexact Hsrc
    isplitl [Hdst]; · iexact Hdst
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists _; iexact HO

end Cert.Proof.KI
-- ==== Proof.Res.lean ====
/- What each stage of a chunk takes and leaves. -/
module

public import proofs.«01_k».proof.Proof.Steps

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD) (k : Fin 8)

/-- The token ids, on `c`. -/
abbrev tokPt : sProp 𝕄 := tokM.view.loc (c : Thread nD τ) ↦[Finset.univ]{fullShare} I.tok c

/-- A payment's duty, and that its round is reached. -/
abbrev due (d : Dev nD) (a : Fin 9) : sProp 𝕄 := iprop(dutyTok ER (cell d a k) 0 0 ∗ reached ER (cell d a k) 0)
/-- A semaphore's place before its round. -/
abbrev at0 (a : Fin 9) : sProp 𝕄 := atPos ER (cell c a k) 0 ∅ 0
/-- A semaphore's place after its round. -/
abbrev at1 (a : Fin 9) : sProp 𝕄 := atPos ER (cell c a k) 1 ∅ 0
/-- That a semaphore's amount may be waited for. -/
abbrev due' (a : Fin 9) : sProp 𝕄 := cred (tallyAt (cell c a k) () NC)

/-- What a chunk's gather starts from. -/
def T0 : sProp 𝕄 := iprop(reached ER (cell c 0 k) 0 ∗ bigSep Finset.univ fun t : Fin k0_t1_loop.trips => bigSepL [0, 1, 2, 3, 4, 5, 6, 7] (rowRes I c k t))
/-- What masking and sending a chunk across `z` starts from. -/
def T1 : sProp 𝕄 := iprop(at0 c k 0 ∗ due k c 1 ∗ due k (pz c) 2 ∗ (∃ f, partPt c k f) ∗ (∃ f, comPt (pz c) k f))
/-- What adding and sending a chunk across `x` and `y` starts from. -/
def T2 : sProp 𝕄 := iprop(at0 c k 1 ∗ at0 c k 2 ∗ due' c k 2 ∗ (due k c 3 ∗ due k (px c) 4) ∗ (due k c 5 ∗ due k (py c) 6)
  ∗ (∃ f, ownPt c c k fullShare f) ∗ (∃ f, ownPt c (px c) k fullShare f) ∗ (∃ f, ownPt c (py c) k fullShare f))
/-- What passing a chunk on across `y` starts from. -/
def T3 : sProp 𝕄 := iprop(at0 c k 3 ∗ at0 c k 4 ∗ due' c k 4 ∗ (due k c 7 ∗ due k (py c) 8) ∗ (∃ f, ownPt (px c) (py c) k fullShare f))
/-- What the wait for the first copy across `y` starts from. -/
def T4 : sProp 𝕄 := iprop(at0 c k 5 ∗ at0 c k 6 ∗ due' c k 6)
/-- What the wait for the second copy across `y` starts from. -/
def T5 : sProp 𝕄 := iprop(at0 c k 7 ∗ at0 c k 8 ∗ due' c k 8)

/-- What a chunk's gather leaves for the wait. -/
def M0 : sProp 𝕄 := cred (tallyAt (cell c 0 k) () (32 * NR))

/-- What masking a chunk leaves for good. -/
def D1 : sProp 𝕄 := iprop(at1 c k 0 ∗ gathPt c k (gathF I c) ∗ bigSep Finset.univ fun d => embPt I c k d)
/-- What adding a chunk leaves for good. -/
def D2 : sProp 𝕄 := iprop(at1 c k 1 ∗ at1 c k 2 ∗ partPt c k (partF I c) ∗ comPt c k (partF I (pz c)))
/-- What passing a chunk on leaves for good. -/
def D3 : sProp 𝕄 := iprop(at1 c k 3 ∗ at1 c k 4 ∗ ownPt c c k fullShare.left (outF I c))
/-- What the wait for the first copy across `y` leaves for good. -/
def D4 : sProp 𝕄 := iprop(at1 c k 5 ∗ at1 c k 6 ∗ ownPt c c k fullShare.right (outF I c) ∗ ownPt (py c) c k fullShare (outF I c))
/-- What the wait for the second copy across `y` leaves for good. -/
def D5 : sProp 𝕄 := iprop(at1 c k 7 ∗ at1 c k 8 ∗ ownPt (px c) c k fullShare (outF I c) ∗ ownPt (px (py c)) c k fullShare (outF I c))

/-- The elements of a chunk of gathered rows. -/
abbrev gathS : Finset S32x8x1024.Idx := (gathAt gathM k).view.set
/-- The elements of a gathered row. -/
abbrev rowS (d : Fin 32) : Finset S32x8x1024.Idx := (rowAt k (tOf d) (uOf d)).view.set

/-- The elements of a gathered row, by its number in the chunk. -/
theorem mem_rowS (d : Fin 32) (i : S32x8x1024.Idx) : i ∈ rowS k d ↔ (i 0).val = 4 * k.val + d.val / 8 ∧ (i 1).val = d.val % 8 := mem_row k _ _ i

/-- A chunk's elements are those of its rows. -/
theorem mem_gathS (i : S32x8x1024.Idx) : i ∈ gathS k ↔ ∃ d, i ∈ rowS k d := by
  refine (mem_gath k i).trans ?_
  have h1 : (i 1).val < 8 := (i 1).isLt
  constructor
  · intro h
    refine ⟨⟨8 * ((i 0).val - 4 * k.val) + (i 1).val, by omega⟩, (mem_rowS k _ i).mpr ⟨?_, ?_⟩⟩
    · show (i 0).val = 4 * k.val + (8 * ((i 0).val - 4 * k.val) + (i 1).val) / 8; omega
    · show (i 1).val = (8 * ((i 0).val - 4 * k.val) + (i 1).val) % 8; omega
  · rintro ⟨d, hd⟩
    have h0 := ((mem_rowS k _ i).mp hd).1
    omega

/-- Two rows of a chunk have no element in common. -/
theorem row_disj (d d' : Fin 32) (hne : d ≠ d') : Disjoint (rowS k d) (rowS k d') :=
  Finset.disjoint_left.mpr fun i h h' => hne (Fin.ext (by
    have e1 := (mem_rowS k _ i).mp h
    have e2 := (mem_rowS k _ i).mp h'
    omega))

/-- A points-to over a union of disjoint parts is one over each part. -/
theorem pt_parts {ℓ : Loc nD τ sig} {T : Type} [Fintype T] (S : Finset (Idx ℓ)) (P : T → Finset (Idx ℓ)) (hS : ∀ i, i ∈ S ↔ ∃ t, i ∈ P t)
    (hd : ∀ t t', t ≠ t' → Disjoint (P t) (P t')) (q : PosShare TreeShare) (f : Buf (Elt F) ℓ) :
    (ℓ ↦[S]{q} f : sProp 𝕄) = bigSep Finset.univ fun t => ℓ ↦[P t]{q} f := by
  have h : S = Finset.univ.biUnion P := Finset.ext fun i =>
    (hS i).trans ⟨fun ⟨t, ht⟩ => Finset.mem_biUnion.mpr ⟨t, Finset.mem_univ _, ht⟩, fun h => (Finset.mem_biUnion.mp h).imp fun _ h => h.2⟩
  rw [h]
  exact pointsTo_biUnion Finset.univ P fun t _ t' _ hne => hd t t' hne

/-- A chunk of gathered rows is its rows. -/
theorem gath_rows (f : S32x8x1024.Idx → Elt F .f32) :
    gathPt c k f = bigSep Finset.univ fun d : Fin 32 => rowPt c k (tOf d) (uOf d) f :=
  pt_parts (ℓ := gathM.view.loc (c : Thread nD τ)) (gathS k) (rowS k) (mem_gathS k) (row_disj k) fullShare f

/-! What a payment to a semaphore of each array carries. -/

/-- What the end of sending across `z` gives back. -/
theorem pay1 : dmaPay I c (1 : Fin 9).val k 0 = partPt c k (partF I c) := rfl
/-- What arrives across `z`. -/
theorem pay2 : dmaPay I c (2 : Fin 9).val k 0 = comPt c k (partF I (pz c)) := rfl
/-- What the end of sending across `x` gives back. -/
theorem pay3 : dmaPay I c (3 : Fin 9).val k 0 = ownPt c c k fullShare.left (outF I c) := rfl
/-- What arrives across `x`. -/
theorem pay4 : dmaPay I c (4 : Fin 9).val k 0 = ownPt (px c) c k fullShare (outF I c) := rfl
/-- What the end of the first sending across `y` gives back. -/
theorem pay5 : dmaPay I c (5 : Fin 9).val k 0 = ownPt c c k fullShare.right (outF I c) := rfl
/-- What arrives across `y` first. -/
theorem pay6 : dmaPay I c (6 : Fin 9).val k 0 = ownPt (py c) c k fullShare (outF I c) := rfl
/-- What the end of the second sending across `y` gives back. -/
theorem pay7 : dmaPay I c (7 : Fin 9).val k 0 = ownPt (px c) c k fullShare (outF I c) := rfl
/-- What arrives across `y` second. -/
theorem pay8 : dmaPay I c (8 : Fin 9).val k 0 = ownPt (px (py c)) c k fullShare (outF I c) := rfl

/-- A chunk of the own quarter written into a neighbour's result is that neighbour's. -/
theorem own_landed (d : Dev nD) (hd : outF I d = outF I c) (f : S1024x1024.Idx → Elt F .bf16) :
    ((ownAt outM c k).view.loc (d : Thread nD τ) ↦[(ownAt outM c k).view.set]{fullShare}
      ((ownAt outM c k).view.write (Elt F) f ((ownAt outM c k).view.read (Elt F) (outF I c)) Finset.univ) : sProp 𝕄) = ownPt c d k fullShare (outF I d) := by
  rw [hd]
  exact pointsTo_congr (write_eq (ownAt outM c k).view f (outF I c) _ rfl)

/-- A chunk of the quarter that comes over `x` written into a neighbour's result is that neighbour's. -/
theorem over_landed (d : Dev nD) (hd : outF I d = outF I c) (f : S1024x1024.Idx → Elt F .bf16) :
    ((overAt outM c k).view.loc (d : Thread nD τ) ↦[(overAt outM c k).view.set]{fullShare}
      ((overAt outM c k).view.write (Elt F) f ((overAt outM c k).view.read (Elt F) (outF I c)) Finset.univ) : sProp 𝕄) = ownPt (px c) d k fullShare (outF I d) := by
  rw [hd, ← over_pt c d k fullShare (outF I c)]
  exact pointsTo_congr (write_eq (overAt outM c k).view f (outF I c) _ rfl)

end Cert.Proof.KI
-- ==== Proof.Stages.lean ====
/- Each stage of a chunk: what it takes and what it leaves. -/
module

public import proofs.«01_k».proof.Proof.Res

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD) (k : Fin 8)

set_option maxHeartbeats 1000000 in
/-- Rows masked, rounded and sent across `z`. -/
theorem stage1_run (l : List Site) (hl : ∀ x ∈ Site.zr k :: l, lvOf (.dma (dsem 0 k)) < lvOf x.sem)
    {β : Type} (kk : PUnit → Prog (TpuEff nD τ sig (Elt F) Λ₀ .tc) β) (Q : β → sProp 𝕄) :
    iprop(recs I K ∗ levAts L lv ∗ tokPt I c ∗ owesL c (.zr k :: l) ∗ M0 c k ∗ T1 c k)
      ⊢ iprop(((tokPt I c ∗ owesL c l ∗ D1 I c k ∗ due' c k 1) -∗ run c (kk ⟨⟩) Q)
        -∗ run c (stage1 tokM gathM partM (Memref.isWhole_whole _) comM (Memref.isWhole_whole _) cc0_scratch3 cc0_scratch4 cc0_scratch5 c k >>= kk) Q) := by
  unfold M0 T1 D1 stage1
  iintro ⟨#HI, #Hlev, Htok, HO, Hc, Hat, Hd1, Hd2, ⟨%fp, Hpart⟩, ⟨%fc, Hcom⟩⟩ Hk
  simp only [bind_assoc, Prog.lift, Prog.bind_op, Prog.bind_ret]
  iapply (wait_rows I K c k (sem_g k) (gath_credit k) (.zr k :: l) hl) $$ [Hc HO Hat]
  · isplitr; · iexact HI
    isplitr; · iexact Hlev
    isplitl [Hc]; · iexact Hc
    isplitl [HO] <;> iassumption
  iintro ⟨HO, Hat, Hrows⟩
  ihave Hrows := (Entails.of_eq (bigSep_sep' _ (fun d => rowPt c k (tOf d) (uOf d) (gathF I c)) (fun d => embPt I c k d))) $$ Hrows
  icases Hrows with ⟨Hrows, Hemb⟩
  ihave Hg := (Entails.of_eq (gath_rows c k (gathF I c)).symm) $$ Hrows
  iapply (wp_load_rect 𝒱₀ (c : Thread nD τ) none Set.univ (m := tokM) (r := idRect c k) (S := Finset.univ) (q := fullShare) (f := I.tok c) (Finset.subset_univ _)) $$ [Htok]
  · iexact Htok
  iintro Htok
  iapply (wp_load_rect 𝒱₀ (c : Thread nD τ) none Set.univ (m := tokM) (r := idRect c k) (S := Finset.univ) (q := fullShare) (f := I.tok c) (Finset.subset_univ _)) $$ [Htok]
  · iexact Htok
  iintro Htok
  iapply (wp_load_rect 𝒱₀ (c : Thread nD τ) none Set.univ (m := gathM) (r := gathRect k) (S := (gathAt gathM k).view.set) (q := fullShare) (f := gathF I c) (subset_rfl)) $$ [Hg]
  · iexact Hg
  iintro Hg
  iapply (wp_load_rect 𝒱₀ (c : Thread nD τ) none Set.univ (m := partM) (r := partRect k) (S := (partAt partM k).view.set) (q := fullShare) (f := fp) (subset_rfl)) $$ [Hpart]
  · iexact Hpart
  iintro Hpart
  iapply (wp_store 𝒱₀ (c : Thread nD τ) none Set.univ (m := partM) (r := partRect k) (S := (partAt partM k).view.set) (f := fp) (View.setOn_subset_set _ _)) $$ [Hpart]
  · iexact Hpart
  iintro Hpart
  have hw : ((partAt partM k).view.loc (c : Thread nD τ) ↦[(partAt partM k).view.set]{fullShare}
      ((partM.access (partRect k)).write (Elt F) fp (maskRows (lowWord c) ((tokM.access (idRect c k)).read (Elt F) (I.tok c)) ((tokM.access (idRect c k)).read (Elt F) (I.tok c))
        ((gathM.access (gathRect k)).read (Elt F) (gathF I c))) Finset.univ) : sProp 𝕄)
        = partPt c k (partF I c) := pointsTo_congr (write_eq (partAt partM k).view fp (partF I c) _ (part_read I c k).symm)
  ihave Hpart := (Entails.of_eq hw) $$ Hpart
  have hpay2 : ((partAt comM k).view.loc (pz c : Thread nD τ) ↦[(partAt comM k).view.set]{fullShare}
      ((partAt comM k).view.write (Elt F) fc ((partAt partM k).view.read (Elt F) (partF I c)) Finset.univ) : sProp 𝕄) ⊢ dmaPay I (pz c) 2 k 0 := by
    show _ ⊢ comPt (pz c) k (partF I (pz (pz c)))
    rw [pz_pz]
    exact Entails.of_eq (pointsTo_congr (write_eq (partAt comM k).view fc (partF I c) _ ((part_read I c k).trans (com_read I c k).symm)))
  iapply (send_step (src := partAt partM k) (dst := partAt comM k) I K c k 1 2 (by decide) (by decide) (.zr k) (sem_ofzr k) (amt_zr k) (pz c) (to_zr c k) (dev_z c) (sem_zs k) (sem_zr k) (com_credit k) fullShare (partF I c) fc
    (Entails.refl _) hpay2 l) $$ [Hpart Hcom HO Hd1 Hd2]
  · isplitr; · iexact HI
    isplitl [Hpart]; · iexact Hpart
    isplitl [Hcom]; · iexact Hcom
    isplitl [HO]; · iexact HO
    isplitl [Hd1] <;> iassumption
  iintro ⟨Hc, HO⟩
  iapply Hk
  isplitl [Htok]; · iexact Htok
  isplitl [HO]; · iexact HO
  isplitr [Hc]
  · isplitl [Hat]; · iexact Hat
    isplitl [Hg] <;> iassumption
  iexact Hc

set_option maxHeartbeats 1000000 in
/-- The sum made and sent across `x` and `y`. -/
theorem stage2_run (l : List Site) (hl : ∀ x ∈ Site.xr k :: .yr k :: l, lvOf (.dma (dsem 1 k)) < lvOf x.sem ∧ lvOf (.dma (dsem 2 k)) < lvOf x.sem)
    {β : Type} (kk : PUnit → Prog (TpuEff nD τ sig (Elt F) Λ₀ .tc) β) (Q : β → sProp 𝕄) :
    iprop(recs I K ∗ levAts L lv ∗ owesL c (.xr k :: .yr k :: l) ∗ due' c k 1 ∗ T2 c k)
      ⊢ iprop(((owesL c l ∗ D2 I c k ∗ due' c k 3 ∗ due' c k 5) -∗ run c (kk ⟨⟩) Q)
        -∗ run c (stage2 outM (Memref.isWhole_whole _) partM (Memref.isWhole_whole _) comM (Memref.isWhole_whole _)
            cc0_scratch4 cc0_scratch5 cc0_scratch6 cc0_scratch7 cc0_scratch8 cc0_scratch9 c k >>= kk) Q) := by
  unfold T2 D2 stage2
  iintro ⟨#HI, #Hlev, HO, Hc1, Hat1, Hat2, Hc2, ⟨Hd3, Hd4⟩, ⟨Hd5, Hd6⟩, ⟨%f0, Hown⟩, ⟨%f1, Hox⟩, ⟨%f2, Hoy⟩⟩ Hk
  simp only [bind_assoc, Prog.lift, Prog.bind_op, Prog.bind_ret]
  iapply (wait_step I K c k 1 (by decide) (sem_zs k) (part_credit k) (.xr k :: .yr k :: l) fun x hx => (hl x hx).1) $$ [Hc1 HO Hat1]
  · isplitr; · iexact HI
    isplitr; · iexact Hlev
    isplitl [Hc1]; · iexact Hc1
    isplitl [HO] <;> iassumption
  iintro ⟨HO, Hat1, Hpart⟩
  iapply (wait_step I K c k 2 (by decide) (sem_zr k) (com_credit k) (.xr k :: .yr k :: l) fun x hx => (hl x hx).2) $$ [Hc2 HO Hat2]
  · isplitr; · iexact HI
    isplitr; · iexact Hlev
    isplitl [Hc2]; · iexact Hc2
    isplitl [HO] <;> iassumption
  iintro ⟨HO, Hat2, Hcom⟩
  ihave Hpart := (Entails.of_eq (pay1 I c k)) $$ Hpart
  ihave Hcom := (Entails.of_eq (pay2 I c k)) $$ Hcom
  iapply (wp_load_rect 𝒱₀ (c : Thread nD τ) none Set.univ (m := partM) (r := partRect k) (S := (partAt partM k).view.set) (q := fullShare) (f := partF I c) (subset_rfl)) $$ [Hpart]
  · iexact Hpart
  iintro Hpart
  iapply (wp_load_rect 𝒱₀ (c : Thread nD τ) none Set.univ (m := comM) (r := partRect k) (S := (partAt comM k).view.set) (q := fullShare) (f := partF I (pz c)) (subset_rfl)) $$ [Hcom]
  · iexact Hcom
  iintro Hcom
  iapply (wp_load_rect 𝒱₀ (c : Thread nD τ) none Set.univ (m := outM) (r := ownRect c k) (S := (ownAt outM c k).view.set) (q := fullShare) (f := f0)
    (by rw [own_access_set])) $$ [Hown]
  · iexact Hown
  iintro Hown
  iapply (wp_store 𝒱₀ (c : Thread nD τ) none Set.univ (m := outM) (r := ownRect c k) (S := (ownAt outM c k).view.set) (f := f0)
    ((View.setOn_subset_set _ _).trans (by rw [own_access_set]))) $$ [Hown]
  · iexact Hown
  iintro Hown
  have hw : ((ownAt outM c k).view.loc (c : Thread nD τ) ↦[(ownAt outM c k).view.set]{fullShare}
      ((outM.access (ownRect c k)).write (Elt F) f0 (k0_pay7 ((partM.access (partRect k)).read (Elt F) (partF I c)) ((comM.access (partRect k)).read (Elt F) (partF I (pz c)))) Finset.univ) : sProp 𝕄)
        = ownPt c c k fullShare (outF I c) := pointsTo_congr fun i hi => write_eq (outM.access (ownRect c k)) f0 (outF I c) _ (by
          rw [own_access_read]
          show k0_pay7 ((partAt partM k).view.read (Elt F) (partF I c)) ((partAt comM k).view.read (Elt F) (partF I (pz c))) = _
          rw [part_read, com_read]; rfl) i (by rw [own_access_set]; exact hi)
  ihave Hown := (Entails.of_eq hw) $$ Hown
  ihave Hown := (pointsTo_share (PosShare.mem_left_op_right fullShare)).1 $$ Hown
  icases Hown with ⟨Hl, Hr⟩
  have hx : ((ownAt outM c k).view.loc (px c : Thread nD τ) ↦[(ownAt outM c k).view.set]{fullShare}
      ((ownAt outM c k).view.write (Elt F) f1 ((ownAt outM c k).view.read (Elt F) (outF I c)) Finset.univ) : sProp 𝕄) ⊢ dmaPay I (px c) 4 k 0 := by
    show _ ⊢ ownPt (px (px c)) (px c) k fullShare (outF I (px c))
    rw [px_px, own_landed I c k (px c) (outF_px I c) f1]
  have hy : ((ownAt outM c k).view.loc (py c : Thread nD τ) ↦[(ownAt outM c k).view.set]{fullShare}
      ((ownAt outM c k).view.write (Elt F) f2 ((ownAt outM c k).view.read (Elt F) (outF I c)) Finset.univ) : sProp 𝕄) ⊢ dmaPay I (py c) 6 k 0 := by
    show _ ⊢ ownPt (py (py c)) (py c) k fullShare (outF I (py c))
    rw [py_py, own_landed I c k (py c) (outF_py I c) f2]
  iapply (send_step (src := ownAt outM c k) (dst := ownAt outM c k) I K c k 3 4 (by decide) (by decide) (.xr k) (sem_ofxr k) (amt_xr k) (px c) (to_xr c k) (dev_x c) (sem_xs k) (sem_xr k) (own_credit c k) fullShare.left (outF I c) f1
    (Entails.refl _) hx (.yr k :: l)) $$ [Hl Hox HO Hd3 Hd4]
  · isplitr; · iexact HI
    isplitl [Hl]; · iexact Hl
    isplitl [Hox]; · iexact Hox
    isplitl [HO]; · iexact HO
    isplitl [Hd3] <;> iassumption
  iintro ⟨Hc3, HO⟩
  iapply (send_step (src := ownAt outM c k) (dst := ownAt outM c k) I K c k 5 6 (by decide) (by decide) (.yr k) (sem_ofyr k) (amt_yr k) (py c) (to_yr c k) (dev_y c) (sem_ys k) (sem_yr k) (own_credit c k) fullShare.right (outF I c) f2
    (Entails.refl _) hy l) $$ [Hr Hoy HO Hd5 Hd6]
  · isplitr; · iexact HI
    isplitl [Hr]; · iexact Hr
    isplitl [Hoy]; · iexact Hoy
    isplitl [HO]; · iexact HO
    isplitl [Hd5] <;> iassumption
  iintro ⟨Hc5, HO⟩
  iapply Hk
  isplitl [HO]; · iexact HO
  isplitr [Hc3 Hc5]
  · isplitl [Hat1]; · iexact Hat1
    isplitl [Hat2]; · iexact Hat2
    isplitl [Hpart] <;> iassumption
  isplitl [Hc3] <;> iassumption

set_option maxHeartbeats 1000000 in
/-- The rows received across `x`, forwarded across `y`. -/
theorem stage3_run (l : List Site) (hl : ∀ x ∈ Site.wr k :: l, lvOf (.dma (dsem 3 k)) < lvOf x.sem ∧ lvOf (.dma (dsem 4 k)) < lvOf x.sem)
    {β : Type} (kk : PUnit → Prog (TpuEff nD τ sig (Elt F) Λ₀ .tc) β) (Q : β → sProp 𝕄) :
    iprop(recs I K ∗ levAts L lv ∗ owesL c (.wr k :: l) ∗ due' c k 3 ∗ T3 c k)
      ⊢ iprop(((owesL c l ∗ D3 I c k ∗ due' c k 7) -∗ run c (kk ⟨⟩) Q)
        -∗ run c (stage3 outM (Memref.isWhole_whole _) cc0_scratch6 cc0_scratch7 cc0_scratch10 cc0_scratch11 c k >>= kk) Q) := by
  unfold T3 D3 stage3
  iintro ⟨#HI, #Hlev, HO, Hc3, Hat3, Hat4, Hc4, ⟨Hd7, Hd8⟩, ⟨%f, Hoy⟩⟩ Hk
  simp only [bind_assoc, Prog.lift, Prog.bind_op, Prog.bind_ret]
  iapply (wait_step I K c k 3 (by decide) (sem_xs k) (own_credit c k) (.wr k :: l) fun x hx => (hl x hx).1) $$ [Hc3 HO Hat3]
  · isplitr; · iexact HI
    isplitr; · iexact Hlev
    isplitl [Hc3]; · iexact Hc3
    isplitl [HO] <;> iassumption
  iintro ⟨HO, Hat3, Hl⟩
  iapply (wait_step I K c k 4 (by decide) (sem_xr k) (own_credit c k) (.wr k :: l) fun x hx => (hl x hx).2) $$ [Hc4 HO Hat4]
  · isplitr; · iexact HI
    isplitr; · iexact Hlev
    isplitl [Hc4]; · iexact Hc4
    isplitl [HO] <;> iassumption
  iintro ⟨HO, Hat4, Hx⟩
  have h8 : ((overAt outM c k).view.loc (py c : Thread nD τ) ↦[(overAt outM c k).view.set]{fullShare}
      ((overAt outM c k).view.write (Elt F) f ((overAt outM c k).view.read (Elt F) (outF I c)) Finset.univ) : sProp 𝕄) ⊢ dmaPay I (py c) (8 : Fin 9).val k 0 := by
    rw [pay8, py_py]
    exact Entails.of_eq (over_landed I c k (py c) (outF_py I c) f)
  ihave Hl := (Entails.of_eq (pay3 I c k)) $$ Hl
  ihave Hx := (Entails.of_eq ((pay4 I c k).trans (over_pt c c k fullShare (outF I c)).symm)) $$ Hx
  ihave Hoy := (Entails.of_eq (over_pt c (py c) k fullShare f).symm) $$ Hoy
  iapply (send_step (src := overAt outM c k) (dst := overAt outM c k) I K c k 7 8 (by decide) (by decide) (.wr k) (sem_ofwr k) (amt_wr k) (py c) (to_wr c k) (dev_y c) (sem_ws k) (sem_wr k) (over_credit c k) fullShare (outF I c) f
    (Entails.of_eq ((over_pt c c k fullShare (outF I c)).trans (pay7 I c k).symm)) h8 l) $$ [Hx Hoy HO Hd7 Hd8]
  · isplitr; · iexact HI
    isplitl [Hx]; · iexact Hx
    isplitl [Hoy]; · iexact Hoy
    isplitl [HO]; · iexact HO
    isplitl [Hd7] <;> iassumption
  iintro ⟨Hc7, HO⟩
  iapply Hk
  isplitl [HO]; · iexact HO
  isplitr [Hc7]
  · isplitl [Hat3]; · iexact Hat3
    isplitl [Hat4] <;> iassumption
  iexact Hc7

/-- The last waits on the sums sent across `y`. -/
theorem stage4_run (l : List Site) (hl : ∀ x ∈ l, lvOf (.dma (dsem 5 k)) < lvOf x.sem ∧ lvOf (.dma (dsem 6 k)) < lvOf x.sem)
    {β : Type} (kk : PUnit → Prog (TpuEff nD τ sig (Elt F) Λ₀ .tc) β) (Q : β → sProp 𝕄) :
    iprop(recs I K ∗ levAts L lv ∗ owesL c l ∗ due' c k 5 ∗ T4 c k)
      ⊢ iprop(((owesL c l ∗ D4 I c k) -∗ run c (kk ⟨⟩) Q)
        -∗ run c (stage4 outM (Memref.isWhole_whole _) cc0_scratch8 cc0_scratch9 c k >>= kk) Q) := by
  unfold T4 D4 stage4
  iintro ⟨#HI, #Hlev, HO, Hc5, Hat5, Hat6, Hc6⟩ Hk
  simp only [bind_assoc, Prog.lift, Prog.bind_op, Prog.bind_ret]
  iapply (wait_step I K c k 5 (by decide) (sem_ys k) (own_credit c k) l fun x hx => (hl x hx).1) $$ [Hc5 HO Hat5]
  · isplitr; · iexact HI
    isplitr; · iexact Hlev
    isplitl [Hc5]; · iexact Hc5
    isplitl [HO] <;> iassumption
  iintro ⟨HO, Hat5, Hr⟩
  iapply (wait_step I K c k 6 (by decide) (sem_yr k) (own_credit c k) l fun x hx => (hl x hx).2) $$ [Hc6 HO Hat6]
  · isplitr; · iexact HI
    isplitr; · iexact Hlev
    isplitl [Hc6]; · iexact Hc6
    isplitl [HO] <;> iassumption
  iintro ⟨HO, Hat6, Hy⟩
  ihave Hr := (Entails.of_eq (pay5 I c k)) $$ Hr
  ihave Hy := (Entails.of_eq (pay6 I c k)) $$ Hy
  iapply Hk
  isplitl [HO]; · iexact HO
  isplitl [Hat5]; · iexact Hat5
  isplitl [Hat6]; · iexact Hat6
  isplitl [Hr]
  · iexact Hr
  · iexact Hy

/-- The last waits on the rows forwarded across `y`. -/
theorem stage5_run (l : List Site) (hl : ∀ x ∈ l, lvOf (.dma (dsem 7 k)) < lvOf x.sem ∧ lvOf (.dma (dsem 8 k)) < lvOf x.sem)
    {β : Type} (kk : PUnit → Prog (TpuEff nD τ sig (Elt F) Λ₀ .tc) β) (Q : β → sProp 𝕄) :
    iprop(recs I K ∗ levAts L lv ∗ owesL c l ∗ due' c k 7 ∗ T5 c k)
      ⊢ iprop(((owesL c l ∗ D5 I c k) -∗ run c (kk ⟨⟩) Q)
        -∗ run c (stage5 outM (Memref.isWhole_whole _) cc0_scratch10 cc0_scratch11 c k >>= kk) Q) := by
  unfold T5 D5 stage5
  iintro ⟨#HI, #Hlev, HO, Hc7, Hat7, Hat8, Hc8⟩ Hk
  simp only [bind_assoc, Prog.lift, Prog.bind_op, Prog.bind_ret]
  iapply (wait_step I K c k 7 (by decide) (sem_ws k) (over_credit c k) l fun x hx => (hl x hx).1) $$ [Hc7 HO Hat7]
  · isplitr; · iexact HI
    isplitr; · iexact Hlev
    isplitl [Hc7]; · iexact Hc7
    isplitl [HO] <;> iassumption
  iintro ⟨HO, Hat7, Hr⟩
  iapply (wait_step I K c k 8 (by decide) (sem_wr k) (over_credit c k) l fun x hx => (hl x hx).2) $$ [Hc8 HO Hat8]
  · isplitr; · iexact HI
    isplitr; · iexact Hlev
    isplitl [Hc8]; · iexact Hc8
    isplitl [HO] <;> iassumption
  iintro ⟨HO, Hat8, Hy⟩
  ihave Hr := (Entails.of_eq (pay7 I c k)) $$ Hr
  ihave Hy := (Entails.of_eq (pay8 I c k)) $$ Hy
  iapply Hk
  isplitl [HO]; · iexact HO
  isplitl [Hat7]; · iexact Hat7
  isplitl [Hat8]; · iexact Hat8
  isplitl [Hr]
  · iexact Hr
  · iexact Hy

end Cert.Proof.KI
-- ==== Proof.Run.lean ====
/- The stages in the order the body runs them, and the body. -/
module

public import proofs.«01_k».proof.Proof.Stages

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD) (k : Fin 8)

/-- What is held of a chunk once its first `p` stages have run. -/
def Ck : ℕ → sProp 𝕄
  | 0 => iprop(T0 I c k ∗ T1 c k ∗ T2 c k ∗ T3 c k ∗ T4 c k ∗ T5 c k)
  | 1 => iprop(M0 c k ∗ T1 c k ∗ T2 c k ∗ T3 c k ∗ T4 c k ∗ T5 c k)
  | 2 => iprop(D1 I c k ∗ due' c k 1 ∗ T2 c k ∗ T3 c k ∗ T4 c k ∗ T5 c k)
  | 3 => iprop(D1 I c k ∗ D2 I c k ∗ due' c k 3 ∗ due' c k 5 ∗ T3 c k ∗ T4 c k ∗ T5 c k)
  | 4 => iprop(D1 I c k ∗ D2 I c k ∗ D3 I c k ∗ due' c k 5 ∗ due' c k 7 ∗ T4 c k ∗ T5 c k)
  | 5 => iprop(D1 I c k ∗ D2 I c k ∗ D3 I c k ∗ D4 I c k ∗ due' c k 7 ∗ T5 c k)
  | _ => iprop(D1 I c k ∗ D2 I c k ∗ D3 I c k ∗ D4 I c k ∗ D5 I c k)

/-- A chunk before its gather. -/
theorem Ck_0 : Ck I c k 0 = iprop(T0 I c k ∗ T1 c k ∗ T2 c k ∗ T3 c k ∗ T4 c k ∗ T5 c k) := rfl
/-- A chunk after its gather is issued. -/
theorem Ck_1 : Ck I c k 1 = iprop(M0 c k ∗ T1 c k ∗ T2 c k ∗ T3 c k ∗ T4 c k ∗ T5 c k) := rfl
/-- A chunk after its rows are sent across `z`. -/
theorem Ck_2 : Ck I c k 2 = iprop(D1 I c k ∗ due' c k 1 ∗ T2 c k ∗ T3 c k ∗ T4 c k ∗ T5 c k) := rfl
/-- A chunk after its sum is sent across `x` and `y`. -/
theorem Ck_3 : Ck I c k 3 = iprop(D1 I c k ∗ D2 I c k ∗ due' c k 3 ∗ due' c k 5 ∗ T3 c k ∗ T4 c k ∗ T5 c k) := rfl
/-- A chunk after it is passed on. -/
theorem Ck_4 : Ck I c k 4 = iprop(D1 I c k ∗ D2 I c k ∗ D3 I c k ∗ due' c k 5 ∗ due' c k 7 ∗ T4 c k ∗ T5 c k) := rfl
/-- A chunk after the first copy across `y` is waited for. -/
theorem Ck_5 : Ck I c k 5 = iprop(D1 I c k ∗ D2 I c k ∗ D3 I c k ∗ D4 I c k ∗ due' c k 7 ∗ T5 c k) := rfl
/-- A chunk after everything. -/
theorem Ck_6 : Ck I c k 6 = iprop(D1 I c k ∗ D2 I c k ∗ D3 I c k ∗ D4 I c k ∗ D5 I c k) := rfl

/-- What a stage pays other devices. -/
def pays : Fin 6 × Fin 8 → List Site
  | (1, k) => [.zr k]
  | (2, k) => [.xr k, .yr k]
  | (3, k) => [.wr k]
  | _ => []
/-- What a list of stages pays. -/
def paysL : List (Fin 6 × Fin 8) → List Site
  | [] => []
  | p :: ps => pays p ++ paysL ps
/-- What a stage waits on. -/
def waits : Fin 6 × Fin 8 → List (Fin 9 × Fin 8)
  | (0, _) => []
  | (1, k) => [(0, k)]
  | (2, k) => [(1, k), (2, k)]
  | (3, k) => [(3, k), (4, k)]
  | (4, k) => [(5, k), (6, k)]
  | (5, k) => [(7, k), (8, k)]
/-- A stage's waits are below what is still owed. -/
def below (p : Fin 6 × Fin 8) (l : List Site) : Prop := ∀ w ∈ waits p, ∀ x ∈ l, lvOf (.dma (dsem w.1 w.2)) < lvOf x.sem

/-- Whether a stage's waits are low enough can be decided. -/
instance (p : Fin 6 × Fin 8) (l : List Site) : Decidable (below p l) := by unfold below; infer_instance

/-- How far each chunk is after a stage. -/
def next (σ : Fin 8 → ℕ) (p : Fin 6 × Fin 8) : Fin 8 → ℕ := Function.update σ p.2 (p.1.val + 1)
/-- The stages of a list come in order on every chunk, and wait below what is still owed. -/
def inOrder : (Fin 8 → ℕ) → List (Fin 6 × Fin 8) → Prop
  | _, [] => True
  | σ, p :: ps => σ p.2 = p.1.val ∧ below p (pays p ++ paysL ps) ∧ inOrder (next σ p) ps

/-- Whether a list comes in order can be decided. -/
instance decInOrder : ∀ σ ps, Decidable (inOrder σ ps)
  | _, [] => isTrue trivial
  | σ, p :: ps => by
    unfold inOrder
    have := decInOrder (next σ p) ps
    infer_instance

/-- The inputs the stages read. -/
abbrev Env : sProp 𝕄 := iprop(idsPt I c ∗ tokPt I c)

/-- The stages at the kernel's buffers. -/
abbrev stg (p : Fin 6 × Fin 8) : Prog (TpuEff nD τ sig (Elt F) Λ₀ .tc) PUnit :=
  stageProg idsM tokM embM outM (Memref.isWhole_whole _) gathM partM (Memref.isWhole_whole _) comM (Memref.isWhole_whole _)
    cc0_scratch3 cc0_scratch4 cc0_scratch5 cc0_scratch6 cc0_scratch7 cc0_scratch8 cc0_scratch9 cc0_scratch10 cc0_scratch11 c p

set_option maxHeartbeats 1000000 in
/-- One stage. -/
theorem stage_run (hids : ∀ c i, k0_chk1 (I.ids c i)) (l : List Site) : ∀ (p : Fin 6 × Fin 8) (hl : below p (pays p ++ l))
    {β : Type} (kk : PUnit → Prog (TpuEff nD τ sig (Elt F) Λ₀ .tc) β) (Q : β → sProp 𝕄),
    iprop(recs I K ∗ levAts L lv ∗ Env I c ∗ owesL c (pays p ++ l) ∗ Ck I c p.2 p.1.val)
      ⊢ iprop(((Env I c ∗ owesL c l ∗ Ck I c p.2 (p.1.val + 1)) -∗ run c (kk ⟨⟩) Q) -∗ run c (stg c p >>= kk) Q)
  | (0, k), hl, β, kk, Q => by
    show iprop(recs I K ∗ levAts L lv ∗ Env I c ∗ owesL c l ∗ Ck I c k 0)
      ⊢ iprop(((Env I c ∗ owesL c l ∗ Ck I c k 1) -∗ run c (kk ⟨⟩) Q) -∗ run c (gatherProg idsM embM gathM cc0_scratch3 c k >>= kk) Q)
    rw [Ck_0, Ck_1]
    unfold T0 M0 run
    rw [wp_bind]
    iintro ⟨#HI, #Hlev, ⟨Hids, Htok⟩, HO, ⟨#Hr, Hrows⟩, HT⟩ Hk
    iapply (gather_run I K c k hids _) $$ [Hids Hrows]
    · isplitr; · iexact HI
      isplitr; · iexact Hr
      isplitl [Hids] <;> iassumption
    iintro ⟨Hids, Hc⟩
    iapply Hk
    isplitl [Hids Htok]; · isplitl [Hids] <;> iassumption
    isplitl [HO]; · iexact HO
    isplitl [Hc] <;> iassumption
  | (1, k), hl, β, kk, Q => by
    show iprop(recs I K ∗ levAts L lv ∗ Env I c ∗ owesL c (.zr k :: l) ∗ Ck I c k 1)
      ⊢ iprop(((Env I c ∗ owesL c l ∗ Ck I c k 2) -∗ run c (kk ⟨⟩) Q) -∗ run c (stage1 tokM gathM partM (Memref.isWhole_whole _) comM (Memref.isWhole_whole _) cc0_scratch3 cc0_scratch4 cc0_scratch5 c k >>= kk) Q)
    rw [Ck_1, Ck_2]
    iintro ⟨#HI, #Hlev, ⟨Hids, Htok⟩, HO, HM, HT1, HT⟩ Hk
    iapply (stage1_run I K c k l (hl (0, k) (List.mem_cons_self)) kk Q) $$ [Htok HO HM HT1]
    · isplitr; · iexact HI
      isplitr; · iexact Hlev
      isplitl [Htok]; · iexact Htok
      isplitl [HO]; · iexact HO
      isplitl [HM] <;> iassumption
    iintro ⟨Htok, HO, HD, HM⟩
    iapply Hk
    isplitl [Hids Htok]; · isplitl [Hids] <;> iassumption
    isplitl [HO]; · iexact HO
    isplitl [HD]; · iexact HD
    isplitl [HM] <;> iassumption
  | (2, k), hl, β, kk, Q => by
    show iprop(recs I K ∗ levAts L lv ∗ Env I c ∗ owesL c (.xr k :: .yr k :: l) ∗ Ck I c k 2)
      ⊢ iprop(((Env I c ∗ owesL c l ∗ Ck I c k 3) -∗ run c (kk ⟨⟩) Q) -∗ run c (stage2 outM (Memref.isWhole_whole _) partM (Memref.isWhole_whole _) comM (Memref.isWhole_whole _) cc0_scratch4 cc0_scratch5 cc0_scratch6 cc0_scratch7 cc0_scratch8 cc0_scratch9 c k >>= kk) Q)
    rw [Ck_2, Ck_3]
    iintro ⟨#HI, #Hlev, HE, HO, HD1, HM, HT2, HT⟩ Hk
    iapply (stage2_run I K c k l (fun x hx => ⟨hl (1, k) List.mem_cons_self x hx, hl (2, k) (List.mem_cons_of_mem _ List.mem_cons_self) x hx⟩) kk Q) $$ [HO HM HT2]
    · isplitr; · iexact HI
      isplitr; · iexact Hlev
      isplitl [HO]; · iexact HO
      isplitl [HM] <;> iassumption
    iintro ⟨HO, HD, HM, HM'⟩
    iapply Hk
    isplitl [HE]; · iexact HE
    isplitl [HO]; · iexact HO
    isplitl [HD1]; · iexact HD1
    isplitl [HD]; · iexact HD
    isplitl [HM]; · iexact HM
    isplitl [HM'] <;> iassumption
  | (3, k), hl, β, kk, Q => by
    show iprop(recs I K ∗ levAts L lv ∗ Env I c ∗ owesL c (.wr k :: l) ∗ Ck I c k 3)
      ⊢ iprop(((Env I c ∗ owesL c l ∗ Ck I c k 4) -∗ run c (kk ⟨⟩) Q) -∗ run c (stage3 outM (Memref.isWhole_whole _) cc0_scratch6 cc0_scratch7 cc0_scratch10 cc0_scratch11 c k >>= kk) Q)
    rw [Ck_3, Ck_4]
    iintro ⟨#HI, #Hlev, HE, HO, HD1, HD2, HM, HM', HT3, HT⟩ Hk
    iapply (stage3_run I K c k l (fun x hx => ⟨hl (3, k) List.mem_cons_self x hx, hl (4, k) (List.mem_cons_of_mem _ List.mem_cons_self) x hx⟩) kk Q) $$ [HO HM HT3]
    · isplitr; · iexact HI
      isplitr; · iexact Hlev
      isplitl [HO]; · iexact HO
      isplitl [HM] <;> iassumption
    iintro ⟨HO, HD, HM⟩
    iapply Hk
    isplitl [HE]; · iexact HE
    isplitl [HO]; · iexact HO
    isplitl [HD1]; · iexact HD1
    isplitl [HD2]; · iexact HD2
    isplitl [HD]; · iexact HD
    isplitl [HM']; · iexact HM'
    isplitl [HM] <;> iassumption
  | (4, k), hl, β, kk, Q => by
    show iprop(recs I K ∗ levAts L lv ∗ Env I c ∗ owesL c l ∗ Ck I c k 4)
      ⊢ iprop(((Env I c ∗ owesL c l ∗ Ck I c k 5) -∗ run c (kk ⟨⟩) Q) -∗ run c (stage4 outM (Memref.isWhole_whole _) cc0_scratch8 cc0_scratch9 c k >>= kk) Q)
    rw [Ck_4, Ck_5]
    iintro ⟨#HI, #Hlev, HE, HO, HD1, HD2, HD3, HM, HM', HT4, HT⟩ Hk
    iapply (stage4_run I K c k l (fun x hx => ⟨hl (5, k) List.mem_cons_self x hx, hl (6, k) (List.mem_cons_of_mem _ List.mem_cons_self) x hx⟩) kk Q) $$ [HO HM HT4]
    · isplitr; · iexact HI
      isplitr; · iexact Hlev
      isplitl [HO]; · iexact HO
      isplitl [HM] <;> iassumption
    iintro ⟨HO, HD⟩
    iapply Hk
    isplitl [HE]; · iexact HE
    isplitl [HO]; · iexact HO
    isplitl [HD1]; · iexact HD1
    isplitl [HD2]; · iexact HD2
    isplitl [HD3]; · iexact HD3
    isplitl [HD]; · iexact HD
    isplitl [HM'] <;> iassumption
  | (5, k), hl, β, kk, Q => by
    show iprop(recs I K ∗ levAts L lv ∗ Env I c ∗ owesL c l ∗ Ck I c k 5)
      ⊢ iprop(((Env I c ∗ owesL c l ∗ Ck I c k 6) -∗ run c (kk ⟨⟩) Q) -∗ run c (stage5 outM (Memref.isWhole_whole _) cc0_scratch10 cc0_scratch11 c k >>= kk) Q)
    rw [Ck_5, Ck_6]
    iintro ⟨#HI, #Hlev, HE, HO, HD1, HD2, HD3, HD4, HM, HT5⟩ Hk
    iapply (stage5_run I K c k l (fun x hx => ⟨hl (7, k) List.mem_cons_self x hx, hl (8, k) (List.mem_cons_of_mem _ List.mem_cons_self) x hx⟩) kk Q) $$ [HO HM HT5]
    · isplitr; · iexact HI
      isplitr; · iexact Hlev
      isplitl [HO]; · iexact HO
      isplitl [HM] <;> iassumption
    iintro ⟨HO, HD⟩
    iapply Hk
    isplitl [HE]; · iexact HE
    isplitl [HO]; · iexact HO
    isplitl [HD1]; · iexact HD1
    isplitl [HD2]; · iexact HD2
    isplitl [HD3]; · iexact HD3
    isplitl [HD4] <;> iassumption

/-- A list of stages, in order. -/
theorem stages_run (hids : ∀ c i, k0_chk1 (I.ids c i)) (ps : List (Fin 6 × Fin 8)) (σ : Fin 8 → ℕ) (h : inOrder σ ps) (Q : PUnit → sProp 𝕄) :
    iprop(recs I K ∗ levAts L lv ∗ Env I c ∗ owesL c (paysL ps) ∗ bigSep Finset.univ fun k => Ck I c k (σ k))
      ⊢ iprop(((Env I c ∗ owesL c [] ∗ bigSep Finset.univ fun k => Ck I c k (ps.foldl next σ k)) -∗ Q ⟨⟩) -∗ run c (seqL (ps.map (stg c))) Q) := by
  induction ps generalizing σ with
  | nil =>
    show _ ⊢ iprop(_ -∗ wp _ _ _ (Prog.ret _) _)
    rw [wp_ret]
    iintro ⟨-, -, HE, HO, HC⟩ Hk
    imodintro
    iapply Hk
    isplitl [HE]; · iexact HE
    isplitl [HO]; · iexact HO
    iexact HC
  | cons p ps ih =>
    obtain ⟨h1, h2, h3⟩ := h
    show _ ⊢ iprop(_ -∗ run c (stg c p >>= fun _ => seqL (ps.map (stg c))) Q)
    iintro ⟨#HI, #Hlev, HE, HO, HC⟩ Hk
    ihave HC := (bigSep_univ_update (Ψ := fun k => Ck I c k (next σ p k)) p.2 fun j hj => by
      show Ck I c j (next σ p j) = Ck I c j (σ j)
      unfold next; rw [Function.update_of_ne hj]) $$ HC
    icases HC with ⟨Hp, HC⟩
    iapply (stage_run I K c hids (paysL ps) p h2 (fun _ => seqL (ps.map (stg c))) Q) $$ [HE HO Hp]
    · isplitr; · iexact HI
      isplitr; · iexact Hlev
      isplitl [HE]; · iexact HE
      isplitl [HO]; · iexact HO
      rw [h1]; iexact Hp
    iintro ⟨HE, HO, Hp⟩
    ihave HC := HC $$ [Hp]
    · unfold next; rw [Function.update_self]; iexact Hp
    iapply (ih (next σ p) h3) $$ [HE HO HC]
    · isplitr; · iexact HI
      isplitr; · iexact Hlev
      isplitl [HE]; · iexact HE
      isplitl [HO]; · iexact HO
      iexact HC
    iexact Hk

/-- After the barrier only the first chunk's gather has run. -/
def start : Fin 8 → ℕ := fun k => if k = 0 then 1 else 0

/-- The body's stages come in order. -/
theorem plan_inOrder : inOrder start plan := by decide +kernel
/-- The body's stages finish every chunk. -/
theorem plan_end : ∀ k, plan.foldl next start k = 6 := by decide +kernel

end Cert.Proof.KI
-- ==== Proof.ProgEq.lean ====
/- The printed body is the short program. -/
module

public import proofs.«01_k».proof.Proof.Prog

@[expose] public section

noncomputable section

namespace Cert.Proof.KI

open Cert.KernelIdeal Cert.KernelIdeal.Gen
open Idealize.ShloMosaic Idealize.ShloMosaic.TcCoe
open Idealize.SL.Sem

variable {F : FTy → Type} [FloatOps F]

variable (arg0 : Memref sig .tc .smem S1024 .i32) (harg0 : arg0.IsWhole) (arg1 : Memref sig .tc .vmem S1024x1 .i32) (harg1 : arg1.IsWhole)
  (arg2 : Memref sig .tc .hbm S8192x1024 .f32) (harg2 : arg2.IsWhole) (arg3 : Memref sig .tc .vmem S1024x1024 .bf16) (harg3 : arg3.IsWhole)
  (arg4 : Memref sig .tc .vmem S32x8x1024 .f32) (harg4 : arg4.IsWhole) (arg5 : Memref sig .tc .vmem S256x1024 .bf16) (harg5 : arg5.IsWhole)
  (arg6 : Memref sig .tc .vmem S256x1024 .bf16) (harg6 : arg6.IsWhole)
  (arg7 arg8 arg9 arg10 arg11 arg12 arg13 arg14 arg15 : DmaSems sig S8)

set_option maxRecDepth 65536
set_option maxHeartbeats 4000000

/-- Loop 1 is the gather of chunk 0. -/
theorem loop1_eq (d0 : Dev nD) {v2} {v8} {v16} {v17} {v18} {v19} :
    Scf.Loop.for k0_t1_loop k0_t1_ok ⟨⟩ (k0_t1_body (F := F) arg0 harg0 arg1 harg1 arg2 harg2 arg3 harg3 arg4 harg4 arg5 harg5 arg6 harg6 arg7 arg8 arg9 arg10 arg11 arg12 arg13 arg14 arg15 d0 v2 v8 v16 v17 v18 v19)
      = gatherProg arg0 arg2 arg4 arg7 d0 0 := rfl

/-- Loop 2 is the gather of chunk 1. -/
theorem loop2_eq (d0 : Dev nD) {v2} {v8} {v16} {v17} {v18} {v19} :
    Scf.Loop.for k0_t2_loop k0_t2_ok ⟨⟩ (k0_t2_body (F := F) arg0 harg0 arg1 harg1 arg2 harg2 arg3 harg3 arg4 harg4 arg5 harg5 arg6 harg6 arg7 arg8 arg9 arg10 arg11 arg12 arg13 arg14 arg15 d0 v2 v8 v16 v17 v18 v19)
      = gatherProg arg0 arg2 arg4 arg7 d0 1 := rfl

/-- Loop 3 is the gather of chunk 2. -/
theorem loop3_eq (d0 : Dev nD) {v2} {v5} {v14} {v17} {v18} {v56} {v58} :
    Scf.Loop.for k0_t3_loop k0_t3_ok ⟨⟩ (k0_t3_body (F := F) arg0 harg0 arg1 harg1 arg2 harg2 arg3 harg3 arg4 harg4 arg5 harg5 arg6 harg6 arg7 arg8 arg9 arg10 arg11 arg12 arg13 arg14 arg15 d0 v2 v5 v14 v17 v18 v56 v58)
      = gatherProg arg0 arg2 arg4 arg7 d0 2 := rfl

/-- Loop 4 is the gather of chunk 3. -/
theorem loop4_eq (d0 : Dev nD) {v2} {v8} {v16} {v17} {v18} :
    Scf.Loop.for k0_t4_loop k0_t4_ok ⟨⟩ (k0_t4_body (F := F) arg0 harg0 arg1 harg1 arg2 harg2 arg3 harg3 arg4 harg4 arg5 harg5 arg6 harg6 arg7 arg8 arg9 arg10 arg11 arg12 arg13 arg14 arg15 d0 v2 v8 v16 v17 v18)
      = gatherProg arg0 arg2 arg4 arg7 d0 3 := rfl

/-- Loop 5 is the gather of chunk 4. -/
theorem loop5_eq (d0 : Dev nD) {v2} {v8} {v16} {v17} {v18} :
    Scf.Loop.for k0_t5_loop k0_t5_ok ⟨⟩ (k0_t5_body (F := F) arg0 harg0 arg1 harg1 arg2 harg2 arg3 harg3 arg4 harg4 arg5 harg5 arg6 harg6 arg7 arg8 arg9 arg10 arg11 arg12 arg13 arg14 arg15 d0 v2 v8 v16 v17 v18)
      = gatherProg arg0 arg2 arg4 arg7 d0 4 := rfl

/-- Loop 6 is the gather of chunk 5. -/
theorem loop6_eq (d0 : Dev nD) {v8} {v17} {v18} {v398} :
    Scf.Loop.for k0_t6_loop k0_t6_ok ⟨⟩ (k0_t6_body (F := F) arg0 harg0 arg1 harg1 arg2 harg2 arg3 harg3 arg4 harg4 arg5 harg5 arg6 harg6 arg7 arg8 arg9 arg10 arg11 arg12 arg13 arg14 arg15 d0 v8 v17 v18 v398)
      = gatherProg arg0 arg2 arg4 arg7 d0 5 := rfl

/-- Loop 7 is the gather of chunk 6. -/
theorem loop7_eq (d0 : Dev nD) {v17} {v18} :
    Scf.Loop.for k0_t7_loop k0_t7_ok ⟨⟩ (k0_t7_body (F := F) arg0 harg0 arg1 harg1 arg2 harg2 arg3 harg3 arg4 harg4 arg5 harg5 arg6 harg6 arg7 arg8 arg9 arg10 arg11 arg12 arg13 arg14 arg15 d0 v17 v18)
      = gatherProg arg0 arg2 arg4 arg7 d0 6 := rfl

/-- Loop 8 is the gather of chunk 7. -/
theorem loop8_eq (d0 : Dev nD) {v2} {v5} {v17} {v18} {c0_i32_514} {c4_i32_515} :
    Scf.Loop.for k0_t8_loop k0_t8_ok ⟨⟩ (k0_t8_body (F := F) arg0 harg0 arg1 harg1 arg2 harg2 arg3 harg3 arg4 harg4 arg5 harg5 arg6 harg6 arg7 arg8 arg9 arg10 arg11 arg12 arg13 arg14 arg15 d0 v2 v5 v17 v18 c0_i32_514 c4_i32_515)
      = gatherProg arg0 arg2 arg4 arg7 d0 7 := rfl

/-- The printed body is the short program: the parts joined, the binds reassociated, then by unfolding. -/
theorem body_eq :
    cc0_body (F := F) arg0 harg0 arg1 harg1 arg2 harg2 arg3 harg3 arg4 harg4 arg5 harg5 arg6 harg6 arg7 arg8 arg9 arg10 arg11 arg12 arg13 arg14 arg15
      = bodyProg arg0 arg1 arg2 arg3 harg3 arg4 arg5 harg5 arg6 harg6 arg7 arg8 arg9 arg10 arg11 arg12 arg13 arg14 arg15 := by
  simp only [cc0_body_eq_skeleton, cc0_body_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel,
    loop1_eq, loop2_eq, loop3_eq, loop4_eq, loop5_eq, loop6_eq, loop7_eq, loop8_eq, bind_assoc, pure_bind]
  simp only [bodyProg, plan, List.map, seqL, stageProg, stage1, stage2, stage3, stage4, stage5, bind_assoc, pure_bind]
  rfl

end Cert.Proof.KI
-- ==== Proof.Body.lean ====
/- The body of the kernel, on one device. -/
module

public import proofs.«01_k».proof.Proof.Run
public import proofs.«01_k».proof.Proof.ProgEq

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD)

/-- A duty of a chunk's copy, without that its round is reached. -/
abbrev tok0 (k : Fin 8) (d : Dev nD) (a : Fin 9) : sProp 𝕄 := dutyTok ER (cell d a k) 0 0

/-- What the stages of a chunk take besides what comes with the barrier. -/
def Start (k : Fin 8) : sProp 𝕄 := iprop(
  (at0 c k 0 ∗ at0 c k 1 ∗ at0 c k 2 ∗ at0 c k 3 ∗ at0 c k 4 ∗ at0 c k 5 ∗ at0 c k 6 ∗ at0 c k 7 ∗ at0 c k 8)
  ∗ (due k c 1 ∗ due k c 3 ∗ due k c 5 ∗ due k c 7)
  ∗ (tok0 k (pz c) 2 ∗ tok0 k (px c) 4 ∗ tok0 k (py c) 6 ∗ tok0 k (py c) 8)
  ∗ (due' c k 2 ∗ due' c k 4 ∗ due' c k 6 ∗ due' c k 8)
  ∗ (∃ f, partPt c k f) ∗ (∃ f, ownPt c c k fullShare f))

/-- What comes with the barrier, for a chunk: the buffers its copies land in. -/
def Given (k : Fin 8) : sProp 𝕄 := iprop(
  ((∃ f, comPt (pz c) k f) ∗ reached ER (cell (pz c) 2 k) 0)
  ∗ ((∃ f, ownPt c (px c) k fullShare f) ∗ reached ER (cell (px c) 4 k) 0)
  ∗ ((∃ f, ownPt c (py c) k fullShare f) ∗ (∃ f, ownPt (px c) (py c) k fullShare f)
    ∗ reached ER (cell (py c) 6 k) 0 ∗ reached ER (cell (py c) 8 k) 0))

/-- Before the barrier only the first chunk's gather has run. -/
def Gk (k : Fin 8) : sProp 𝕄 := if k = 0 then M0 c k else T0 I c k

/-- Past the barrier a chunk has all its stages take. -/
theorem chunk_start (k : Fin 8) : iprop(Gk I c k ∗ Start c k ∗ Given c k) ⊢ Ck I c k (start k) := by
  have h : iprop(Start c k ∗ Given c k) ⊢ iprop(T1 c k ∗ T2 c k ∗ T3 c k ∗ T4 c k ∗ T5 (F := F) c k) := by
    unfold Start Given T1 T2 T3 T4 T5
    iintro ⟨⟨⟨H0, H1, H2, H3, H4, H5, H6, H7, H8⟩, ⟨Hd1, Hd3, Hd5, Hd7⟩, ⟨Ht2, Ht4, Ht6, Ht8⟩, ⟨Hc2, Hc4, Hc6, Hc8⟩, Hpart, Hown⟩,
      ⟨Hcom, Hr2⟩, ⟨Hox, Hr4⟩, Hoy, How, Hr6, Hr8⟩
    isplitl [H0 Hd1 Ht2 Hr2 Hpart Hcom]
    · isplitl [H0]; · iexact H0
      isplitl [Hd1]; · iexact Hd1
      isplitl [Ht2 Hr2]; · isplitl [Ht2] <;> iassumption
      isplitl [Hpart] <;> iassumption
    isplitl [H1 H2 Hc2 Hd3 Ht4 Hr4 Hd5 Ht6 Hr6 Hown Hox Hoy]
    · isplitl [H1]; · iexact H1
      isplitl [H2]; · iexact H2
      isplitl [Hc2]; · iexact Hc2
      isplitl [Hd3 Ht4 Hr4]
      · isplitl [Hd3]; · iexact Hd3
        isplitl [Ht4] <;> iassumption
      isplitl [Hd5 Ht6 Hr6]
      · isplitl [Hd5]; · iexact Hd5
        isplitl [Ht6] <;> iassumption
      isplitl [Hown]; · iexact Hown
      isplitl [Hox] <;> iassumption
    isplitl [H3 H4 Hc4 Hd7 Ht8 Hr8 How]
    · isplitl [H3]; · iexact H3
      isplitl [H4]; · iexact H4
      isplitl [Hc4]; · iexact Hc4
      isplitl [Hd7 Ht8 Hr8]
      · isplitl [Hd7]; · iexact Hd7
        isplitl [Ht8] <;> iassumption
      iexact How
    isplitl [H5 H6 Hc6]
    · isplitl [H5]; · iexact H5
      isplitl [H6] <;> iassumption
    isplitl [H7]; · iexact H7
    isplitl [H8] <;> iassumption
  refine (sep_mono_right h).trans ?_
  unfold Gk start
  by_cases hk : k = 0
  · rw [if_pos hk, if_pos hk, Ck_1]
  · rw [if_neg hk, if_neg hk, Ck_0]

/-- The chunks past the barrier. -/
theorem chunks_start : iprop((bigSep Finset.univ fun k => Gk I c k) ∗ (bigSep Finset.univ fun k => Start c k) ∗ barZ c ∗ barX c ∗ barY c)
    ⊢ bigSep Finset.univ fun k => Ck I c k (start k) := by
  unfold barZ barX barY
  rw [← bigSep_sep', ← bigSep_sep', ← bigSep_sep', ← bigSep_sep']
  exact bigSep_mono fun k _ => chunk_start I c k

/-- What the body takes. -/
def bodyPre : sProp 𝕄 := iprop(
  Env I c ∗ owesL c ([.bz, .bx, .by'] ++ paysL plan) ∗ atPos ER (barCell c) 0 ∅ 0 ∗ cred (tallyAt (barCell c) () 3)
  ∗ (dutyTok ER (barCell (pz c)) 0 0 ∗ reached ER (barCell (pz c)) 0)
  ∗ (dutyTok ER (barCell (px c)) 0 1 ∗ reached ER (barCell (px c)) 0)
  ∗ (dutyTok ER (barCell (py c)) 0 2 ∗ reached ER (barCell (py c)) 0)
  ∗ barZ (pz c) ∗ barX (px c) ∗ barY (py c)
  ∗ (bigSep Finset.univ fun k => T0 I c k) ∗ (bigSep Finset.univ fun k => Start c k))
/-- What it leaves. -/
def bodyPost : sProp 𝕄 := iprop(Env I c ∗ owesL c [] ∗ atPos ER (barCell c) 1 ∅ 0 ∗ bigSep Finset.univ fun k => Ck I c k 6)

/-- One signal of the barrier. -/
theorem signal_step (x : Site) (hx : x.sem = .reg barS) (hxa : x.amt = 1) (c' : Dev nD) (hc : x.to c = c') (d : Fin 32) (hd : d ∈ ({0, 1, 2} : Finset (Fin 32)))
    {P : sProp 𝕄} (hP : (Rd I).payload (barCell c') 0 d = P) (l : List Site)
    {β : Type} (kk : PUnit → Prog (TpuEff nD τ sig (Elt F) Λ₀ .tc) β) (Q : β → sProp 𝕄) :
    iprop(recs I K ∗ owesL c (x :: l) ∗ (dutyTok ER (barCell c') 0 d ∗ reached ER (barCell c') 0) ∗ P)
      ⊢ iprop((owesL c l -∗ run c (kk ⟨⟩) Q) -∗ run c (.op (.semSignal (Dev.tc c') barS 1) kk) Q) := by
  unfold owesL
  have hO : tallyS c (x :: l) = tallyS c l + tallyAt (barCell c') () 1 := by rw [tallyS, hx, hxa, hc]
  subst hP
  iintro ⟨#HI, ⟨%W, HO⟩, ⟨Ht, Hr⟩, HP⟩ Hk
  iapply (Rounds.wp_signal 𝒱₀ ER (Rd I) (c : Thread nD τ) none (dst := (c' : Thread nD τ)) (sem := barS) (r := 0) (d := d) (κ := K (barCell c')) (k := kk)
      (by rw [duties_bar]; exact hd) (amount_bar I c' d) () (tallyS c l) hO (W := W)) $$ [HO Ht Hr HP]
  · isplitr; · iapply (recs_bar I K c'); iexact HI
    isplitl [HO]; · iexact HO
    isplitl [Ht]; · iexact Ht
    isplitl [HP] <;> iassumption
  iintro HO
  iapply Hk
  iexists _; iexact HO

set_option maxHeartbeats 1000000 in
/-- The body runs from what it takes to what it leaves. -/
theorem bodyProg_run (hids : ∀ c i, k0_chk1 (I.ids c i)) (Q : PUnit → sProp 𝕄) :
    iprop(recs I K ∗ levAts L lv ∗ bodyPre I c) ⊢ iprop((bodyPost I c -∗ Q ⟨⟩)
      -∗ run c (bodyProg idsM tokM embM outM (Memref.isWhole_whole _) gathM partM (Memref.isWhole_whole _) comM (Memref.isWhole_whole _)
        cc0_scratch3 cc0_scratch4 cc0_scratch5 cc0_scratch6 cc0_scratch7 cc0_scratch8 cc0_scratch9 cc0_scratch10 cc0_scratch11) Q) := by
  unfold bodyPre bodyPost bodyProg semSignalWord semWaitWord
  iintro ⟨#HI, #Hlev, HE, HO, Hat, Hc, Hz, Hx, Hy, Hpz, Hpx, Hpy, HT, HS⟩ Hk
  simp only [bind_assoc, Prog.lift, Prog.bind_op, Prog.bind_ret, wp_deviceId]
  iapply (signal_step I K c .bz rfl rfl (pz c) rfl 0 (by decide) (payload_bz I (pz c)) ([.bx, .by'] ++ paysL plan)) $$ [HO Hz Hpz]
  · isplitr; · iexact HI
    isplitl [HO]; · iexact HO
    isplitl [Hz] <;> iassumption
  iintro HO
  iapply (signal_step I K c .bx rfl rfl (px c) rfl 1 (by decide) (payload_bx I (px c)) ([.by'] ++ paysL plan)) $$ [HO Hx Hpx]
  · isplitr; · iexact HI
    isplitl [HO]; · iexact HO
    isplitl [Hx] <;> iassumption
  iintro HO
  iapply (signal_step I K c .by' rfl rfl (py c) rfl 2 (by decide) (payload_by I (py c)) (paysL plan)) $$ [HO Hy Hpy]
  · isplitr; · iexact HI
    isplitl [HO]; · iexact HO
    isplitl [Hy] <;> iassumption
  iintro HO
  unfold run
  rw [wp_bind]
  ihave HT := (bigSep_univ_update (Ψ := fun k => Gk I c k) 0 fun j hj => by unfold Gk; rw [if_neg hj]) $$ HT
  icases HT with ⟨HT0, HT⟩
  unfold T0
  icases HT0 with ⟨Hr, Hrows⟩
  icases HE with ⟨Hids, Htok⟩
  iapply (gather_run I K c 0 hids _) $$ [Hr Hids Hrows]
  · isplitr; · iexact HI
    isplitl [Hr]; · iexact Hr
    isplitl [Hids]; · iexact Hids
    iexact Hrows
  iintro ⟨Hids, HM⟩
  ihave HT := HT $$ [HM]
  · unfold Gk; rw [if_pos rfl]; unfold M0; iexact HM
  unfold owesL
  icases HO with ⟨%W, HO⟩
  iapply (Rounds.wp_wait_rest_token 𝒱₀ ER (Rd I) (c : Thread nD τ) none (κ := K (barCell c))
      (wpE_semWait_eq 𝒱₀ (c : Thread nD τ) none Set.univ) (Set.mem_univ _) () (O := tallyS c (paysL plan)) (W := W) (R := 0) (m := 0) (T := ∅)
      (by rw [expect_bar]; rfl)) $$ [Hc HO Hat]
  · isplitr; · iapply (recs_bar I K c); iexact HI
    isplitl [Hc]; · iexact Hc
    isplitl [HO]; · iexact HO
    isplitr; · iapply (mayWait c (.reg barS) (paysL plan) (by decide +kernel)); iexact Hlev
    iexact Hat
  iintro ⟨HO, Hat, -, Hpay⟩
  ihave Hp := (Entails.of_eq (rest_bar I c)) $$ Hpay
  ihave HC := (chunks_start I c) $$ [HT HS Hp]
  · isplitl [HT]; · iexact HT
    isplitl [HS] <;> iassumption
  iapply (stages_run I K c hids plan start plan_inOrder Q) $$ [Hids Htok HO HC]
  · isplitr; · iexact HI
    isplitr; · iexact Hlev
    isplitl [Hids Htok]; · isplitl [Hids] <;> iassumption
    isplitl [HO]; · unfold owesL; iexists _; iexact HO
    iexact HC
  iintro ⟨HE, HO, HC⟩
  iapply Hk
  isplitl [HE]; · iexact HE
  isplitl [HO]; · unfold owesL; iexact HO
  isplitl [Hat]; · iexact Hat
  rw [show (fun k => Ck I c k (plan.foldl next start k)) = fun k => Ck I c k 6 from funext fun k => by rw [plan_end]]
  iexact HC

end Cert.Proof.KI
-- ==== Proof.Split.lean ====
/- Whole buffers cut into what the body's chunks hold, and put together again. -/
module

public import proofs.«01_k».proof.Proof.Body

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD)

/-! ## Whole buffers -/

/-- The whole of the gathered rows. -/
abbrev gathW (f : S32x8x1024.Idx → Elt F .f32) : sProp 𝕄 := gathM.view.loc (c : Thread nD τ) ↦[Finset.univ]{fullShare} f
/-- The whole of the masked rows. -/
abbrev partW (f : S256x1024.Idx → Elt F .bf16) : sProp 𝕄 := partM.view.loc (c : Thread nD τ) ↦[Finset.univ]{fullShare} f
/-- The whole of the received rows. -/
abbrev comW (f : S256x1024.Idx → Elt F .bf16) : sProp 𝕄 := comM.view.loc (c : Thread nD τ) ↦[Finset.univ]{fullShare} f
/-- The whole of the result. -/
abbrev outW (f : S1024x1024.Idx → Elt F .bf16) : sProp 𝕄 := outM.view.loc (c : Thread nD τ) ↦[Finset.univ]{fullShare} f
/-- The whole of the table. -/
abbrev embW : sProp 𝕄 := embM.view.loc (c : Thread nD τ) ↦[Finset.univ]{fullShare} I.emb c

/-- Every gathered row is in a chunk. -/
theorem gath_cover (i : S32x8x1024.Idx) : i ∈ (Finset.univ : Finset S32x8x1024.Idx) ↔ ∃ k : Fin 8, i ∈ (gathAt gathM k).view.set := by
  have h : (i 0).val < 32 := (i 0).isLt
  exact ⟨fun _ => ⟨⟨(i 0).val / 4, by omega⟩, (mem_gath _ i).mpr rfl⟩, fun _ => Finset.mem_univ _⟩
/-- Chunks of gathered rows have no element in common. -/
theorem gath_disj (k k' : Fin 8) (hne : k ≠ k') : Disjoint (gathAt gathM k).view.set (gathAt gathM k').view.set :=
  Finset.disjoint_left.mpr fun i h h' => hne (Fin.ext (((mem_gath k i).mp h).symm.trans ((mem_gath k' i).mp h')))
/-- Every masked row is in a chunk. -/
theorem part_cover (i : S256x1024.Idx) : i ∈ (Finset.univ : Finset S256x1024.Idx) ↔ ∃ k : Fin 8, i ∈ (partAt partM k).view.set := by
  have h : (i 0).val < 256 := (i 0).isLt
  exact ⟨fun _ => ⟨⟨(i 0).val / 32, by omega⟩, (mem_part _ i).mpr rfl⟩, fun _ => Finset.mem_univ _⟩
/-- Chunks of masked rows have no element in common. -/
theorem part_disj (k k' : Fin 8) (hne : k ≠ k') : Disjoint (partAt partM k).view.set (partAt partM k').view.set :=
  Finset.disjoint_left.mpr fun i h h' => hne (Fin.ext (((mem_part k i).mp h).symm.trans ((mem_part k' i).mp h')))
/-- Every received row is in a chunk. -/
theorem com_cover (i : S256x1024.Idx) : i ∈ (Finset.univ : Finset S256x1024.Idx) ↔ ∃ k : Fin 8, i ∈ (partAt comM k).view.set := by
  have h : (i 0).val < 256 := (i 0).isLt
  exact ⟨fun _ => ⟨⟨(i 0).val / 32, by omega⟩, (mem_com _ i).mpr rfl⟩, fun _ => Finset.mem_univ _⟩
/-- Chunks of received rows have no element in common. -/
theorem com_disj (k k' : Fin 8) (hne : k ≠ k') : Disjoint (partAt comM k).view.set (partAt comM k').view.set :=
  Finset.disjoint_left.mpr fun i h h' => hne (Fin.ext (((mem_com k i).mp h).symm.trans ((mem_com k' i).mp h')))

/-- The gathered rows are their chunks. -/
theorem gath_whole (f : S32x8x1024.Idx → Elt F .f32) : gathW c f = bigSep Finset.univ fun k => gathPt c k f :=
  pt_parts (ℓ := gathM.view.loc (c : Thread nD τ)) (Finset.univ : Finset S32x8x1024.Idx) (fun k : Fin 8 => (gathAt gathM k).view.set)
    gath_cover gath_disj fullShare f

/-- The masked rows are their chunks. -/
theorem part_whole (f : S256x1024.Idx → Elt F .bf16) : partW c f = bigSep Finset.univ fun k => partPt c k f :=
  pt_parts (ℓ := partM.view.loc (c : Thread nD τ)) (Finset.univ : Finset S256x1024.Idx) (fun k : Fin 8 => (partAt partM k).view.set)
    part_cover part_disj fullShare f

/-- The received rows are their chunks. -/
theorem com_whole (f : S256x1024.Idx → Elt F .bf16) : comW c f = bigSep Finset.univ fun k => comPt c k f :=
  pt_parts (ℓ := comM.view.loc (c : Thread nD τ)) (Finset.univ : Finset S256x1024.Idx) (fun k : Fin 8 => (partAt comM k).view.set)
    com_cover com_disj fullShare f

/-- The four devices of `c`'s plane, each with a quarter of the result. -/
def plane : Fin 4 → Dev nD := ![c, px c, py c, px (py c)]

/-- Every quarter is owned by one of the four devices of a plane. -/
theorem plane_onto (q : Fin 4) : ∃ j, qOf (plane c j) = q := by revert c q; decide
/-- The four devices of a plane own different quarters. -/
theorem plane_inj (j j' : Fin 4) (h : qOf (plane c j) = qOf (plane c j')) : j = j' := by revert c j j'; decide

/-- What four indices hold is the four things together. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Every element of the result is in a chunk of a quarter. -/
theorem own_cover (i : S1024x1024.Idx) : i ∈ (Finset.univ : Finset S1024x1024.Idx) ↔ ∃ x : Fin 8 × Fin 4, i ∈ (ownAt outM (plane c x.2) x.1).view.set := by
  have hi : (i 0).val < 1024 := (i 0).isLt
  refine ⟨fun _ => ?_, fun _ => Finset.mem_univ _⟩
  obtain ⟨j, hj⟩ := plane_onto c ⟨(i 0).val / 256, by omega⟩
  have hj' : (qOf (plane c j)).val = (i 0).val / 256 := congrArg Fin.val hj
  exact ⟨(⟨(i 0).val / 32 % 8, by omega⟩, j), (mem_own _ _ i).mpr (by show (i 0).val / 32 = 8 * (qOf (plane c j)).val + (i 0).val / 32 % 8; omega)⟩
/-- Chunks of the result have no element in common. -/
theorem own_disj (x x' : Fin 8 × Fin 4) (hne : x ≠ x') : Disjoint (ownAt outM (plane c x.2) x.1).view.set (ownAt outM (plane c x'.2) x'.1).view.set :=
  Finset.disjoint_left.mpr fun i h h' => hne (by
    have e := (mem_own _ _ i).mp h
    have e' := (mem_own _ _ i).mp h'
    have h2 : x.2 = x'.2 := plane_inj c _ _ (Fin.ext (by omega))
    exact Prod.ext (Fin.ext (by rw [h2] at e; omega)) h2)

/-- The result is its chunks, of the four quarters. -/
theorem out_whole (f : S1024x1024.Idx → Elt F .bf16) : outW c f = bigSep Finset.univ fun k =>
    iprop(ownPt c c k fullShare f ∗ ownPt (px c) c k fullShare f ∗ ownPt (py c) c k fullShare f ∗ ownPt (px (py c)) c k fullShare f) := by
  have h : outW c f = bigSep Finset.univ fun x : Fin 8 × Fin 4 => ownPt (plane c x.2) c x.1 fullShare f :=
    pt_parts (ℓ := outM.view.loc (c : Thread nD τ)) (Finset.univ : Finset S1024x1024.Idx) (fun x : Fin 8 × Fin 4 => (ownAt outM (plane c x.2) x.1).view.set)
      (own_cover c) (own_disj c) fullShare f
  rw [h, bigSep_univ_prod]
  exact bigSep_congr fun k _ => bigSep_four _

/-- The chunks and their rows, numbered through. -/
def leafE : Fin 8 × Fin 32 ≃ Fin (2 ^ 8) where
  toFun x := leafIx x.1 x.2
  invFun i := (⟨i.val / 32, by have := i.isLt; omega⟩, ⟨i.val % 32, by omega⟩)
  left_inv x := Prod.ext (Fin.ext (by show (32 * x.1.val + x.2.val) / 32 = x.1.val; omega)) (Fin.ext (by show (32 * x.1.val + x.2.val) % 32 = x.2.val; omega))
  right_inv i := Fin.ext (by show 32 * (i.val / 32) + i.val % 32 = i.val; omega)

/-- The table is the shares that the rows' copies read with. -/
theorem emb_whole : embW I c = bigSep Finset.univ fun k => bigSep Finset.univ fun d => embPt I c k d := by
  refine (pointsTo_leaves (ℓ := embM.view.loc (c : Thread nD τ)) Finset.univ (I.emb c) 8 fullShare).trans ?_
  refine (bigSep_univ_equiv leafE _).trans (bigSep_univ_prod _)

/-- The rows of a chunk, trip by trip. -/
def tripE : Fin k0_t1_loop.trips × Fin 8 ≃ Fin 32 where
  toFun x := rowNo x.1 x.2
  invFun i := (tOf i, uOf i)
  left_inv x := Prod.ext (Fin.ext (by show (8 * x.1.val + x.2.val) / 8 = x.1.val; omega)) (Fin.ext (by show (8 * x.1.val + x.2.val) % 8 = x.2.val; omega))
  right_inv i := Fin.ext (by show 8 * (i.val / 8) + i.val % 8 = i.val; omega)

/-- What thirty-two rows hold, by trips and places. -/
theorem by_trips (Φ : Fin 32 → sProp 𝕄) :
    bigSep Finset.univ Φ = bigSep Finset.univ fun t : Fin k0_t1_loop.trips => bigSepL [0, 1, 2, 3, 4, 5, 6, 7] fun u => Φ (rowNo t u) := by
  rw [bigSep_univ_equiv tripE, bigSep_univ_prod]
  exact bigSep_congr fun t _ => bigSep_univ_eq_bigSepL [0, 1, 2, 3, 4, 5, 6, 7] (by decide) (by decide) _

/-- What a chunk's gather takes, from the chunk's buffer, its shares of the table and its duties. -/
theorem rows_intro (k : Fin 8) (f : S32x8x1024.Idx → Elt F .f32) :
    iprop(gathPt c k f ∗ (bigSep Finset.univ fun d => embPt I c k d) ∗ (bigSep Finset.univ fun d : Fin 32 => dutyTok ER (cell c 0 k) 0 d))
      ⊢ bigSep Finset.univ fun t : Fin k0_t1_loop.trips => bigSepL [0, 1, 2, 3, 4, 5, 6, 7] (rowRes I c k t) := by
  rw [gath_rows, ← bigSep_sep', ← bigSep_sep']
  refine (bigSep_mono (Ψ := fun d : Fin 32 => rowRes I c k (tOf d) (uOf d)) fun d _ => ?_).trans (Entails.of_eq ((by_trips _).trans (bigSep_congr fun t _ => ?_)))
  · have hd : rowNo (tOf d) (uOf d) = d := tripE.right_inv d
    unfold rowRes
    rw [hd]
    show iprop(rowPt c k (tOf d) (uOf d) f ∗ embPt I c k d ∗ dutyTok ER (cell c 0 k) 0 d) ⊢ _
    iintro ⟨Hr, He, Hd⟩
    isplitl [Hr]; · iexists f; iexact Hr
    isplitl [He] <;> iassumption
  · exact congrArg (bigSepL [0, 1, 2, 3, 4, 5, 6, 7]) (funext fun u => by
      rw [show tOf (rowNo t u) = t from congrArg Prod.fst (tripE.left_inv (t, u)), show uOf (rowNo t u) = u from congrArg Prod.snd (tripE.left_inv (t, u))])

/-! ## What a chunk starts from -/

/-- A chunk's semaphores, opened. -/
def Op (k : Fin 8) : sProp 𝕄 := bigSep Finset.univ fun a : Fin 9 => iprop(at0 c k a ∗ reached ER (cell c a k) 0)
/-- The duties a device pays for a chunk. -/
def Tks (k : Fin 8) : sProp 𝕄 := iprop((bigSep Finset.univ fun d : Fin 32 => dutyTok ER (cell c 0 k) 0 d)
  ∗ (tok0 k c 1 ∗ tok0 k c 3 ∗ tok0 k c 5 ∗ tok0 k c 7) ∗ (tok0 k (pz c) 2 ∗ tok0 k (px c) 4 ∗ tok0 k (py c) 6 ∗ tok0 k (py c) 8))
/-- What a device may wait for on a chunk. -/
def Crs (k : Fin 8) : sProp 𝕄 := iprop(due' c k 2 ∗ due' c k 4 ∗ due' c k 6 ∗ due' c k 8)

/-- What is given to the neighbour across `z` for a chunk. -/
def GiveZ (k : Fin 8) : sProp 𝕄 := iprop((∃ f, comPt c k f) ∗ reached ER (cell c 2 k) 0)
/-- What is given to the neighbour across `x` for a chunk. -/
def GiveX (k : Fin 8) : sProp 𝕄 := iprop((∃ f, ownPt (px c) c k fullShare f) ∗ reached ER (cell c 4 k) 0)
/-- What is given to the neighbour across `y` for a chunk. -/
def GiveY (k : Fin 8) : sProp 𝕄 := iprop((∃ f, ownPt (py c) c k fullShare f) ∗ (∃ f, ownPt (px (py c)) c k fullShare f)
  ∗ reached ER (cell c 6 k) 0 ∗ reached ER (cell c 8 k) 0)

/-- What is given across `z` for all chunks is what the barrier hands over there. -/
theorem giveZ_eq : (bigSep Finset.univ fun k => GiveZ (F := F) c k) = barZ (pz c) := by unfold barZ GiveZ; rw [pz_pz]
/-- What is given across `x` for all chunks is what the barrier hands over there. -/
theorem giveX_eq : (bigSep Finset.univ fun k => GiveX (F := F) c k) = barX (px c) := by unfold barX GiveX; rw [px_px]
/-- What is given across `y` for all chunks is what the barrier hands over there. -/
theorem giveY_eq : (bigSep Finset.univ fun k => GiveY (F := F) c k) = barY (py c) := by unfold barY GiveY; rw [py_py]

/-- A chunk's opened semaphores, one by one. -/
theorem Op_eq (k : Fin 8) : Op (F := F) c k = iprop((at0 c k 0 ∗ reached ER (cell c 0 k) 0) ∗ (at0 c k 1 ∗ reached ER (cell c 1 k) 0)
    ∗ (at0 c k 2 ∗ reached ER (cell c 2 k) 0) ∗ (at0 c k 3 ∗ reached ER (cell c 3 k) 0) ∗ (at0 c k 4 ∗ reached ER (cell c 4 k) 0)
    ∗ (at0 c k 5 ∗ reached ER (cell c 5 k) 0) ∗ (at0 c k 6 ∗ reached ER (cell c 6 k) 0) ∗ (at0 c k 7 ∗ reached ER (cell c 7 k) 0)
    ∗ (at0 c k 8 ∗ reached ER (cell c 8 k) 0)) :=
  bigSep_univ_eq_bigSepL [0, 1, 2, 3, 4, 5, 6, 7, 8] (by decide) (by decide) _

/-- What a chunk starts from and gives away, from its parts of the buffers and its rights. -/
theorem chunk_intro (k : Fin 8) (fg : S32x8x1024.Idx → Elt F .f32) (fp fc : S256x1024.Idx → Elt F .bf16) (fo : S1024x1024.Idx → Elt F .bf16) :
    iprop(Op c k ∗ Tks c k ∗ Crs c k ∗ gathPt c k fg ∗ (bigSep Finset.univ fun d => embPt I c k d) ∗ partPt c k fp ∗ comPt c k fc
        ∗ (ownPt c c k fullShare fo ∗ ownPt (px c) c k fullShare fo ∗ ownPt (py c) c k fullShare fo ∗ ownPt (px (py c)) c k fullShare fo))
      ⊢ iprop(GiveZ c k ∗ GiveX c k ∗ GiveY c k ∗ T0 I c k ∗ Start c k) := by
  rw [Op_eq]
  unfold Tks Crs GiveZ GiveX GiveY T0 Start
  iintro ⟨⟨⟨H0, Hr0⟩, ⟨H1, Hr1⟩, ⟨H2, Hr2⟩, ⟨H3, Hr3⟩, ⟨H4, Hr4⟩, ⟨H5, Hr5⟩, ⟨H6, Hr6⟩, ⟨H7, Hr7⟩, H8, Hr8⟩,
    ⟨Hg, ⟨Ht1, Ht3, Ht5, Ht7⟩, Hts⟩, Hcr, Hga, Hem, Hpa, Hco, Ho0, Ho1, Ho2, Ho3⟩
  isplitl [Hco Hr2]
  · isplitl [Hco]; · iexists fc; iexact Hco
    iexact Hr2
  isplitl [Ho1 Hr4]
  · isplitl [Ho1]; · iexists fo; iexact Ho1
    iexact Hr4
  isplitl [Ho2 Ho3 Hr6 Hr8]
  · isplitl [Ho2]; · iexists fo; iexact Ho2
    isplitl [Ho3]; · iexists fo; iexact Ho3
    isplitl [Hr6] <;> iassumption
  isplitl [Hr0 Hga Hem Hg]
  · isplitl [Hr0]; · iexact Hr0
    iapply (rows_intro I c k fg)
    isplitl [Hga]; · iexact Hga
    isplitl [Hem] <;> iassumption
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [Ht1 Hr1 Ht3 Hr3 Ht5 Hr5 Ht7 Hr7]
  · isplitl [Ht1 Hr1]; · isplitl [Ht1] <;> iassumption
    isplitl [Ht3 Hr3]; · isplitl [Ht3] <;> iassumption
    isplitl [Ht5 Hr5]; · isplitl [Ht5] <;> iassumption
    isplitl [Ht7] <;> iassumption
  isplitl [Hts]; · iexact Hts
  isplitl [Hcr]; · iexact Hcr
  isplitl [Hpa]; · iexists fp; iexact Hpa
  iexists fo; iexact Ho0

/-- The whole buffers with the semaphores opened are what the body takes, chunk by chunk. -/
theorem chunks_intro (fg : S32x8x1024.Idx → Elt F .f32) (fp fc : S256x1024.Idx → Elt F .bf16) (fo : S1024x1024.Idx → Elt F .bf16) :
    iprop((bigSep Finset.univ fun k => Op c k) ∗ (bigSep Finset.univ fun k => Tks c k) ∗ (bigSep Finset.univ fun k => Crs c k)
        ∗ gathW c fg ∗ embW I c ∗ partW c fp ∗ comW c fc ∗ outW c fo)
      ⊢ iprop(barZ (pz c) ∗ barX (px c) ∗ barY (py c) ∗ (bigSep Finset.univ fun k => T0 I c k) ∗ (bigSep Finset.univ fun k => Start c k)) := by
  rw [gath_whole, emb_whole, part_whole, com_whole, out_whole, ← giveZ_eq, ← giveX_eq, ← giveY_eq]
  simp only [← bigSep_sep']
  exact bigSep_mono fun k _ => chunk_intro I c k fg fp fc fo

/-! ## What a chunk ends with -/

/-- A chunk's semaphores past their round. -/
def Cl (k : Fin 8) : sProp 𝕄 := bigSep Finset.univ fun a : Fin 9 => at1 c k a

/-- A chunk's semaphores past their round, one by one. -/
theorem Cl_eq (k : Fin 8) : Cl (F := F) c k = iprop(at1 c k 0 ∗ at1 c k 1 ∗ at1 c k 2 ∗ at1 c k 3 ∗ at1 c k 4 ∗ at1 c k 5 ∗ at1 c k 6 ∗ at1 c k 7 ∗ at1 c k 8) :=
  bigSep_univ_eq_bigSepL [0, 1, 2, 3, 4, 5, 6, 7, 8] (by decide) (by decide) _

/-- The two halves of a chunk's share are the whole. -/
theorem own_join (k : Fin 8) (f : S1024x1024.Idx → Elt F .bf16) :
    iprop(ownPt c c k fullShare.left f ∗ ownPt c c k fullShare.right f) ⊢ (ownPt c c k fullShare f : sProp 𝕄) :=
  (pointsTo_share (PosShare.mem_left_op_right fullShare)).2

/-- What a finished chunk gives back. -/
theorem chunk_elim (k : Fin 8) : Ck I c k 6 ⊢ iprop(Cl c k ∗ gathPt c k (gathF I c) ∗ (bigSep Finset.univ fun d => embPt I c k d)
    ∗ partPt c k (partF I c) ∗ comPt c k (partF I (pz c))
    ∗ (ownPt c c k fullShare (outF I c) ∗ ownPt (px c) c k fullShare (outF I c) ∗ ownPt (py c) c k fullShare (outF I c)
      ∗ ownPt (px (py c)) c k fullShare (outF I c))) := by
  rw [Ck_6, Cl_eq]
  unfold D1 D2 D3 D4 D5
  iintro ⟨⟨H0, Hga, Hem⟩, ⟨H1, H2, Hpa, Hco⟩, ⟨H3, H4, Hl⟩, ⟨H5, H6, Hr, Ho2⟩, H7, H8, Ho1, Ho3⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [Hga]; · iexact Hga
  isplitl [Hem]; · iexact Hem
  isplitl [Hpa]; · iexact Hpa
  isplitl [Hco]; · iexact Hco
  isplitl [Hl Hr]
  · iapply (own_join c k (outF I c))
    isplitl [Hl] <;> iassumption
  isplitl [Ho1]; · iexact Ho1
  isplitl [Ho2] <;> iassumption

/-- What the body leaves, chunk by chunk, is the whole buffers, and the semaphores past their round. -/
theorem chunks_elim : (bigSep Finset.univ fun k => Ck I c k 6) ⊢ iprop((bigSep Finset.univ fun k => Cl c k)
    ∗ gathW c (gathF I c) ∗ embW I c ∗ partW c (partF I c) ∗ comW c (partF I (pz c)) ∗ outW c (outF I c)) := by
  rw [gath_whole, emb_whole, part_whole, com_whole, out_whole]
  simp only [← bigSep_sep']
  exact bigSep_mono fun k _ => chunk_elim I c k

end Cert.Proof.KI
-- ==== Proof.Whole.lean ====
/- The body with its semaphores opened and closed, over whole buffers. -/
module

public import proofs.«01_k».proof.Proof.Split

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (I : Ins F) (K : GSem nD τ sig → ℕ) (c : Dev nD)

/-- The kernel's own semaphores: chunk by chunk, one of each array. -/
abbrev osem : Fin 8 × Fin 9 → SemLoc sig := fun x => .dma (dsem x.2 x.1)

/-- The barrier's duties a device pays. -/
def barToks : sProp 𝕄 := iprop((dutyTok ER (barCell (pz c)) 0 0 ∗ reached ER (barCell (pz c)) 0)
  ∗ (dutyTok ER (barCell (px c)) 0 1 ∗ reached ER (barCell (px c)) 0) ∗ (dutyTok ER (barCell (py c)) 0 2 ∗ reached ER (barCell (py c)) 0))
/-- What a device may wait for. -/
def creds : sProp 𝕄 := iprop(cred (tallyAt (barCell c) () 3) ∗ bigSep Finset.univ fun k => Crs c k)
/-- What the launch hands a device, its semaphores not yet opened. -/
def Tk : sProp 𝕄 := iprop((∃ K, recs I K ∗ atPos ER (barCell c) 0 ∅ 0 ∗ (bigSep Finset.univ fun x : Fin 8 × Fin 9 => openTok ER (cell c x.2 x.1))
  ∗ (bigSep Finset.univ fun k => Tks c k) ∗ barToks c) ∗ creds c)
/-- The same, its semaphores opened. -/
def Xk : sProp 𝕄 := iprop((∃ K, recs I K ∗ atPos ER (barCell c) 0 ∅ 0 ∗ (bigSep Finset.univ fun k => Op c k)
  ∗ (bigSep Finset.univ fun k => Tks c k) ∗ barToks c) ∗ creds c ∗ levAts L lv)
/-- The kernel's scratch buffers, at any contents. -/
def scr : sProp 𝕄 := iprop((∃ f, gathW (F := F) c f) ∗ (∃ f, partW (F := F) c f) ∗ (∃ f, comW (F := F) c f))

/-- The semaphores opened. -/
theorem open_all : iprop(recs I K ∗ (bigSep Finset.univ fun x : Fin 8 × Fin 9 => openTok ER (cell c x.2 x.1)) ∗ Pipeline.ownSems0 osem c)
    ⊢ (|={Set.univ}=> bigSep Finset.univ fun k => Op c k : sProp 𝕄) := by
  have e : (bigSep Finset.univ fun k => Op c k : sProp 𝕄)
      = bigSep Finset.univ fun x : Fin 8 × Fin 9 => iprop(at0 c x.1 x.2 ∗ reached ER (cell c x.2 x.1) 0) := (bigSep_univ_prod (fun x : Fin 8 × Fin 9 => iprop(at0 c x.1 x.2 ∗ reached ER (cell c x.2 x.1) 0))).symm
  rw [e]
  iintro ⟨HI, Ho, Hs⟩
  iapply (Rounds.cells_open ER (Rd I) (Finset.univ : Finset (Fin 8 × Fin 9)) (fun x => cell c x.2 x.1)
    (fun x => K (cell c x.2 x.1)) (fun _ _ => Set.mem_univ _))
  isplitr [Hs]
  · iapply (bigSep_with_persistent (R := recs I K) (Φ := fun x : Fin 8 × Fin 9 => openTok ER (cell c x.2 x.1)) fun x _ => sep_mono_left (recs_cell I K c x.2 x.1)) $$ [HI Ho]
    isplitl [HI]; · iexact HI
    iexact Ho
  unfold Pipeline.ownSems0
  iexact Hs

/-- The semaphores closed. -/
theorem close_all : iprop(recs I K ∗ bigSep Finset.univ fun k => Cl c k) ⊢ (|={Set.univ}=> Pipeline.ownSems0 osem c : sProp 𝕄) := by
  have e : (bigSep Finset.univ fun k => Cl c k : sProp 𝕄) = bigSep Finset.univ fun x : Fin 8 × Fin 9 => at1 c x.1 x.2 :=
    (bigSep_univ_prod (fun x : Fin 8 × Fin 9 => at1 c x.1 x.2)).symm
  rw [e]
  exact (bigSep_with_persistent (R := recs I K) fun x _ => sep_mono_left (recs_cell I K c x.2 x.1)).trans
    (Rounds.cells_close ER (Rd I) (Finset.univ : Finset (Fin 8 × Fin 9)) (fun x => cell c x.2 x.1)
      (fun x => K (cell c x.2 x.1)) (fun _ _ => Set.mem_univ _) (fun _ _ h => h) (fun _ => 1) fun x _ => duties_later I _)

/-- What the kernel's entry makes of what the launch handed over. -/
theorem hopen : iprop(Tk I c ∗ Pipeline.ownSems0 osem c ∗ levAts L lv) ⊢ (|={Set.univ}=> Xk I c : sProp 𝕄) := by
  unfold Tk Xk
  iintro ⟨⟨⟨%K, #HI, Hat, Ho, Ht, Hb⟩, Hc⟩, Hs, Hlev⟩
  imod (open_all I K c) $$ [Ho Hs] with HOp
  · isplitr; · iexact HI
    isplitl [Ho]; · iexact Ho
    iexact Hs
  imodintro
  isplitl [Hat HOp Ht Hb]
  · iexists K
    isplitr; · iexact HI
    isplitl [Hat]; · iexact Hat
    isplitl [HOp]; · iexact HOp
    isplitl [Ht]; · iexact Ht
    iexact Hb
  isplitl [Hc]; · iexact Hc
  iexact Hlev

/-- The body from whole buffers to whole buffers, its semaphores back at zero. -/
theorem whole_run (hids : ∀ c i, k0_chk1 (I.ids c i)) (Q : PUnit → sProp 𝕄) :
    iprop(Xk I c ∗ scr c ∗ embW I c ∗ idsPt I c ∗ tokPt I c ∗ (∃ f, outW c f) ∗ owesL c ([.bz, .bx, .by'] ++ paysL plan))
      ⊢ iprop((iprop(semVal (barCell c) 0 ∗ Pipeline.ownSems0 osem c ∗ scr c ∗ embW I c ∗ idsPt I c ∗ tokPt I c ∗ outW c (outF I c) ∗ owesL c []) -∗ Q ⟨⟩)
      -∗ run c (bodyProg idsM tokM embM outM (Memref.isWhole_whole _) gathM partM (Memref.isWhole_whole _) comM (Memref.isWhole_whole _)
        cc0_scratch3 cc0_scratch4 cc0_scratch5 cc0_scratch6 cc0_scratch7 cc0_scratch8 cc0_scratch9 cc0_scratch10 cc0_scratch11) Q) := by
  unfold Xk scr creds barToks
  iintro ⟨⟨⟨%K, #HI, Hat, HOp, Ht, Hz, Hx, Hy⟩, ⟨Hcb, Hcr⟩, #Hlev⟩, ⟨⟨%fg, Hg⟩, ⟨%fp, Hp⟩, ⟨%fc, Hcm⟩⟩, He, Hi, Htk, ⟨%fo, Ho⟩, HO⟩ Hk
  ihave HC := (chunks_intro I c fg fp fc fo) $$ [HOp Ht Hcr Hg He Hp Hcm Ho]
  · isplitl [HOp]; · iexact HOp
    isplitl [Ht]; · iexact Ht
    isplitl [Hcr]; · iexact Hcr
    isplitl [Hg]; · iexact Hg
    isplitl [He]; · iexact He
    isplitl [Hp]; · iexact Hp
    isplitl [Hcm]; · iexact Hcm
    iexact Ho
  icases HC with ⟨Hpz, Hpx, Hpy, HT, HS⟩
  iapply (wp_fupd _ _ _ _ _)
  iapply (bodyProg_run I K c hids _) $$ [Hat Hz Hx Hy Hcb Hi Htk HO Hpz Hpx Hpy HT HS]
  · isplitr; · iexact HI
    isplitr; · iexact Hlev
    unfold bodyPre
    isplitl [Hi Htk]; · isplitl [Hi] <;> iassumption
    isplitl [HO]; · iexact HO
    isplitl [Hat]; · iexact Hat
    isplitl [Hcb]; · iexact Hcb
    isplitl [Hz]; · iexact Hz
    isplitl [Hx]; · iexact Hx
    isplitl [Hy]; · iexact Hy
    isplitl [Hpz]; · iexact Hpz
    isplitl [Hpx]; · iexact Hpx
    isplitl [Hpy]; · iexact Hpy
    isplitl [HT]; · iexact HT
    iexact HS
  unfold bodyPost
  iintro ⟨⟨Hi, Htk⟩, HO, Hat, HC⟩
  ihave HC := (chunks_elim I c) $$ HC
  icases HC with ⟨HCl, Hg, He, Hp, Hcm, Ho⟩
  imod (close_all I K c) $$ [HCl] with Hs
  · isplitr; · iexact HI
    iexact HCl
  imod (Rounds.cell_close ER (Rd I) (Set.mem_univ (K (barCell c))) (fun h => h) (duties_later I (barCell c))) $$ [Hat] with Hb
  · isplitr; · iapply (recs_bar I K c); iexact HI
    iexact Hat
  imodintro
  iapply Hk
  isplitl [Hb]; · iexact Hb
  isplitl [Hs]; · iexact Hs
  isplitl [Hg Hp Hcm]
  · isplitl [Hg]; · iexists _; iexact Hg
    isplitl [Hp]; · iexists _; iexact Hp
    iexists _; iexact Hcm
  isplitl [He]; · iexact He
  isplitl [Hi]; · iexact Hi
  isplitl [Htk]; · iexact Htk
  isplitl [Ho]; · iexact Ho
  iexact HO

end Cert.Proof.KI
-- ==== Proof.Host.lean ====
/- What the host leaves for the kernel: the clipped token numbers, the token numbers as a column, and the table. -/
module

public import proofs.«01_k».proof.Proof.Geom
public import proofs.«01_k».proof.Proof.Gen.KernelIdeal.Regions
public import Idealize.ShloMosaic.Lib.StableHlo.RunRead

@[expose] public section

noncomputable section

namespace Cert.Proof.KI

open Cert.KernelIdeal Cert.KernelIdeal.Gen
open Idealize.ShloMosaic Idealize.ShloMosaic.TcCoe
open Idealize.SL Idealize.SL.RA Idealize.SL.BI
open Idealize.SL.Sem
open Idealize.ShloMosaic.ValueIdx

variable {F : FTy → Type} [FloatOps F]
variable (m : (ℓ : Loc nD τ sig) → Buf (Elt F) ℓ) (c : Dev nD)

/-- The number of the first row a device's half of the table holds. -/
def base : BitVec 32 := BitVec.ofNat 32 (8192 * (c.val % 2))

/-- A token number, within a device's half of the table. -/
def clip (v : BitVec 32) : BitVec 32 := IntOp.minsi 8191#32 (IntOp.maxsi 0#32 (v - base c))

/-- The first row number, as the host computes it. -/
theorem base_eq : IntOp.muli (IntOp.remui .host (IntOp.divui .host c.word 1#32) 2#32) 8192#32 = base c := by
  revert c; decide

/-- The token numbers at launch. -/
def idsIn : S1024.Idx → BitVec 32 := m (c, main_arg0)

/-- The host leaves the clipped token numbers. -/
theorem ids_eq : (V3 m c main_v8 : S1024.Idx → BitVec 32) = fun i : S1024.Idx => clip c (idsIn m c i) := by
  funext i
  rw [V3_of m c main_v8 (by decide)]
  after_reads_simp
  have h : IntOp.minsi 8191#32 (IntOp.maxsi 0#32 (idsIn m c i
    - IntOp.muli (IntOp.remui .host (IntOp.divui .host c.word 1#32) 2#32) 8192#32)) = clip c (idsIn m c i) := by
    rw [base_eq]; rfl
  exact h

/-- The host leaves the token numbers as a column. -/
theorem tok_eq : (V3 m c main_v9 : S1024x1.Idx → BitVec 32) = fun i : S1024x1.Idx => idsIn m c (ix1 (i 0)) := by
  after_reads_simp
  funext i
  refine shapeCast_apply (s := S1024) (t := S1024x1) (idsIn m c) shapeCasts_S1024_S1024x1 i (ix1 (i 0)) ?_
  rw [Shape.rowMajor_val_one, Shape.rowMajor_val_two]
  have h1 : (i 1).val < 1 := (i 1).isLt
  show (i 0).val = (i 0).val * 1 + (i 1).val
  omega

/-- The host leaves the table alone. -/
theorem emb_eq : V3 m c main_arg1 = m (c, main_arg1) :=
  (V3_of m c main_arg1 (by decide)).trans ((V2_of m c main_arg1 (by decide)).trans (V1_of m c main_arg1 (by decide)))

/-- A clipped token number is a row of the table. -/
theorem clip_lt (v : BitVec 32) : (clip c v).toNat ≤ 8191 := by
  unfold clip IntOp.minsi IntOp.maxsi
  generalize v - base c = w
  by_cases h0 : w.slt 0#32 = true
  · rw [if_pos h0]; decide
  · rw [if_neg h0]
    by_cases h : (8191#32).slt w = true
    · rw [if_pos h]; decide
    · rw [if_neg h]
      rw [BitVec.slt_eq_decide, decide_eq_true_eq] at h h0
      have e : (8191#32).toInt = 8191 := by decide
      have e0 : (0#32).toInt = 0 := by decide
      rw [e] at h
      rw [e0] at h0
      have := BitVec.toInt_eq_toNat_cond w
      have := w.isLt
      omega

/-- A clipped token number passes the kernel's check of a row. -/
theorem clip_chk (v : BitVec 32) : k0_chk1 (clip c v) := by
  have h := clip_lt c v
  intro a
  fin_cases a
  · show (clip c v).toNat + 1 ≤ 8192
    omega
  · show 0 + 1024 ≤ 1024
    omega

/-- What the kernel reads, from the buffers at launch. -/
def insOf : Ins F where
  ids c i := clip c (idsIn m c i)
  tok c i := idsIn m c (ix1 (i 0))
  emb c := m (c, main_arg1)

/-- Every row number that the kernel reads passes its check. -/
theorem insOf_chk (i : S1024.Idx) : k0_chk1 ((insOf m).ids c i) := clip_chk c _

end Cert.Proof.KI
-- ==== Proof.Region.lean ====
/- The kernel's region: its windows, its body at its one point, and its record among the program's segments. -/
module

public import proofs.«01_k».proof.Proof.Whole
public import proofs.«01_k».proof.Proof.Host
public import proofs.«01_k».proof.Proof.Gen.KernelIdeal.Launch
public import proofs.«01_k».proof.Proof.Gen.KernelIdeal.Points
public import Idealize.ShloMosaic.Lib.Pipeline.ValueKit.Geometry
public import Idealize.ShloMosaic.Lib.Pipeline.FrameBody

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-- Every payment of a device to another. -/
abbrev allPays : List Site := [.bz, .bx, .by'] ++ paysL plan
/-- What a device owes the others at launch. -/
def O₀ (c : Dev nD) : CellTallies nD τ sig Unit := tallyS c allPays

/-- The buffers once the kernel has run: its result written. -/
def W4 (c : Dev nD) : Valuation τ sig (Elt F) := Function.update (V3 m c) (Proc.devRef .tc main_v10) (outF (insOf m) c)

/-- After the call the result holds the computed rows. -/
theorem W4_out : W4 m c (Proc.devRef .tc main_v10) = outF (insOf m) c := Function.update_self ..
/-- After the call every other buffer is as before. -/
theorem W4_of (b : DevRef τ sig) (h : b ≠ Proc.devRef .tc main_v10) : W4 m c b = V3 m c b := Function.update_of_ne h ..

/-- The generator's register, at any contents. -/
def prn (c : Dev nD) : sProp 𝕄 := iprop(∃ r, prngReg c r)

/-- The region's contents and invariant: before its one point everything is opened, after it everything is given back. -/
def dat (c : Dev nD) : Dat τ (Elt F) Unit ℕ UU ℕ cfg0 c where
  A := fun | 0 => (insOf m).ids c | 1 => (insOf m).tok c | 2 => V3 m c main_v10 | ⟨_ + 3, h⟩ => absurd h (Nat.not_lt.2 (Nat.le_add_left _ _))
  after := fun | 0 => (fun _ => (insOf m).ids c) | 1 => (fun _ => (insOf m).tok c) | 2 => (fun _ => outF (insOf m) c) | ⟨_ + 3, h⟩ => absurd h (Nat.not_lt.2 (Nat.le_add_left _ _))
  Φ t := if t.val = 0 then iprop(Xk (insOf m) c ∗ scr c ∗ embW (insOf m) c ∗ prn c)
    else iprop((semVal (barCell c) 0 ∗ Pipeline.ownSems0 osem c) ∗ scr c ∗ embW (insOf m) c ∗ prn c)
  q _ := fullShare
  owed t := if t.val = 0 then O₀ c else 0

/-- The call's run, as the one entry of the table of calls. -/
def pdats : (p : Fin 1) → (c : Dev nD) → Dat τ (Elt F) Unit ℕ UU ℕ (cfgs p) c := fun _ c => dat m c

/-- What the body has at its start. -/
theorem dat_first : (dat m c).Φ t0_0.castSucc = iprop(Xk (insOf m) c ∗ scr c ∗ embW (insOf m) c ∗ prn c) := rfl
/-- What the body has at its end. -/
theorem dat_last : (dat m c).Φ t0_0.succ = iprop((semVal (barCell c) 0 ∗ Pipeline.ownSems0 osem c) ∗ scr c ∗ embW (insOf m) c ∗ prn c) := rfl
/-- At its start the body owes all of a device's payments. -/
theorem owed_first : (dat m c).owed t0_0.castSucc = O₀ c := rfl
/-- At its end the body owes nothing. -/
theorem owed_last : (dat m c).owed t0_0.succ = 0 := rfl

/-- A debt in plain words is the run's. -/
theorem owes_in (t : Fin (cfg0.N + 1)) (O : CellTallies nD τ sig Unit) (h : (dat m c).owed t = O) (W : Waits sig Unit) :
    owes (c : Thread nD τ) O W ⊢ ((dat m c).owesAt () t : sProp 𝕄) := by
  unfold Dat.owesAt Pipeline.owesWithin Dat.bound
  rw [h]
  iintro HO
  iexists W
  isplitr; · ipureintro; exact fun _ _ => Or.inl trivial
  iexact HO
/-- The run's debt in plain words. -/
theorem owes_out (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-- The body starts owing the whole list of payments. -/
theorem owes_first : ((dat m c).owesAt () t0_0.castSucc : sProp 𝕄) ⊢ owesL c allPays := owes_out m c _ (O₀ c) (owed_first m c)

/-! ## The windows: each the whole of its array -/

/-- The window of the row numbers starts at zero. -/
theorem ix0 : ∀ a, win0_0.index t0_0 a = 0 := by decide +kernel
/-- The window of the token numbers starts at zero. -/
theorem ix1' : ∀ a, win0_1.index t0_0 a = 0 := by decide +kernel

/-- The window of the row numbers is the whole array. -/
theorem emb0 (y : S1024.Idx) : ((win0_0.blk t0_0).view.emb y : S1024.Idx) = y := by
  funext a
  apply Fin.ext
  fin_cases a
  blk_simp
  rw [ix0, Nat.zero_mul, Nat.zero_add]
/-- The window of the token numbers is the whole array. -/
theorem emb1 (y : S1024x1.Idx) : ((win0_1.blk t0_0).view.emb y : S1024x1.Idx) = y := by
  funext a
  apply Fin.ext
  fin_cases a
  · blk_simp
    rw [ix1', Nat.zero_mul, Nat.zero_add]
  · blk_simp
    exact ix1' 1

/-- The body is given the clipped row numbers. -/
theorem before0 (d) : (dat m c).before 0 t0_0 d = (insOf m).ids c :=
  ((dat m c).before_fetched 0 t0_0 (fetch0_0 t0_0) d).trans (funext fun y => congrArg ((insOf m).ids c) (emb0 y))
/-- The body is given the token numbers. -/
theorem before1 (d) : (dat m c).before 1 t0_0 d = (insOf m).tok c :=
  ((dat m c).before_fetched 1 t0_0 (fetch0_1 t0_0) d).trans (funext fun y => congrArg ((insOf m).tok c) (emb1 y))

/-- After the body the result's array holds the computed rows. -/
theorem out_after : (dat m c).arrAt 2 cfg0.N = outF (insOf m) c :=
  (dat m c).arrAt_eq_of_after_last 2 t0_0 (by decide +kernel) _ fun j => rfl

/-! ## The body's obligation -/

/-- At its one point the body runs from the invariant before it to the one after it. -/
theorem body (c : Dev nD) : BodyObligation (dat m c) defs₀ 𝒱₀ () Set.univ := fun t => by
  obtain rfl := fin_N0 t
  rw [bigSep_W0, bigSep_W0, dat_first, dat_last]
  show iprop((Xk (insOf m) c ∗ scr c ∗ embW (insOf m) c ∗ prn c) ∗ (dat m c).owesAt () t0_0.castSucc
    ∗ (∃ d, owns c idsM fullShare ((dat m c).before 0 t0_0 d)) ∗ (∃ d, owns c tokM fullShare ((dat m c).before 1 t0_0 d))
    ∗ (∃ d, owns c outM fullShare ((dat m c).before 2 t0_0 d))) ⊢ run c (cc0_body idsM (Memref.isWhole_whole _) tokM (Memref.isWhole_whole _) embM (Memref.isWhole_whole _)
      outM (Memref.isWhole_whole _) gathM (Memref.isWhole_whole _) partM (Memref.isWhole_whole _) comM (Memref.isWhole_whole _)
      cc0_scratch3 cc0_scratch4 cc0_scratch5 cc0_scratch6 cc0_scratch7 cc0_scratch8 cc0_scratch9 cc0_scratch10 cc0_scratch11)
    fun _ => iprop(((semVal (barCell c) 0 ∗ Pipeline.ownSems0 osem c) ∗ scr c ∗ embW (insOf m) c ∗ prn c) ∗ (dat m c).owesAt () t0_0.succ
      ∗ owns c idsM fullShare ((insOf m).ids c) ∗ owns c tokM fullShare ((insOf m).tok c) ∗ owns c outM fullShare (outF (insOf m) c))
  rw [body_eq]
  simp only [before0, before1, owns_whole]
  iintro ⟨⟨HX, Hs, He, Hp⟩, HO, ⟨%d0, Hi⟩, ⟨%d1, Htk⟩, ⟨%d2, Ho⟩⟩
  ihave HO := (owes_first m c) $$ HO
  iapply (whole_run (insOf m) c (insOf_chk m) _) $$ [HX Hs He Hi Htk Ho HO]
  · isplitl [HX]; · iexact HX
    isplitl [Hs]; · iexact Hs
    isplitl [He]; · iexact He
    isplitl [Hi]; · iexact Hi
    isplitl [Htk]; · iexact Htk
    isplitl [Ho]; · iexists _; iexact Ho
    iexact HO
  iintro ⟨Hb, Hos, Hs, He, Hi, Htk, Ho, HO⟩
  isplitl [Hb Hos Hs He Hp]
  · isplitl [Hb Hos]; · isplitl [Hb] <;> iassumption
    isplitl [Hs]; · iexact Hs
    isplitl [He]; · iexact He
    iexact Hp
  isplitl [HO]
  · unfold owesL
    icases HO with ⟨%W, HO⟩
    iapply (owes_in m c t0_0.succ 0 (owed_last m c) W)
    iexact HO
  isplitl [Hi]; · iexact Hi
  isplitl [Htk]; · iexact Htk
  iexact Ho

/-! ## The record -/

/-- The one buffer the body addresses where it lies: the table. -/
abbrev tabRefs : Finset (DevRef τ sig) := {Proc.devRef .tc main_arg1}
/-- The buffers no window stages. -/
abbrev restRefs : Finset (DevRef τ sig) := Pipeline.ucRefs τ sig \ Pipeline.arrRefs (τ := τ) spec0

/-- The table is a buffer that no window stages. -/
theorem tab_sub : tabRefs ⊆ restRefs := by decide +kernel

/-- Holding the table is holding its buffer with its contents. -/
theorem tab_held (W : Valuation τ sig (Elt F)) (h : W (Proc.devRef .tc main_arg1) = (insOf m).emb c) :
    (StableHlo.held (c.tc : Thread nD τ) tabRefs W : sProp 𝕄) = embW (insOf m) c := by
  unfold StableHlo.held
  rw [bigSep_singleton, h]

/-- The buffers the call opens are the body's scratch. -/
theorem scr_eq : (Pipeline.scopedRest (Ix := Unit) (Name := ℕ) (U := UU) (Lvl := ℕ) (Val := Elt F) (Pipeline.pin (pcfgs (F := F)) adm 0).spec c : sProp 𝕄) = scr c :=
  scopedRest0_eq c

/-- The facts of the call's launch. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The facts of the body's own semaphores. -/
theorem osem_facts : Pipeline.OwnSemFacts spec0 osem := by decide +kernel

/-- What opens the body, from the scratch and what rides along. -/
theorem region_in : iprop(Pipeline.scopedRest (Pipeline.pin (pcfgs (F := F)) adm 0).spec c ∗ (∃ r, prngReg c r)
    ∗ StableHlo.held (c.tc : Thread nD τ) tabRefs (V3 m c) ∗ Xk (insOf m) c) ⊢ (pdats m 0 c).Φ 0 := by
  rw [show (pdats m 0 c).Φ 0 = iprop(Xk (insOf m) c ∗ scr c ∗ embW (insOf m) c ∗ prn c) from rfl, scr_eq, tab_held m c (V3 m c) (emb_eq m c)]
  unfold prn
  iintro ⟨Hs, Hp, He, HX⟩
  isplitl [HX]; · iexact HX
  isplitl [Hs]; · iexact Hs
  isplitl [He]; · iexact He
  iexact Hp

/-- After the call the table is as it was. -/
theorem W4_arg1 : W4 m c (Proc.devRef .tc main_arg1) = (insOf m).emb c := (W4_of m c _ (by decide)).trans (emb_eq m c)

/-- What the region keeps for what follows it: its barrier's counter, back at zero. -/
def Yk (c : Dev nD) : sProp 𝕄 := semVal (barCell c) 0

/-- What the body leaves, as the region closes. -/
theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tabRefs (W4 m c) ∗ Pipeline.ownSems0 osem c ∗ Yk c) := by
  rw [show (pdats m 0 c).Φ (Fin.last _) = iprop((semVal (barCell c) 0 ∗ Pipeline.ownSems0 osem c) ∗ scr c ∗ embW (insOf m) c ∗ prn c) from dat_last m c,
    scr_eq, tab_held m c (W4 m c) (W4_arg1 m c)]
  unfold prn Yk
  iintro ⟨⟨Hb, Hos⟩, Hs, He, Hp⟩
  isplitl [Hs]; · iexact Hs
  isplitl [Hp]; · iexact Hp
  isplitl [He]; · iexact He
  isplitl [Hos]; · iexact Hos
  iexact Hb

/-- What is owed is owed on cells with a level above zero. -/
theorem owed_level (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · obtain ⟨s, -, rfl⟩ := tallyS_pos h
    refine ⟨by rw [L_tc]; exact Finset.mem_singleton_self _, ?_⟩
    show 0 < lvOf s.sem
    clear h e
    cases s with
    | bz => decide
    | bx => decide
    | by' => decide
    | zr k => revert k; decide
    | xr k => revert k; decide
    | yr k => revert k; decide
    | wr k => revert k; decide
  · exact absurd h (Nat.lt_irrefl 0)

/-- The result is staged by a window. -/
theorem out_notRest : Proc.devRef .tc main_v10 ∉ restRefs \ tabRefs := by decide +kernel

/-- The windows' semaphores have level zero. -/
theorem win_level (w : Fin 3) (s : Fin ((win0 w).nbuf)) : lvOf (.dma ((win0 w).sem s)) ≤ 0 := by
  fin_cases w <;> fin_cases s <;> decide

/-- The windows' arrays start as the host left them. -/
theorem arr_in (w : Fin 3) : (pdats m 0 c).arrAt w 0 = V3 m c (Proc.devRef .tc (Pipeline.arrRef (Pipeline.pin (pcfgs (F := F)) adm 0).spec w)) := by
  fin_cases w
  · exact (ids_eq m c).symm
  · exact (tok_eq m c).symm
  · rfl

/-- The windows' arrays end as the region says. -/
theorem arr_out (w : Fin 3) : (pdats m 0 c).arrAt w (Pipeline.pin (pcfgs (F := F)) adm 0).N = W4 m c (Proc.devRef .tc (Pipeline.arrRef (Pipeline.pin (pcfgs (F := F)) adm 0).spec w)) := by
  fin_cases w
  · exact ((dat m c).arrAt_in 0 rfl _).trans ((ids_eq m c).symm.trans (W4_of m c _ (by decide)).symm)
  · exact ((dat m c).arrAt_in 1 rfl _).trans ((tok_eq m c).symm.trans (W4_of m c _ (by decide)).symm)
  · exact (out_after m c).trans (W4_out m c).symm

set_option backward.isDefEq.respectTransparency.types false in
/-- The region's record: entered with the buffers as the host left them, left with the result written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts tabRefs (restRefs) tab_sub kitP rfl
    (fun c => (body m c).loose) (fun _ => 0) O₀ (fun c => (show (dat m c).owed 0 = O₀ c from rfl).trans (zero_add _).symm) (fun c => owed_last m c) (fun _ => rfl)
    (fun _ w => by fin_cases w <;> rfl) (V3 m) (W4 m)
    (fun c b hb => W4_of m c b fun e => out_notRest (e ▸ hb))
    (Tk (insOf m)) Yk (Xk (insOf m)) Yk (hopen (insOf m)) (region_in m) (region_out m)
    (fun c => by iintro H; imodintro; iexact H) (fun _ => 0)
    ⟨fun c w s => by rw [L_tc]; exact Finset.mem_singleton_self _, fun c w s => win_level w s, fun c t g i h => owed_level m c t g i h⟩
    (fun _ => iprop(emp)) (arr_in m) (arr_out m)

end Cert.Proof.KI
-- ==== Proof.Fund.lean ====
/- What the launch hands out: the rights to pay, to the device that pays, and the credits, to the device that waits. -/
module

public import proofs.«01_k».proof.Proof.Region

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

/-! ## The cells and the rights to pay -/

/-- The barrier's cells are none of the copies'. -/
theorem disjoint_cells : Disjoint barCells dmaCells := by
  rw [Finset.disjoint_left]
  intro g h₁ h₂
  obtain ⟨c, -, rfl⟩ := Finset.mem_map.mp h₁
  obtain ⟨x, -, h⟩ := Finset.mem_map.mp h₂
  have h' : (SemLoc.dma (dsem x.2.1 x.2.2) : SemLoc sig) = .reg barS := congrArg Prod.snd h
  injection h'

/-- The rights to pay into one device's semaphores: its barrier's, and those of each chunk. -/
abbrev Right : Type := Fin 3 ⊕ Fin 8 × (Fin 32 ⊕ (Fin 4 ⊕ Fin 4))
/-- An array of semaphores through which a device's own copies are read. -/
abbrev srcArr (j : Fin 4) : Fin 9 := ⟨2 * j.val + 1, by omega⟩
/-- An array of semaphores through which a neighbour's copies land. -/
abbrev dstArr (j : Fin 4) : Fin 9 := ⟨2 * j.val + 2, by omega⟩
/-- The semaphore and the duty of a right. -/
def place : Right → SemLoc sig × Fin 32
  | .inl d => (.reg barS, ⟨d.val, by omega⟩)
  | .inr (k, .inl d) => (.dma (dsem 0 k), d)
  | .inr (k, .inr (.inl j)) => (.dma (dsem (srcArr j) k), 0)
  | .inr (k, .inr (.inr j)) => (.dma (dsem (dstArr j) k), 0)

/-- A copy's semaphore is not a barrier's. -/
theorem dma_ne_reg {s : Fin sig.nDmaSem} {r : Fin sig.nSem} (h : (SemLoc.dma s : SemLoc sig) = .reg r) : False := by injection h
/-- Two equal semaphores are of the same array and chunk. -/
theorem dma_arr {a a' : Fin 9} {k k' : Fin 8} (h : (SemLoc.dma (dsem a k) : SemLoc sig) = .dma (dsem a' k')) : a.val = a'.val ∧ k = k' := by
  injection h with h
  exact ⟨congrArg Fin.val (dsem_inj h).1, (dsem_inj h).2⟩

/-- Different rights have different places. -/
theorem place_inj : Function.Injective place := by
  rintro (d | ⟨k, d | j | j⟩) (d' | ⟨k', d' | j' | j'⟩) h
  all_goals obtain ⟨h1, h2⟩ := Prod.mk.inj h
  · exact congrArg _ (Fin.ext (congrArg (fun i : Fin 32 => i.val) h2))
  · exact (dma_ne_reg h1.symm).elim
  · exact (dma_ne_reg h1.symm).elim
  · exact (dma_ne_reg h1.symm).elim
  · exact (dma_ne_reg h1).elim
  · rw [(dma_arr h1).2, show d = d' from h2]
  · exact absurd (dma_arr h1).1 (by show ¬ 0 = 2 * j'.val + 1; omega)
  · exact absurd (dma_arr h1).1 (by show ¬ 0 = 2 * j'.val + 2; omega)
  · exact (dma_ne_reg h1).elim
  · exact absurd (dma_arr h1).1 (by show ¬ 2 * j.val + 1 = 0; omega)
  · rw [(dma_arr h1).2, show j = j' from Fin.ext (by have := (dma_arr h1).1; change 2 * j.val + 1 = 2 * j'.val + 1 at this; omega)]
  · exact absurd (dma_arr h1).1 (by show ¬ 2 * j.val + 1 = 2 * j'.val + 2; omega)
  · exact (dma_ne_reg h1).elim
  · exact absurd (dma_arr h1).1 (by show ¬ 2 * j.val + 2 = 0; omega)
  · exact absurd (dma_arr h1).1 (by show ¬ 2 * j.val + 2 = 2 * j'.val + 1; omega)
  · rw [(dma_arr h1).2, show j = j' from Fin.ext (by have := (dma_arr h1).1; change 2 * j.val + 2 = 2 * j'.val + 2 at this; omega)]

/-- Every right of the machine. -/
def rights : Finset (GSem nD τ sig × ℕ × Fin 32) :=
  (Finset.univ : Finset (Dev nD × Right)).map ⟨fun x => (((x.1 : Thread nD τ), (place x.2).1), 0, (place x.2).2), fun x y h =>
    Prod.ext (congrArg (fun t : GSem nD τ sig × ℕ × Fin 32 => t.1.1.1) h)
      (place_inj (Prod.ext (congrArg (fun t : GSem nD τ sig × ℕ × Fin 32 => t.1.2) h) (congrArg (fun t : GSem nD τ sig × ℕ × Fin 32 => t.2.2) h)))⟩

/-- What three indices hold is the three things together. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The rights to pay into one chunk's semaphores of a device. -/
def intoChunk (c : Dev nD) (k : Fin 8) : sProp 𝕄 := iprop((bigSep Finset.univ fun d : Fin 32 => dutyTok ER (cell c 0 k) 0 d)
  ∗ (tok0 k c 1 ∗ tok0 k c 3 ∗ tok0 k c 5 ∗ tok0 k c 7) ∗ (tok0 k c 2 ∗ tok0 k c 4 ∗ tok0 k c 6 ∗ tok0 k c 8))
/-- The rights to pay into a device's semaphores. -/
def into (c : Dev nD) : sProp 𝕄 := iprop((dutyTok ER (barCell c) 0 0 ∗ dutyTok ER (barCell c) 0 1 ∗ dutyTok ER (barCell c) 0 2)
  ∗ bigSep Finset.univ fun k => intoChunk c k)
/-- The rights a device pays with. -/
def outOf (c : Dev nD) : sProp 𝕄 := iprop((dutyTok ER (barCell (pz c)) 0 0 ∗ dutyTok ER (barCell (px c)) 0 1 ∗ dutyTok ER (barCell (py c)) 0 2)
  ∗ bigSep Finset.univ fun k => Tks c k)

/-- The rights to pay, listed by duty, are on every device the rights to pay into it. -/
theorem rights_into : (bigSep rights fun x => (dutyTok ER x.1 x.2.1 x.2.2 : sProp 𝕄)) = bigSep Finset.univ fun c : Dev nD => into c := by
  unfold rights
  rw [bigSep_map, bigSep_univ_prod]
  refine bigSep_congr fun c _ => ?_
  rw [bigSep_univ_sum, bigSep_univ_prod, bigSep_three]
  unfold into
  refine congrArg₂ BI.sep rfl (bigSep_congr fun k _ => ?_)
  rw [bigSep_univ_sum, bigSep_univ_sum, bigSep_four, bigSep_four]
  rfl

/-- Each right handed to the device that pays with it. -/
theorem rights_around : (bigSep Finset.univ fun c : Dev nD => (into c : sProp 𝕄)) ⊢ bigSep Finset.univ fun c : Dev nD => outOf c := by
  unfold into outOf intoChunk Tks
  simp only [bigSep_sep']
  rw [bigSep_univ_equiv pzE (fun c : Dev nD => (dutyTok ER (barCell c) 0 0 : sProp 𝕄)),
    bigSep_univ_equiv pxE (fun c : Dev nD => (dutyTok ER (barCell c) 0 1 : sProp 𝕄)),
    bigSep_univ_equiv pyE (fun c : Dev nD => (dutyTok ER (barCell c) 0 2 : sProp 𝕄)),
    bigSep_univ_equiv pzE (fun c : Dev nD => (bigSep Finset.univ fun k => tok0 k c 2 : sProp 𝕄)),
    bigSep_univ_equiv pxE (fun c : Dev nD => (bigSep Finset.univ fun k => tok0 k c 4 : sProp 𝕄)),
    bigSep_univ_equiv pyE (fun c : Dev nD => (bigSep Finset.univ fun k => tok0 k c 6 : sProp 𝕄)),
    bigSep_univ_equiv pyE (fun c : Dev nD => (bigSep Finset.univ fun k => tok0 k c 8 : sProp 𝕄))]
  exact BI.Entails.refl _

/-- The rights to open the copies' semaphores, device by device. -/
theorem opens_by_device : (bigSep dmaCells fun g => (openTok ER g : sProp 𝕄))
    = bigSep Finset.univ fun c : Dev nD => bigSep Finset.univ fun x : Fin 8 × Fin 9 => openTok ER (cell c x.2 x.1) := by
  unfold dmaCells
  rw [bigSep_map, bigSep_univ_prod]
  exact bigSep_congr fun c _ => bigSep_univ_equiv (Equiv.prodComm (Fin 8) (Fin 9)) (fun x : Fin 9 × Fin 8 => (openTok ER (cell c x.1 x.2) : sProp 𝕄))

/-! ## The credits -/

/-- The payments of a list, had the device made them to itself: what it is paid. -/
def paidS (c : Dev nD) : List Site → CellTallies nD τ sig Unit
  | [] => 0
  | s :: l => paidS c l + tallyAt ((c : Thread nD τ), s.sem) () s.amt

/-- What all pay is what all are paid. -/
theorem sum_paid (l : List Site) : (∑ d : Dev nD, tallyS d l) = ∑ d : Dev nD, paidS d l := by
  induction l with
  | nil => rfl
  | cons s l ih =>
    show (∑ d : Dev nD, (tallyS d l + tallyAt ((s.to d : Thread nD τ), s.sem) () s.amt)) = ∑ d : Dev nD, (paidS d l + tallyAt ((d : Thread nD τ), s.sem) () s.amt)
    rw [Finset.sum_add_distrib, Finset.sum_add_distrib, ih,
      Equiv.sum_comp s.to (fun d : Dev nD => (tallyAt ((d : Thread nD τ), s.sem) () s.amt : CellTallies nD τ sig Unit))]

/-- A device is paid on its own semaphores. -/
theorem paid_own (l : List Site) (d : Dev nD) (g : GSem nD τ sig) (h : paidS d l g ≠ 0) : g.1 = (d : Thread nD τ) := by
  induction l with
  | nil => exact absurd rfl h
  | cons s l ih =>
    by_contra hg
    refine h ?_
    show paidS d l g + tallyAt ((d : Thread nD τ), s.sem) () s.amt g = 0
    rw [tallyAt_ne_cell (fun e => hg (congrArg Prod.fst e)), not_not.mp (fun hn => hg (ih hn)), add_zero]

/-- In any order. -/
theorem paid_perm (c : Dev nD) {l l' : List Site} (h : l.Perm l') : paidS c l = paidS c l' := by
  induction h with
  | nil => rfl
  | cons s _ ih => show paidS c _ + _ = paidS c _ + _; rw [ih]
  | swap s s' l => show paidS c l + _ + _ = paidS c l + _ + _; rw [add_right_comm]
  | trans _ _ ih ih' => exact ih.trans ih'

/-- The payments a chunk brings. -/
abbrev chunkPays (k : Fin 8) : List Site := [.zr k, .xr k, .yr k, .wr k]
/-- The payments of several chunks. -/
def chunksPays : List (Fin 8) → List Site
  | [] => [.bz, .bx, .by']
  | k :: l => chunkPays k ++ chunksPays l

/-- A device's payments are those of the eight chunks and of the barrier, in another order. -/
theorem pays_perm : allPays.Perm (chunksPays [0, 1, 2, 3, 4, 5, 6, 7]) := by decide +kernel

/-- What is paid for a list of chunks lets a device wait three times on its barrier and on each chunk's semaphores. -/
theorem paid_chunks (c : Dev nD) (l : List (Fin 8)) :
    (cred (paidS c (chunksPays l)) : sProp 𝕄) ⊢ iprop(cred (tallyAt (barCell c) () 3) ∗ bigSepL l fun k => Crs c k) := by
  induction l with
  | nil =>
    have e : paidS c (chunksPays []) = tallyAt (barCell c) () 3 := by
      show 0 + tallyAt (barCell c) () 1 + tallyAt (barCell c) () 1 + tallyAt (barCell c) () 1 = _
      rw [zero_add, show (3 : ℕ) = 1 + 1 + 1 from rfl, tallyAt_add, tallyAt_add]
    rw [e, bigSepL_nil]
    exact Entails.of_eq (BI.equiv_iff.mp sep_emp).symm
  | cons k l ih =>
    rw [sepL_cons]
    have e : paidS c (chunksPays (k :: l)) = paidS c (chunksPays l) + tallyAt (cell c 8 k) () NC + tallyAt (cell c 6 k) () NC
        + tallyAt (cell c 4 k) () NC + tallyAt (cell c 2 k) () NC := rfl
    rw [e]
    iintro H
    ihave H2 := (cred_add _ _).1 $$ H
    icases H2 with ⟨H, H2⟩
    ihave H4 := (cred_add _ _).1 $$ H
    icases H4 with ⟨H, H4⟩
    ihave H6 := (cred_add _ _).1 $$ H
    icases H6 with ⟨H, H6⟩
    ihave H8 := (cred_add _ _).1 $$ H
    icases H8 with ⟨H, H8⟩
    ihave Hi := ih $$ H
    icases Hi with ⟨Hb, Hl⟩
    isplitl [Hb]; · iexact Hb
    isplitr [Hl]
    · unfold Crs
      isplitl [H2]; · iexact H2
      isplitl [H4]; · iexact H4
      isplitl [H6]; · iexact H6
      iexact H8
    iexact Hl

/-- The launch credits every device with what the others will pay it. -/
theorem launch_creds (c : Dev nD) : (Pipeline.launchCred O₀ c : sProp 𝕄) ⊢ creds c := by
  rw [Pipeline.launchCred_of_sum O₀ (fun d => paidS d allPays) (sum_paid allPays) (paid_own allPays) c, paid_perm c pays_perm]
  unfold creds
  rw [bigSep_univ_eq_bigSepL [0, 1, 2, 3, 4, 5, 6, 7] (by decide) (by decide) (fun k : Fin 8 => (Crs c k : sProp 𝕄))]
  exact paid_chunks c _

end Cert.Proof.KI
-- ==== Proof.Launch.lean ====
/- The program's run: from the launch, through the host's operations and the kernel's region, to the memory it leaves. -/
module

public import proofs.«01_k».proof.Proof.Fund
public import proofs.«01_k».proof.Proof.Gen.KernelIdeal.Regions
public import Idealize.ShloMosaic.Lib.Quiescent

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The ghost state of the launch: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells dmaCells rights)

/-- A resource held by the first device alone. -/
def parked (X : sProp 𝕄) (c : Dev nD) : sProp 𝕄 := if c = 0 then X else iprop(emp)

/-- What the first device alone holds is all there is. -/
theorem parked_all (X : sProp 𝕄) : bigSep Finset.univ (parked X) = X := by
  have hne : ∀ c ∈ (Finset.univ : Finset (Dev nD)).erase 0, parked X c = (BI.emp : sProp 𝕄) := fun c hc => if_neg (Finset.ne_of_mem_erase hc)
  rw [bigSep_univ_at _ (0 : Dev nD), bigSep_congr hne, BI.bigSep_emp_const, show parked X 0 = X from if_pos rfl]
  exact BI.equiv_iff.mp sep_emp

/-- The protocol's ghost state, until the launch shares it out. -/
def G : Dev nD → sProp 𝕄 := parked (BI.own (ER (launchOf barCells dmaCells rights)))

/-- What every device may look up. -/
def records (I : Ins F) (K : GSem nD τ sig → ℕ) : sProp 𝕄 := iprop(recs I K ∗ bigSep barCells fun g => reached ER g 0)

/-- What every device may look up can be kept. -/
instance records_persistent (I : Ins F) (K : GSem nD τ sig → ℕ) : BI.Persistent (records I K) := by unfold records; infer_instance

/-- A barrier's first round is reached. -/
theorem bar_reached (c : Dev nD) : (bigSep barCells fun g => (reached ER g 0 : sProp 𝕄)) ⊢ reached ER (barCell c) 0 :=
  bigSep_elim (Finset.mem_map.mpr ⟨c, Finset.mem_univ _, rfl⟩)

/-- What rides along the host's operations into the kernel's region. -/
def ride (c : Dev nD) : sProp 𝕄 := iprop(Tk (insOf m) c ∗ (∃ W, owes (c : Thread nD τ) (O₀ c) W) ∗ ∃ r, prngReg c r)

/-- A device's own part of the ghost state. -/
def mine (c : Dev nD) : sProp 𝕄 := iprop(atPos ER (barCell c) 0 ∅ 0
  ∗ (bigSep Finset.univ fun x : Fin 8 × Fin 9 => openTok ER (cell c x.2 x.1)) ∗ outOf c)
/-- The rest of what a device launches with. -/
def rest (c : Dev nD) : sProp 𝕄 := iprop(StableHlo.held (c : Thread nD τ) (Pipeline.ucRefs τ sig) (V0 m c)
  ∗ creds c ∗ owes (c : Thread nD τ) (O₀ c) ∅ ∗ ∃ r, prngReg c r)

/-- What a device starts from. -/
abbrev T₀ (c : Dev nD) : sProp 𝕄 := iprop(StableHlo.held (c : Thread nD τ) (Pipeline.ucRefs τ sig) (V0 m c) ∗ ride m c)
/-- What a device ends with. -/
abbrev Tₙ (c : Dev nD) : sProp 𝕄 := iprop(StableHlo.held (c : Thread nD τ) (Pipeline.ucRefs τ sig) (W4 m c) ∗ semVal (barCell c) 0)

/-- What a device starts from, from its part of the ghost state and of the machine. -/
theorem start_of (K : GSem nD τ sig → ℕ) (c : Dev nD) : iprop(records (insOf m) K ∗ (mine c ∗ rest m c)) ⊢ T₀ m c := by
  unfold T₀ records mine rest ride Tk outOf barToks
  iintro ⟨⟨#HI, #HR⟩, ⟨Hat, Ho, ⟨Hz, Hx, Hy⟩, Ht⟩, Hh, Hc, HO, Hp⟩
  isplitl [Hh]; · iexact Hh
  isplitr [HO Hp]
  · isplitr [Hc]
    · iexists K
      isplitr; · iexact HI
      isplitl [Hat]; · iexact Hat
      isplitl [Ho]; · iexact Ho
      isplitl [Ht]; · iexact Ht
      isplitl [Hz]
      · isplitl [Hz]; · iexact Hz
        iapply (bar_reached (F := F) (pz c)); iexact HR
      isplitl [Hx]
      · isplitl [Hx]; · iexact Hx
        iapply (bar_reached (F := F) (px c)); iexact HR
      isplitl [Hy]; · iexact Hy
      iapply (bar_reached (F := F) (py c)); iexact HR
    iexact Hc
  isplitl [HO]; · iexists ∅; iexact HO
  iexact Hp

/-- The barrier is the one semaphore that outlives the kernel. -/
theorem unscoped_filter : (Finset.univ.filter fun sm : SemLoc sig => ¬ sm.isScoped .tc = true) = {.reg barS} := by decide +kernel
/-- What a device holds of the lasting semaphores is its barrier. -/
theorem unscopedSems_eq (c : Dev nD) : (unscopedSems0 c : sProp 𝕄) = semVal (barCell c) 0 := by
  unfold unscopedSems0
  rw [unscoped_filter, bigSep_singleton]

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c)
      from Pipeline.unscopedBufs_held c (V0 m c), unscopedSems_eq]
  unfold rest
  iintro ⟨Hh, Hus, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- The launch: every device given what it starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) := by
    unfold barCells; rw [bigSep_map]; exact BI.Entails.refl _
  have hat : bigSep barCells (fun g => (atPos ER g 0 ∅ 0 : sProp 𝕄)) ⊢ bigSep Finset.univ (fun c : Dev nD => (atPos ER (barCell c) 0 ∅ 0 : sProp 𝕄)) := by
    unfold barCells; rw [bigSep_map]; exact BI.Entails.refl _
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells dmaCells rights)) from
    Entails.of_eq (parked_all (F := F) (BI.own (ER (launchOf barCells dmaCells rights))))) $$ HG
  imod (Rounds.fund_launch ER (Rd (insOf m)) disjoint_cells (fun g _ h => h) rights) $$ [Hv Hu] with ⟨%κ, -, #Hinv, #Hr, Hat, Hopen, Htok⟩
  · isplitl [Hv]
    · iapply hv $$ Hv
    · iexact Hu
  imodintro
  iapply (bigSep_with_persistent (R := records (insOf m) κ) (Φ := fun c => iprop(mine c ∗ rest m c)) fun c _ => start_of m κ c)
  isplitr
  · unfold records recs
    isplitr; · iexact Hinv
    iexact Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply (Entails.of_eq (opens_by_device (F := F))) $$ Hopen
    iapply (rights_around (F := F))
    iapply (Entails.of_eq (rights_into (F := F))) $$ Htok
  · iexact HB

/-- The windows' arrays are buffers of the device. -/
theorem arr_sub : Pipeline.arrRefs (τ := τ) spec0 ⊆ Pipeline.ucRefs τ sig := by decide +kernel

/-- What the host's operations leave opens the kernel's region. -/
theorem region_enter (c : Dev nD) : iprop(StableHlo.held (c : Thread nD τ) (Pipeline.ucRefs τ sig) (V3 m c) ∗ ride m c) ⊢ (reg m).pre c := by
  rw [StableHlo.held_sub_split (c : Thread nD τ) arr_sub (V3 m c)]
  show _ ⊢ iprop(StableHlo.held (c.tc : Thread nD τ) (Pipeline.arrRefs (τ := τ) (pcfgs (F := F) 0).spec) (V3 m c) ∗ (∃ r, prngReg c r)
    ∗ (StableHlo.held (c.tc : Thread nD τ) restRefs (V3 m c) ∗ emp) ∗ Tk (insOf m) c ∗ ∃ Wd, owes (c.tc : Thread nD τ) (0 + O₀ c) Wd)
  unfold ride
  rw [zero_add]
  iintro ⟨⟨Ha, Hr⟩, Ht, HO, Hp⟩
  isplitl [Ha]; · iexact Ha
  isplitl [Hp]; · iexact Hp
  isplitl [Hr]
  · isplitl [Hr]; · iexact Hr
    iempintro
  isplitl [Ht]; · iexact Ht
  iexact HO

/-- What the kernel's region leaves is what a device ends with. -/
theorem region_leave (c : Dev nD) : (reg m).post c ⊢ (iprop(Tₙ m c ∗ ∃ W, owes (c.tc : Thread nD τ) (0 : CellTallies nD τ sig Unit) W) : sProp 𝕄) := by
  unfold Tₙ
  rw [StableHlo.held_sub_split (c : Thread nD τ) arr_sub (W4 m c)]
  show iprop(StableHlo.held (c.tc : Thread nD τ) (Pipeline.arrRefs (τ := τ) (pcfgs (F := F) 0).spec) (W4 m c) ∗ (∃ r, prngReg c r)
    ∗ (StableHlo.held (c.tc : Thread nD τ) restRefs (W4 m c) ∗ emp) ∗ Yk c ∗ ∃ Wd, owes (c.tc : Thread nD τ) 0 Wd) ⊢ _
  unfold Yk
  iintro ⟨Ha, -, ⟨Hr, -⟩, Hb, HO⟩
  isplitr [HO]
  · isplitr [Hb]
    · isplitl [Ha]; · iexact Ha
      iexact Hr
    iexact Hb
  iexact HO

/-- A lasting semaphore is the barrier. -/
theorem unscoped_eq : ∀ sm : SemLoc sig, sm.isScoped .tc = false → sm = .reg barS := by decide +kernel

/-- What a device's memory and its barrier's counter are in the end. -/
def atEnd (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v10) = outF (insOf m) c)
  ∧ s.sem (barCell c) = 0

/-- The token numbers end unchanged. -/
theorem arg0_kept (c : Dev nD) : W4 m c (Proc.devRef .tc main_arg0) = m ((c.tc : Thread nD τ).loc main_arg0) :=
  (W4_of m c _ (by decide)).trans ((V3_of m c _ (by decide)).trans ((V2_of m c _ (by decide)).trans (V1_of m c _ (by decide))))

/-- What a device ends with says what its buffers hold. -/
theorem last_read (c : Dev nD) (s' : Phys nD τ sig (Elt F)) : iprop(Tₙ m c ∗ SI s') ⊢ (|={Set.univ}=> iprop(⌜atEnd m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (W4 m c) s') $$ [Hh HSI]
  · isplitl [Hh]; · iexact Hh
    iexact HSI
  icases Hr with ⟨%h, HSI⟩
  imodintro
  isplitr
  · ipureintro
    exact ⟨⟨(h (Proc.devRef .tc main_arg0) (Finset.mem_filter.mpr ⟨StableHlo.devRef_mem_tcRefs main_arg0, by decide⟩)).trans (arg0_kept m c),
      (h (Proc.devRef .tc main_arg1) (Finset.mem_filter.mpr ⟨StableHlo.devRef_mem_tcRefs main_arg1, by decide⟩)).trans (W4_arg1 m c),
      (h (Proc.devRef .tc main_v10) (Finset.mem_filter.mpr ⟨StableHlo.devRef_mem_tcRefs main_v10, by decide⟩)).trans (W4_out m c)⟩, by simpa using hb⟩
  · iexact HSI

set_option backward.isDefEq.respectTransparency.types false in
/-- Every execution of the program ends, its arguments unchanged, its result the one computed, every semaphore's counter at zero. -/
theorem run_main : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v10) = outF (insOf m) c) ∧ r.2.sem = fun _ => 0) :=
  Pipeline.θ_run_regions_kit_dev_sems (pcfgs (F := F)) adm (pdats m) () cellOf_inj EP defs₀ 𝒱₀ L lv m ρ main
    (segs m 𝒱₀ L lv (fun _ => ride m) () (pdats m) (reg m))
    (fun c Q => by
      rewrite [main_chain c, Pipeline.Seg.run_eq_chain,
        show (segs m 𝒱₀ L lv (fun _ => ride m) () (pdats m) (reg m) c).map Pipeline.Seg.prog = [
          StableHlo.seq (hostOps0 c), StableHlo.seq hostOps0_1, StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G (u₀ (F := F))
    (by
      unfold u₀ G
      iintro Hu
      ihave H := (ownU_pair _ _) $$ Hu
      icases H with ⟨HP, HX⟩
      imodintro
      isplitl [HP]; · iexact HP
      rw [parked_all]; iexact HX)
    (T₀ m) (Tₙ m)
    (fun c => ⟨.rfl, .rfl, .rfl, region_enter m c, region_leave m c⟩)
    (init m ρ) (fun c s => atEnd m c s) (last_read m)
    (fun s h hs => ⟨fun c => (h c).1, sem_eq_zero hs fun c sm hsm => by
      obtain rfl := unscoped_eq sm hsm
      exact (h c).2⟩)

end Cert.Proof.KI
-- ==== Proof.Value.lean ====
/- The value of the result over the extended reals: a token's row of the table, by the two halves of the table that meet across `z`. -/
module

public import proofs.«01_k».proof.Proof.Host
public import proofs.«01_k».proof.Proof.Gen.Pre_ids_in_range_KernelIdeal
public import proofs.«01_k».proof.Proof.Gen.ReferenceIdeal
public import Idealize.ShloMosaic.PureOps.Ideal.Laws
public import Idealize.ShloMosaic.Lib.ReduceAll
public import Idealize.ShloMosaic.Lib.Routing.Ops

@[expose] public section

noncomputable section

namespace Cert.Proof.KI

open Cert.KernelIdeal Cert.KernelIdeal.Gen
open Idealize.ShloMosaic Idealize.ShloMosaic.TcCoe
open Idealize.SL.Sem
open Idealize.ShloMosaic.ValueIdx

/-! ## Words -/

/-- A word below 16384 reads the same signed. -/
theorem toInt_small {v : BitVec 32} (h : v.toNat < 16384) : v.toInt = v.toNat := by
  have := BitVec.toInt_eq_toNat_cond v
  omega

/-- The kernel computes the first row number that the host computes. -/
theorem lowWord_eq (c : Dev nD) : lowWord c = base c := by revert c; decide
/-- The first row number, read signed. -/
theorem base_toInt (c : Dev nD) : (base c).toInt = 8192 * (c.val % 2 : ℕ) := by revert c; decide
/-- The first row number, read unsigned. -/
theorem base_toNat (c : Dev nD) : (base c).toNat = 8192 * (c.val % 2) := by revert c; decide
/-- The number after a device's last row, read signed. -/
theorem top_toInt (c : Dev nD) : (Scalar.addi (base c) 8192#32).toInt = 8192 * (c.val % 2 : ℕ) + 8192 := by revert c; decide

/-- The mask of a token in range: whether its row lies in a device's half of the table. -/
theorem mask_word (c : Dev nD) {v : BitVec 32} (h : v.toNat < 16384) :
    IntOp.andi (IntOp.cmpi .sge v (base c)) (IntOp.cmpi .slt v (Scalar.addi (base c) 8192#32))
      = BitVec.ofBool (decide (v.toNat / 8192 = c.val % 2)) := by
  have e1 : IntOp.cmpi .sge v (base c) = BitVec.ofBool (decide ((base c).toInt ≤ v.toInt)) := rfl
  have e2 : IntOp.cmpi .slt v (Scalar.addi (base c) 8192#32) = BitVec.ofBool (decide (v.toInt < (Scalar.addi (base c) 8192#32).toInt)) := rfl
  rw [e1, e2, base_toInt, top_toInt, toInt_small h]
  have e3 : ∀ p q : Bool, IntOp.andi (BitVec.ofBool p) (BitVec.ofBool q) = BitVec.ofBool (p && q) := by decide
  rw [e3, ← Bool.decide_and]
  refine congrArg BitVec.ofBool (decide_eq_decide.mpr ?_)
  omega

/-- A token whose row lies in a device's half is clipped to its place there. -/
theorem clip_in (c : Dev nD) {v : BitVec 32} (h : v.toNat < 16384) (hc : v.toNat / 8192 = c.val % 2) : (clip c v).toNat = v.toNat % 8192 := by
  have hw : (v - base c).toNat = v.toNat % 8192 := by
    rw [BitVec.toNat_sub, base_toNat]
    omega
  have hi : (v - base c).toInt = (v.toNat % 8192 : ℕ) := by rw [toInt_small (by omega), hw]
  unfold clip IntOp.minsi IntOp.maxsi
  have h0 : ¬ (v - base c).slt 0#32 = true := by
    rw [BitVec.slt_eq_decide, decide_eq_true_eq, hi]
    have e0 : (0#32).toInt = 0 := by decide
    rw [e0]; omega
  rw [if_neg h0]
  have h1 : ¬ (8191#32).slt (v - base c) = true := by
    rw [BitVec.slt_eq_decide, decide_eq_true_eq, hi]
    have e : (8191#32).toInt = 8191 := by decide
    rw [e]; omega
  rw [if_neg h1, hw]

/-! ## The masked rows -/

/-- A masked row, at an index: the gathered row where the token's mask holds, zero elsewhere. -/
theorem maskRows_apply (w : BitVec 32) (t : Vec Ideal S32x1 .i32) (g : Vec Ideal S4x8x1024 .f32) (a : Fin 32) (b : Fin 1024) :
    maskRows (F := Ideal) w t t g (ix2 a b)
      = Scalar.select (IntOp.andi (IntOp.cmpi .sge (t (ix2 a (0 : Fin 1))) w) (IntOp.cmpi .slt (t (ix2 a (0 : Fin 1))) (Scalar.addi w 8192#32)))
          (g (ix3 (⟨a.val / 8, by omega⟩ : Fin 4) (⟨a.val % 8, by omega⟩ : Fin 8) b)) (0 : EReal) := by
  have hs : ∀ {α : Type} (x : S32x1.Idx → α), shapeCast S32x1 x shapeCasts_S32x1_S32x1 (ix2 a (0 : Fin 1)) = x (ix2 a (0 : Fin 1)) :=
    fun x => shapeCast_apply x _ _ _ rfl
  have hg : shapeCast S32x1024 g shapeCasts_S4x8x1024_S32x1024 (ix2 a b) = g (ix3 (⟨a.val / 8, by omega⟩ : Fin 4) (⟨a.val % 8, by omega⟩ : Fin 8) b) := by
    refine shapeCast_apply g _ _ _ ?_
    rw [Shape.rowMajor_val_two, Shape.rowMajor_val_three]
    show (a.val / 8 * 8 + a.val % 8) * 1024 + b.val = a.val * 1024 + b.val
    omega
  have hb : ∀ x : IVec S32x1 1, broadcastTo S32x1024 x broadcasts_S32x1_S32x1024 (ix2 a b) = x (ix2 a (0 : Fin 1)) := by
    intro x
    refine broadcastTo_apply x _ (ix2 a b) (ix2 a (0 : Fin 1)) fun ax => ?_
    match ax with
    | ⟨0, _⟩ => rfl
    | ⟨1, _⟩ => rfl
  unfold maskRows k0_pay6 k0_pay4 k0_pay5
  refine (shapeCast_apply _ shapeCasts_S32x1024_S32x1024 (ix2 a b) (ix2 a b) rfl).trans ?_
  rw [truncf_apply, select_apply, hb, hs, hg, broadcast_apply]
  show Scalar.select (IntOp.andi (IntOp.cmpi .sge (shapeCast S32x1 t shapeCasts_S32x1_S32x1 (ix2 a (0 : Fin 1))) w)
    (IntOp.cmpi .slt (shapeCast S32x1 t shapeCasts_S32x1_S32x1 (ix2 a (0 : Fin 1))) (Scalar.addi w 8192#32))) _ _ = _
  rw [hs]
  exact congrArg (Scalar.select _ _) Idealize.ShloMosaic.Ideal.ofBits_zero_f32

variable (m : (ℓ : Loc nD τ sig) → Buf (Elt Ideal) ℓ)

/-- The token in row `a` of a chunk. -/
abbrev tokAt (c : Dev nD) (k : Fin 8) (a : Fin 32) : S1024.Idx :=
  ix1 (⟨256 * (qOf c).val + 32 * k.val + a.val, by have := (qOf c).isLt; omega⟩ : Fin 1024)

/-- A chunk's token number, at a row. -/
theorem tokChunk_apply (c : Dev nD) (k : Fin 8) (a : Fin 32) :
    tokChunk (insOf m) c k (ix2 a (0 : Fin 1)) = idsIn m c (tokAt c k a) := by
  refine congrArg (idsIn m c) ?_
  refine congrArg ix1 (Fin.ext ?_)
  show k0_off49 c (BitVec.ofNat 32 (32 * k.val)) 0 + 1 * a.val = 256 * (qOf c).val + 32 * k.val + a.val
  rw [off49_eq]; simp

/-- A chunk's gathered row, at an index: the table's row of the clipped token number. -/
theorem gathChunk_apply (c : Dev nD) (k : Fin 8) (a : Fin 32) (b : Fin 1024) :
    gathChunk (insOf m) c k (ix3 (⟨a.val / 8, by omega⟩ : Fin 4) (⟨a.val % 8, by omega⟩ : Fin 8) b)
      = (insOf m).emb c (ix2 (⟨(clip c (idsIn m c (tokAt c k a))).toNat % 8192, Nat.mod_lt _ (by decide)⟩ : Fin 8192) b) := by
  show gathF (insOf m) c _ = _
  unfold gathF
  refine congrArg ((insOf m).emb c) ?_
  refine congrArg₂ ix2 (Fin.ext ?_) (Fin.ext (by show 0 + 1 * b.val = b.val; omega))
  refine congrArg (fun i : Fin 1024 => (clip c (idsIn m c (ix1 i))).toNat % 8192) (Fin.ext ?_)
  show 256 * (qOf c).val + 8 * (4 * k.val + 1 * (a.val / 8)) + (0 + 1 * (a.val % 8)) = 256 * (qOf c).val + 32 * k.val + a.val
  omega

/-- A masked row of a chunk: the token's row of the device's half of the table, or zero where the other half holds it. -/
theorem partChunk_apply (c : Dev nD) (k : Fin 8) (a : Fin 32) (b : Fin 1024) (h : (idsIn m c (tokAt c k a)).toNat < 16384) :
    partChunk (insOf m) c k (ix2 a b)
      = if (idsIn m c (tokAt c k a)).toNat / 8192 = c.val % 2
        then (insOf m).emb c (ix2 (⟨(idsIn m c (tokAt c k a)).toNat % 8192, Nat.mod_lt _ (by decide)⟩ : Fin 8192) b) else (0 : EReal) := by
  unfold partChunk
  rw [maskRows_apply, tokChunk_apply, gathChunk_apply, lowWord_eq, mask_word c h]
  by_cases hc : (idsIn m c (tokAt c k a)).toNat / 8192 = c.val % 2
  · rw [if_pos hc, decide_eq_true hc]
    refine (if_pos rfl).trans ?_
    refine congrArg ((insOf m).emb c) (congrArg (fun i : Fin 8192 => ix2 i b) (Fin.ext ?_))
    show (clip c _).toNat % 8192 = (idsIn m c (tokAt c k a)).toNat % 8192
    rw [clip_in c h hc]; omega
  · rw [if_neg hc, decide_eq_false hc]
    exact if_neg (by decide)

/-! ## The result -/

/-- The neighbour across `z` owns the same quarter. -/
theorem qOf_pz (c : Dev nD) : qOf (pz c) = qOf c := by revert c; decide
/-- The neighbour across `z` holds the other half of the table. -/
theorem pz_half (c : Dev nD) : (pz c).val % 2 = 1 - c.val % 2 := by revert c; decide
/-- The device of a quarter owns that quarter. -/
theorem qOf_mate (c : Dev nD) (q : Fin 4) : qOf (mate c q) = q := by revert c q; decide

/-- With the token numbers the same everywhere and in range, and each device holding its half of the table `E`,
    the result is at every index the token's row of `E`. -/
theorem outF_eq (ids : S1024.Idx → BitVec 32) (E : (⟨2, ![16384, 1024]⟩ : Shape).Idx → EReal)
    (hids : ∀ c, idsIn m c = ids) (hlt : ∀ i, (ids i).toNat < 16384)
    (hE : ∀ (c : Dev nD) (r : Fin 8192) (b : Fin 1024), (insOf m).emb c (ix2 r b)
      = E (ix2 (⟨8192 * (c.val % 2) + r.val, by omega⟩ : Fin 16384) b))
    (c : Dev nD) (i : Fin 1024) (b : Fin 1024) :
    outF (insOf m) c (ix2 i b) = E (ix2 (⟨(ids (ix1 i)).toNat, hlt _⟩ : Fin 16384) b) := by
  obtain ⟨d, hd⟩ : ∃ d : Dev nD, d = mate c ⟨i.val / 256, by omega⟩ := ⟨_, rfl⟩
  have hq : (qOf d).val = i.val / 256 := by rw [hd, qOf_mate]
  have hk : i.val % 256 / 32 < 8 := by omega
  have ha : i.val % 32 < 32 := by omega
  have e : outF (insOf m) c (ix2 i b) = (partChunk (insOf m) d ⟨i.val % 256 / 32, hk⟩ (ix2 (⟨i.val % 32, ha⟩ : Fin 32) b) : EReal)
      + partChunk (insOf m) (pz d) ⟨i.val % 256 / 32, hk⟩ (ix2 (⟨i.val % 32, ha⟩ : Fin 32) b) := by rw [hd]; rfl
  have hi : ∀ d' : Dev nD, (qOf d').val = i.val / 256 → tokAt d' ⟨i.val % 256 / 32, hk⟩ ⟨i.val % 32, ha⟩ = ix1 i := by
    intro d' h'
    refine congrArg ix1 (Fin.ext ?_)
    show 256 * (qOf d').val + 32 * (i.val % 256 / 32) + i.val % 32 = i.val
    omega
  have hq' : (qOf (pz d)).val = i.val / 256 := by rw [qOf_pz, hq]
  have hv := hlt (ix1 i)
  have hh := pz_half d
  rw [e, partChunk_apply m d _ _ b (by rw [hids]; exact hlt _), partChunk_apply m (pz d) _ _ b (by rw [hids]; exact hlt _),
    hids, hids, hi d hq, hi (pz d) hq', hE, hE]
  by_cases hc : (ids (ix1 i)).toNat / 8192 = d.val % 2
  · rw [if_pos hc, if_neg (by omega), add_zero]
    refine congrArg E (congrArg (fun x : Fin 16384 => ix2 x b) (Fin.ext ?_))
    show 8192 * (d.val % 2) + (ids (ix1 i)).toNat % 8192 = (ids (ix1 i)).toNat
    omega
  · rw [if_neg hc, if_pos (by omega), zero_add]
    refine congrArg E (congrArg (fun x : Fin 16384 => ix2 x b) (Fin.ext ?_))
    show 8192 * ((pz d).val % 2) + (ids (ix1 i)).toNat % 8192 = (ids (ix1 i)).toNat
    omega

/-! ## The precondition, the blocks of the table, the reference -/

/-- The precondition, read: every token number lies in the table. -/
theorem pre_lt {ids : IVec S1024 32} {E : FVec Ideal S8192x1024 .f32}
    (h : Cert.Pre_ids_in_range_KernelIdeal.fn (F := Ideal) ids E = fun _ => 1#1) (i : S1024.Idx) : (ids i).toNat < 16384 := by
  have h0 := congrFun h (fun a => a.elim0)
  haveI : Subsingleton Cert.Pre_ids_in_range_KernelIdeal.S_.Idx := ⟨fun _ _ => funext fun a => a.elim0⟩
  have h1 := Host.reduce_andi_all _ _ _ _ _ h0 i
  have e : ∀ p q : Bool, IntOp.andi (BitVec.ofBool p) (BitVec.ofBool q) = 1#1 → p = true ∧ q = true := by decide
  obtain ⟨hp, hq⟩ := e (decide ((0#32).toInt ≤ (ids i).toInt)) (decide ((ids i).toInt < (16384#32).toInt)) h1
  rw [decide_eq_true_eq] at hp hq
  have e0 : (0#32).toInt = 0 := by decide
  have e1 : (16384#32).toInt = 16384 := by decide
  rw [e0] at hp
  rw [e1] at hq
  have := BitVec.toInt_eq_toNat_cond (ids i)
  have := (ids i).isLt
  omega

/-- A device's block of the table, along the rows, is its half. -/
theorem mesh_half (c : Dev nD) : ((Layout.meshBlock [2, 2, 2] ![[2], []] c) 0).val = c.val % 2 := by revert c; decide
/-- The table is not cut along its columns. -/
theorem mesh_cols (c : Dev nD) : ((Layout.meshBlock [2, 2, 2] ![[2], []] c) 1).val = 0 := by revert c; decide

/-- A device's block of the table holds the rows of its half. -/
theorem block_apply {α : Type} (E : (⟨2, ![16384, 1024]⟩ : Shape).Idx → α) (c : Dev nD) (r : Fin 8192) (b : Fin 1024) :
    Layout.blockN ⟨2, ![8192, 1024]⟩ ⟨2, ![16384, 1024]⟩ (Layout.meshBlock [2, 2, 2] ![[2], []] c) E (by decide) (ix2 r b)
      = E (ix2 (⟨8192 * (c.val % 2) + r.val, by omega⟩ : Fin 16384) b) := by
  rw [Layout.blockN_apply]
  refine congrArg E (funext fun a => Fin.ext ?_)
  rw [Layout.TilesN.idx_val]
  match a with
  | ⟨0, _⟩ =>
    show ((Layout.meshBlock [2, 2, 2] ![[2], []] c) 0).val * 8192 + r.val = 8192 * (c.val % 2) + r.val
    rw [mesh_half]; omega
  | ⟨1, _⟩ =>
    show ((Layout.meshBlock [2, 2, 2] ![[2], []] c) 1).val * 1024 + b.val = b.val
    rw [mesh_cols]; omega

/-- The reference's result at an index, with the token numbers in range: the token's row of the table. -/
theorem ref_apply (ids : IVec Cert.ReferenceIdeal.S1024 32) (E : FVec Ideal Cert.ReferenceIdeal.S16384x1024 .f32) (hlt : ∀ i, (ids i).toNat < 16384)
    (i : Fin 1024) (b : Fin 1024) :
    truncf (F := Ideal) .bf16 (Host.gather Cert.ReferenceIdeal.gather_S16384x1024_S1024x1_S1024x1024_1_0_n_n_0_1_11024 E
      (broadcastInDim Cert.ReferenceIdeal.S1024x1 ![0] Cert.ReferenceIdeal.Facts₀.bcast_S1024_S1024x1_0
        (select (cmpi .slt ids (broadcastInDim Cert.ReferenceIdeal.S1024 ![] Cert.ReferenceIdeal.Facts₀.bcast_S_S1024 (constantI Cert.ReferenceIdeal.S_ 32 0#32)))
          (addi ids (broadcastInDim Cert.ReferenceIdeal.S1024 ![] Cert.ReferenceIdeal.Facts₀.bcast_S_S1024 (constantI Cert.ReferenceIdeal.S_ 32 16384#32))) ids)))
      Cert.ReferenceIdeal.Facts₀.bitsLt_bf16_f32 (ix2 i b)
      = E (ix2 (⟨(ids (ix1 i)).toNat, hlt _⟩ : Fin 16384) b) := by
  rw [truncf_apply]
  refine Routing.gather_row (nb := 16384) (B := 1024) (n := 1024) Cert.ReferenceIdeal.gather_S16384x1024_S1024x1_S1024x1024_1_0_n_n_0_1_11024
    rfl rfl rfl rfl rfl E _ i b ⟨(ids (ix1 i)).toNat, hlt _⟩ ?_ (by decide)
  have hneg : IntOp.cmpi .slt (ids (ix1 i)) 0#32 = 0#1 := by
    have e : IntOp.cmpi .slt (ids (ix1 i)) 0#32 = BitVec.ofBool (decide ((ids (ix1 i)).toInt < (0#32).toInt)) := rfl
    have e0 : (0#32).toInt = 0 := by decide
    rw [e, toInt_small (hlt _), e0, decide_eq_false (by omega)]; rfl
  have hsel : Scalar.select (IntOp.cmpi .slt (ids (ix1 i)) 0#32) (IntOp.addi (ids (ix1 i)) 16384#32) (ids (ix1 i)) = ids (ix1 i) := by
    rw [hneg]; exact if_neg (by decide)
  refine Eq.trans ?_ (hsel.trans (by rw [BitVec.ofNat_toNat, BitVec.setWidth_eq]))
  have hx : ∀ {α : Type} (x : Cert.ReferenceIdeal.S1024.Idx → α),
      broadcastInDim Cert.ReferenceIdeal.S1024x1 ![0] Cert.ReferenceIdeal.Facts₀.bcast_S1024_S1024x1_0 x (ix2 i (0 : Fin 1)) = x (ix1 i) := by
    intro α x
    refine congrArg x (funext fun a => Fin.ext ?_)
    obtain rfl : a = 0 := Subsingleton.elim _ _
    rfl
  rw [hx]
  rfl

end Cert.Proof.KI
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range_KernelIdeal
public import proofs.«01_k».proof.Proof.Gen.Pre_ids_in_range_ReferenceIdeal
public import proofs.«01_k».proof.Proof.Launch
public import proofs.«01_k».proof.Proof.Value

@[expose] public section

noncomputable section

namespace Cert.Proof

open Idealize.ShloMosaic Idealize.ShloMosaic.TcCoe
open Idealize.ShloMosaic.ValueIdx
open Idealize.SL.Sem

set_option maxHeartbeats 4000000 in
/-- The two printed programs have the same kernel bodies. -/
theorem bodies_eq : Kernel.defs₀ (F := Bits) = KernelIdeal.defs₀ (F := Bits) := by
  unfold Kernel.defs₀ KernelIdeal.defs₀
  refine congrArg Defs.onTc ?_
  funext l a
  match l, a with
  | ⟨0, _⟩, (t, s) => exact rfl

set_option maxHeartbeats 4000000 in
/-- The two printed programs have the same table of bodies. -/
theorem defs_eq : Kernel.defs (F := Bits) = KernelIdeal.defs (F := Bits) := by
  unfold Kernel.defs KernelIdeal.defs
  exact congrArg (Pipeline.defs KernelIdeal.pcfgs) bodies_eq

set_option maxHeartbeats 4000000 in
/-- The two printed programs have the same host code. -/
theorem main_eq : Kernel.main (F := Bits) = KernelIdeal.main (F := Bits) := id rfl

set_option maxHeartbeats 4000000 in
/-- The kernel over machine floats runs, keeps its arguments and ends with every counter at zero. -/
theorem frame_kernel : Cert.quiescent_Kernel := by
  intro m ρ _
  rw [defs_eq, main_eq]
  exact (θ_run Cert.KernelIdeal.defs _ _).mono (fun _ h => ⟨fun c => ⟨(h.1 c).1, (h.1 c).2.1⟩, h.2⟩) (KI.run_main (F := Bits) m ρ)

/-- The kernel over the extended reals runs, keeps its arguments and ends with every counter at zero. -/
theorem frame_ideal : Cert.quiescent_KernelIdeal := fun m ρ _ =>
  (θ_run Cert.KernelIdeal.defs _ _).mono (fun _ h => ⟨fun c => ⟨(h.1 c).1, (h.1 c).2.1⟩, h.2⟩) (KI.run_main (F := Ideal) m ρ)

/-- The same under the precondition of the value claim. -/
theorem frame_ideal_pre : Cert.quiescent_KernelIdeal_pre_ids_in_range_KernelIdeal := fun m ρ _ =>
  (θ_run Cert.KernelIdeal.defs _ _).mono (fun _ h => ⟨fun c => ⟨(h.1 c).1, (h.1 c).2.1⟩, h.2⟩) (KI.run_main (F := Ideal) m ρ)

/-- The reference runs and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition of the value claim. -/
theorem frame_reference_pre : Cert.quiescent_ReferenceIdeal_pre_ids_in_range_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With every token number in the table, the kernel leaves on every device the array the reference leaves. -/
theorem value : Cert.algebraic_KernelIdeal_ReferenceIdeal_pre_ids_in_range_KernelIdeal := by
  intro m ρ m' ρ' hpre hin
  have hids : ∀ c, KI.idsIn m c = m' (((0 : Dev Cert.ReferenceIdeal.nD).tc : Thread Cert.ReferenceIdeal.nD Cert.ReferenceIdeal.τ).loc Cert.ReferenceIdeal.main_arg0) :=
    fun c => (hin c).1
  have hlt : ∀ i : Cert.KernelIdeal.S1024.Idx, (KI.idsIn m 0 i).toNat < 16384 := fun i => KI.pre_lt (hpre 0) i
  have hE : ∀ (c : Dev Cert.KernelIdeal.nD) (r : Fin 8192) (b : Fin 1024), (KI.insOf m).emb c (ix2 r b)
      = m' (((0 : Dev Cert.ReferenceIdeal.nD).tc : Thread Cert.ReferenceIdeal.nD Cert.ReferenceIdeal.τ).loc Cert.ReferenceIdeal.main_arg1)
        (ix2 (⟨8192 * (c.val % 2) + r.val, by omega⟩ : Fin 16384) b) :=
    fun c r b => (congrFun (hin c).2 (ix2 r b)).trans (KI.block_apply _ c r b)
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨(h.1 c).2.2.trans ?_, (h.1 c).1, (h.1 c).2.1⟩) (KI.run_main (F := Ideal) m ρ)
  funext i
  obtain ⟨a, b, rfl⟩ : ∃ (a : Fin 1024) (b : Fin 1024), i = ix2 a b := ⟨⟨(i 0).val, (i 0).isLt⟩, ⟨(i 1).val, (i 1).isLt⟩, eq_ix2 i⟩
  refine (KI.outF_eq m (KI.idsIn m 0) _ (fun c => (hids c).trans (hids 0).symm) hlt hE c a b).trans ?_
  rw [← hids 0]
  exact (KI.ref_apply (KI.idsIn m 0) _ hlt a b).symm

/-- Every claim. -/
theorem claim : Cert.Claim :=
  ⟨Cert.Kernel.Gen.facts, Cert.KernelIdeal.Gen.facts, Cert.ReferenceIdeal.Gen.facts, Cert.Pre_ids_in_range_KernelIdeal.Gen.facts,
    Cert.Pre_ids_in_range_ReferenceIdeal.Gen.facts, frame_kernel, frame_ideal, frame_ideal_pre, frame_reference, frame_reference_pre, trivial, value⟩

end Cert.Proof

end
